-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v41)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v393) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_scores_finite.lean ====
abbrev S16384x3584 : Shape := ⟨2, ![16384, 3584]⟩
abbrev S4x15x31 : Shape := ⟨3, ![4, 15, 31]⟩
abbrev S16384x512 : Shape := ⟨2, ![16384, 512]⟩
abbrev S_ : Shape := ⟨0, ![]⟩

class Facts : Prop where
  slices_S16384x3584_S16384x512_0_2304 : S16384x3584.Slices ![0, 2304] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x15x31 : S_.BroadcastsInDim S4x15x31 (![] : Fin 0 → Fin S4x15x31.rank)
  reducesTo_S4x15x31_S_d0_1_2 : S4x15x31.ReducesTo [0, 1, 2] S_

variable [Facts]

def fn {F : FTy → Type} [FloatOps F] (main_arg0 : FVec F S16384x3584 .f32) (main_arg1 : FVec F S4x15x31 .f32) : IVec S_ 1 :=
  let main_v0 : FVec F S16384x512 .f32 := (extractStridedSlice S16384x512 ![0, 2304] · slices_S16384x3584_S16384x512_0_2304) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S4x15x31 .f32 := Host.absf main_arg1
  let main_cst_0 : FVec F S_ .f32 := constant S_ .f32 0x7F800000#32
  let main_v6 : FVec F S4x15x31 .f32 := broadcastInDim S4x15x31 ![] bcast_S_S4x15x31 main_cst_0
  let main_v7 : IVec S4x15x31 1 := cmpf .olt main_v5 main_v6
  let main_c_1 : IVec S_ 1 := constantI S_ 1 1#1
  let main_v8 : IVec S_ 1 := (fun x v => Host.reduce IntOp.andi x v reducesTo_S4x15x31_S_d0_1_2 h_S_) main_v7 main_c_1
  let main_v9 : IVec S_ 1 := andi main_v4 main_v8
  main_v9
-- ==== Kernel.lean ====
abbrev S16384x3584 : Shape := ⟨2, ![16384, 3584]⟩
abbrev S4x15x31 : Shape := ⟨3, ![4, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S4x15x64x64 : Shape := ⟨4, ![4, 15, 64, 64]⟩
abbrev S1x1x64x64 : Shape := ⟨4, ![1, 1, 64, 64]⟩
abbrev S4x8x64x64 : Shape := ⟨4, ![4, 8, 64, 64]⟩
abbrev S1x4x8x64x64 : Shape := ⟨5, ![1, 4, 8, 64, 64]⟩
abbrev S8x4x8x64x64 : Shape := ⟨5, ![8, 4, 8, 64, 64]⟩
abbrev S8x4x64x8x64 : Shape := ⟨5, ![8, 4, 64, 8, 64]⟩
abbrev S8x256x512 : Shape := ⟨3, ![8, 256, 512]⟩
abbrev S16384x256 : Shape := ⟨2, ![16384, 256]⟩
abbrev S512x256 : Shape := ⟨2, ![512, 256]⟩
abbrev S2048x256 : Shape := ⟨2, ![2048, 256]⟩
abbrev S1x256 : Shape := ⟨2, ![1, 256]⟩
abbrev S64x256 : Shape := ⟨2, ![64, 256]⟩
abbrev S256x256 : Shape := ⟨2, ![256, 256]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 88
  | .vmem => 9
  | .smem => 0
  | _ => 0

abbrev bufTy : (tb : Table) → Fin (tcTables nBuf tb) → BufTy
  | .hbm, ⟨0, _⟩ => ⟨S16384x3584, .f32⟩
  | .hbm, ⟨1, _⟩ => ⟨S4x15x31, .f32⟩
  | .hbm, ⟨2, _⟩ => ⟨S64, .i32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S1x64x64, .i32⟩
  | .hbm, ⟨49, _⟩ => ⟨S31, .i32⟩
  | .hbm, ⟨50, _⟩ => ⟨S31x1x1, .i32⟩
  | .hbm, ⟨51, _⟩ => ⟨S31x64x64, .i32⟩
  | .hbm, ⟨52, _⟩ => ⟨S31x64x64, .i32⟩
  | .hbm, ⟨53, _⟩ => ⟨S31x64x64, .i1⟩
  | .hbm, ⟨54, _⟩ => ⟨S1x64x64, .i1⟩
  | .hbm, ⟨55, _⟩ => ⟨S31x64x64, .i1⟩
  | .hbm, ⟨56, _⟩ => ⟨S31x64x64, .i1⟩
  | .hbm, ⟨57, _⟩ => ⟨S31x64x64, .f32⟩
  | .hbm, ⟨58, _⟩ => ⟨S_, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S4x15x64x64, .f32⟩
  | .hbm, ⟨65, _⟩ => ⟨S1x1x64x64, .f32⟩
  | .hbm, ⟨66, _⟩ => ⟨S4x15x64x64, .f32⟩
  | .hbm, ⟨67, _⟩ => ⟨S4x15x64x64, .f32⟩
  | .hbm, ⟨68, _⟩ => ⟨S4x8x64x64, .f32⟩
  | .hbm, ⟨69, _⟩ => ⟨S4x8x64x64, .f32⟩
  | .hbm, ⟨70, _⟩ => ⟨S4x8x64x64, .f32⟩
  | .hbm, ⟨71, _⟩ => ⟨S4x8x64x64, .f32⟩
  | .hbm, ⟨72, _⟩ => ⟨S4x8x64x64, .f32⟩
  | .hbm, ⟨73, _⟩ => ⟨S4x8x64x64, .f32⟩
  | .hbm, ⟨74, _⟩ => ⟨S4x8x64x64, .f32⟩
  | .hbm, ⟨75, _⟩ => ⟨S4x8x64x64, .f32⟩
  | .hbm, ⟨76, _⟩ => ⟨S1x4x8x64x64, .f32⟩
  | .hbm, ⟨77, _⟩ => ⟨S1x4x8x64x64, .f32⟩
  | .hbm, ⟨78, _⟩ => ⟨S1x4x8x64x64, .f32⟩
  | .hbm, ⟨79, _⟩ => ⟨S1x4x8x64x64, .f32⟩
  | .hbm, ⟨80, _⟩ => ⟨S1x4x8x64x64, .f32⟩
  | .hbm, ⟨81, _⟩ => ⟨S1x4x8x64x64, .f32⟩
  | .hbm, ⟨82, _⟩ => ⟨S1x4x8x64x64, .f32⟩
  | .hbm, ⟨83, _⟩ => ⟨S1x4x8x64x64, .f32⟩
  | .hbm, ⟨84, _⟩ => ⟨S8x4x8x64x64, .f32⟩
  | .hbm, ⟨85, _⟩ => ⟨S8x4x64x8x64, .f32⟩
  | .hbm, ⟨86, _⟩ => ⟨S8x256x512, .f32⟩
  | .hbm, ⟨87, _⟩ => ⟨S16384x256, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256x512, .f32⟩
  | .local _ .vmem, ⟨7, _⟩ => ⟨S512x256, .f32⟩
  | .local _ .vmem, ⟨8, _⟩ => ⟨S512x256, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c24_i32 : BitVec 32 := 24#32
  let c0_i32_12 : BitVec 32 := 0#32
  let arg1 : BitVec 32 := BitVec.ofNat 32 (i 1).val
  let c8_i32 : BitVec 32 := 8#32
  let v32 : BitVec 32 := Scalar.muli arg1 c8_i32
  let c0_i32_3 : BitVec 32 := 0#32
  let v33 : BitVec 32 := Scalar.addi v32 c0_i32_3
  let c4_i32_11 : BitVec 32 := 4#32
  let v48 : BitVec 32 := Scalar.subi v33 c4_i32_11
  let v49 : BitVec 32 := Scalar.maxsi c0_i32_12 v48
  let v50 : BitVec 32 := Scalar.minsi c24_i32 v49
  let c64_i32_34 : BitVec 32 := 64#32
  let v72 : BitVec 32 := Scalar.muli v50 c64_i32_34
  v72
def k0_mult2 (i : grid0.Coords) : BitVec 32 :=
  let c24_i32_15 : BitVec 32 := 24#32
  let c0_i32_14 : BitVec 32 := 0#32
  let arg1 : BitVec 32 := BitVec.ofNat 32 (i 1).val
  let c8_i32_4 : BitVec 32 := 8#32
  let v34 : BitVec 32 := Scalar.muli arg1 c8_i32_4
  let c1_i32 : BitVec 32 := 1#32
  let v35 : BitVec 32 := Scalar.addi v34 c1_i32
  let c4_i32_13 : BitVec 32 := 4#32
  let v51 : BitVec 32 := Scalar.subi v35 c4_i32_13
  let v52 : BitVec 32 := Scalar.maxsi c0_i32_14 v51
  let v53 : BitVec 32 := Scalar.minsi c24_i32_15 v52
  let c64_i32_35 : BitVec 32 := 64#32
  let v74 : BitVec 32 := Scalar.muli v53 c64_i32_35
  v74
def k0_mult3 (i : grid0.Coords) : BitVec 32 :=
  let c24_i32_18 : BitVec 32 := 24#32
  let c0_i32_17 : BitVec 32 := 0#32
  let arg1 : BitVec 32 := BitVec.ofNat 32 (i 1).val
  let c8_i32_5 : BitVec 32 := 8#32
  let v36 : BitVec 32 := Scalar.muli arg1 c8_i32_5
  let c2_i32 : BitVec 32 := 2#32
  let v37 : BitVec 32 := Scalar.addi v36 c2_i32
  let c4_i32_16 : BitVec 32 := 4#32
  let v54 : BitVec 32 := Scalar.subi v37 c4_i32_16
  let v55 : BitVec 32 := Scalar.maxsi c0_i32_17 v54
  let v56 : BitVec 32 := Scalar.minsi c24_i32_18 v55
  let c64_i32_36 : BitVec 32 := 64#32
  let v76 : BitVec 32 := Scalar.muli v56 c64_i32_36
  v76
def k0_mult4 (i : grid0.Coords) : BitVec 32 :=
  let c24_i32_21 : BitVec 32 := 24#32
  let c0_i32_20 : BitVec 32 := 0#32
  let arg1 : BitVec 32 := BitVec.ofNat 32 (i 1).val
  let c8_i32_6 : BitVec 32 := 8#32
  let v38 : BitVec 32 := Scalar.muli arg1 c8_i32_6
  let c3_i32 : BitVec 32 := 3#32
  let v39 : BitVec 32 := Scalar.addi v38 c3_i32
  let c4_i32_19 : BitVec 32 := 4#32
  let v57 : BitVec 32 := Scalar.subi v39 c4_i32_19
  let v58 : BitVec 32 := Scalar.maxsi c0_i32_20 v57
  let v59 : BitVec 32 := Scalar.minsi c24_i32_21 v58
  let c64_i32_37 : BitVec 32 := 64#32
  let v78 : BitVec 32 := Scalar.muli v59 c64_i32_37
  v78
def k0_mult5 (i : grid0.Coords) : BitVec 32 :=
  let c24_i32_24 : BitVec 32 := 24#32
  let c0_i32_23 : BitVec 32 := 0#32
  let arg1 : BitVec 32 := BitVec.ofNat 32 (i 1).val
  let c8_i32_7 : BitVec 32 := 8#32
  let v40 : BitVec 32 := Scalar.muli arg1 c8_i32_7
  let c4_i32 : BitVec 32 := 4#32
  let v41 : BitVec 32 := Scalar.addi v40 c4_i32
  let c4_i32_22 : BitVec 32 := 4#32
  let v60 : BitVec 32 := Scalar.subi v41 c4_i32_22
  let v61 : BitVec 32 := Scalar.maxsi c0_i32_23 v60
  let v62 : BitVec 32 := Scalar.minsi c24_i32_24 v61
  let c64_i32_38 : BitVec 32 := 64#32
  let v80 : BitVec 32 := Scalar.muli v62 c64_i32_38
  v80
def k0_mult6 (i : grid0.Coords) : BitVec 32 :=
  let c24_i32_27 : BitVec 32 := 24#32
  let c0_i32_26 : BitVec 32 := 0#32
  let arg1 : BitVec 32 := BitVec.ofNat 32 (i 1).val
  let c8_i32_8 : BitVec 32 := 8#32
  let v42 : BitVec 32 := Scalar.muli arg1 c8_i32_8
  let c5_i32 : BitVec 32 := 5#32
  let v43 : BitVec 32 := Scalar.addi v42 c5_i32
  let c4_i32_25 : BitVec 32 := 4#32
  let v63 : BitVec 32 := Scalar.subi v43 c4_i32_25
  let v64 : BitVec 32 := Scalar.maxsi c0_i32_26 v63
  let v65 : BitVec 32 := Scalar.minsi c24_i32_27 v64
  let c64_i32_39 : BitVec 32 := 64#32
  let v82 : BitVec 32 := Scalar.muli v65 c64_i32_39
  v82
def k0_mult7 (i : grid0.Coords) : BitVec 32 :=
  let c24_i32_30 : BitVec 32 := 24#32
  let c0_i32_29 : BitVec 32 := 0#32
  let arg1 : BitVec 32 := BitVec.ofNat 32 (i 1).val
  let c8_i32_9 : BitVec 32 := 8#32
  let v44 : BitVec 32 := Scalar.muli arg1 c8_i32_9
  let c6_i32 : BitVec 32 := 6#32
  let v45 : BitVec 32 := Scalar.addi v44 c6_i32
  let c4_i32_28 : BitVec 32 := 4#32
  let v66 : BitVec 32 := Scalar.subi v45 c4_i32_28
  let v67 : BitVec 32 := Scalar.maxsi c0_i32_29 v66
  let v68 : BitVec 32 := Scalar.minsi c24_i32_30 v67
  let c64_i32_40 : BitVec 32 := 64#32
  let v84 : BitVec 32 := Scalar.muli v68 c64_i32_40
  v84
def k0_mult8 (i : grid0.Coords) : BitVec 32 :=
  let c24_i32_33 : BitVec 32 := 24#32
  let c0_i32_32 : BitVec 32 := 0#32
  let arg1 : BitVec 32 := BitVec.ofNat 32 (i 1).val
  let c8_i32_10 : BitVec 32 := 8#32
  let v46 : BitVec 32 := Scalar.muli arg1 c8_i32_10
  let c7_i32 : BitVec 32 := 7#32
  let v47 : BitVec 32 := Scalar.addi v46 c7_i32
  let c4_i32_31 : BitVec 32 := 4#32
  let v69 : BitVec 32 := Scalar.subi v47 c4_i32_31
  let v70 : BitVec 32 := Scalar.maxsi c0_i32_32 v69
  let v71 : BitVec 32 := Scalar.minsi c24_i32_33 v70
  let c64_i32_41 : BitVec 32 := 64#32
  let v86 : BitVec 32 := Scalar.muli v71 c64_i32_41
  v86
def k0_off1 (i : grid0.Coords) (c0_i32_3 : BitVec 32) : Fin 2 → Nat :=
  let c24_i32 : BitVec 32 := 24#32
  let c0_i32_12 : BitVec 32 := 0#32
  let arg1 : BitVec 32 := BitVec.ofNat 32 (i 1).val
  let c8_i32 : BitVec 32 := 8#32
  let v32 : BitVec 32 := Scalar.muli arg1 c8_i32
  let v33 : BitVec 32 := Scalar.addi v32 c0_i32_3
  let c4_i32_11 : BitVec 32 := 4#32
  let v48 : BitVec 32 := Scalar.subi v33 c4_i32_11
  let v49 : BitVec 32 := Scalar.maxsi c0_i32_12 v48
  let v50 : BitVec 32 := Scalar.minsi c24_i32 v49
  let c64_i32_34 : BitVec 32 := 64#32
  let v72 : BitVec 32 := Scalar.muli v50 c64_i32_34
  let v73 : BitVec 32 := v72
  let v88 : Index := Scalar.indexCast v73
  let c0 : Index := 0#32
  ![v88.toNat, 0]
def k0_off2 (i : grid0.Coords) (c0_i32_3 : BitVec 32) : Fin 3 → Nat :=
  let c24_i32 : BitVec 32 := 24#32
  let c0_i32_12 : BitVec 32 := 0#32
  let arg1 : BitVec 32 := BitVec.ofNat 32 (i 1).val
  let c8_i32 : BitVec 32 := 8#32
  let v32 : BitVec 32 := Scalar.muli arg1 c8_i32
  let v33 : BitVec 32 := Scalar.addi v32 c0_i32_3
  let c4_i32_11 : BitVec 32 := 4#32
  let v48 : BitVec 32 := Scalar.subi v33 c4_i32_11
  let v49 : BitVec 32 := Scalar.maxsi c0_i32_12 v48
  let v50 : BitVec 32 := Scalar.minsi c24_i32 v49
  let v241 : BitVec 32 := Scalar.subi v50 v33
  let c8_i32_74 : BitVec 32 := 8#32
  let v242 : BitVec 32 := Scalar.addi v241 c8_i32_74
  let c1_i32_75 : BitVec 32 := 1#32
  let v243 : BitVec 32 := Scalar.subi v242 c1_i32_75
  let v244 : Index := Scalar.indexCast v243
  let c0_76 : Index := 0#32
  let c0_77 : Index := 0#32
  ![v244.toNat, 0, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, c11_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x3584 : Shape := ⟨2, ![16384, 3584]⟩
abbrev S4x15x31 : Shape := ⟨3, ![4, 15, 31]⟩
abbrev S16384x256 : Shape := ⟨2, ![16384, 256]⟩
abbrev S8x2048x256 : Shape := ⟨3, ![8, 2048, 256]⟩
abbrev S8x32x64x4x64 : Shape := ⟨5, ![8, 32, 64, 4, 64]⟩
abbrev S8x4x32x64x64 : Shape := ⟨5, ![8, 4, 32, 64, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S32x1x8x1 : Shape := ⟨4, ![32, 1, 8, 1]⟩
abbrev S1x4x1x32 : Shape := ⟨4, ![1, 4, 1, 32]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S8x4x32x4x8x32x64 : Shape := ⟨7, ![8, 4, 32, 4, 8, 32, 64]⟩
abbrev S8x4x32x4x16x64 : Shape := ⟨6, ![8, 4, 32, 4, 16, 64]⟩
abbrev S8x4x32x4x16x8x32 : Shape := ⟨7, ![8, 4, 32, 4, 16, 8, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S32x1x1x8x1 : Shape := ⟨5, ![32, 1, 1, 8, 1]⟩
abbrev S1x4x16x1x32 : Shape := ⟨5, ![1, 4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S4x32x4x16x8x32 : Shape := ⟨6, ![4, 32, 4, 16, 8, 32]⟩
abbrev S4x16x1x32 : Shape := ⟨4, ![4, 16, 1, 32]⟩
abbrev S1x4x32x4x16x8x32 : Shape := ⟨7, ![1, 4, 32, 4, 16, 8, 32]⟩
abbrev S8x4x32x4x16x256 : Shape := ⟨6, ![8, 4, 32, 4, 16, 256]⟩
abbrev S8x4x32x4x16 : Shape := ⟨5, ![8, 4, 32, 4, 16]⟩
abbrev S8x4x32x4x16x1 : Shape := ⟨6, ![8, 4, 32, 4, 16, 1]⟩

abbrev nBuf : Space → Nat
  | .hbm => 212
  | .vmem => 0
  | .smem => 0
  | _ => 0

abbrev hbmTy0_0 (i : Nat) : BufTy := match i % 128 with
  | 0 => ⟨S16384x3584, .f32⟩
  | 1 => ⟨S4x15x31, .f32⟩
  | 2 => ⟨S16384x256, .f32⟩
  | 3 => ⟨S8x2048x256, .f32⟩
  | 4 => ⟨S16384x256, .f32⟩
  | 5 => ⟨S8x2048x256, .f32⟩
  | 6 => ⟨S16384x256, .f32⟩
  | 7 => ⟨S8x2048x256, .f32⟩
  | 8 => ⟨S8x32x64x4x64, .f32⟩
  | 9 => ⟨S8x4x32x64x64, .f32⟩
  | 10 => ⟨S8x32x64x4x64, .f32⟩
  | 11 => ⟨S8x4x32x64x64, .f32⟩
  | 12 => ⟨S8x32x64x4x64, .f32⟩
  | 13 => ⟨S8x4x32x64x64, .f32⟩
  | 14 => ⟨S32, .i32⟩
  | 15 => ⟨S_, .i32⟩
  | 16 => ⟨S32, .i32⟩
  | 17 => ⟨S32, .i32⟩
  | 18 => ⟨S_, .i32⟩
  | 19 => ⟨S_, .i32⟩
  | 20 => ⟨S_, .i32⟩
  | 21 => ⟨S32, .i32⟩
  | 22 => ⟨S32, .i32⟩
  | 23 => ⟨S_, .i32⟩
  | 24 => ⟨S32, .i32⟩
  | 25 => ⟨S32, .i32⟩
  | 26 => ⟨S32x1, .i32⟩
  | 27 => ⟨S8, .i32⟩
  | 28 => ⟨S1x8, .i32⟩
  | 29 => ⟨S32x8, .i32⟩
  | 30 => ⟨S32x8, .i32⟩
  | 31 => ⟨S32x8, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S_, .i32⟩
  | 41 => ⟨S_, .i32⟩
  | 42 => ⟨S4, .i32⟩
  | 43 => ⟨S4, .i32⟩
  | 44 => ⟨S_, .i32⟩
  | 45 => ⟨S4, .i32⟩
  | 46 => ⟨S4, .i32⟩
  | 47 => ⟨S4x1, .i32⟩
  | 48 => ⟨S32, .i32⟩
  | 49 => ⟨S1x32, .i32⟩
  | 50 => ⟨S4x32, .i32⟩
  | 51 => ⟨S4x32, .i32⟩
  | 52 => ⟨S4x32, .i32⟩
  | 53 => ⟨S32x1x8x1, .i32⟩
  | 54 => ⟨S1x4x1x32, .i32⟩
  | 55 => ⟨S_, .i32⟩
  | 56 => ⟨S32x1x8x1, .i32⟩
  | 57 => ⟨S32x1x8x1, .i1⟩
  | 58 => ⟨S_, .i32⟩
  | 59 => ⟨S32x1x8x1, .i32⟩
  | 60 => ⟨S32x1x8x1, .i32⟩
  | 61 => ⟨S32x1x8x1, .i32⟩
  | 62 => ⟨S_, .i32⟩
  | 63 => ⟨S1x4x1x32, .i32⟩
  | 64 => ⟨S1x4x1x32, .i1⟩
  | 65 => ⟨S_, .i32⟩
  | 66 => ⟨S1x4x1x32, .i32⟩
  | 67 => ⟨S1x4x1x32, .i32⟩
  | 68 => ⟨S1x4x1x32, .i32⟩
  | 69 => ⟨S32x4x8x32, .i32⟩
  | 70 => ⟨S32x4x8x32, .i32⟩
  | 71 => ⟨S32x4x8x32x1, .i32⟩
  | 72 => ⟨S32x4x8x32x1, .i32⟩
  | 73 => ⟨S32x4x8x32x2, .i32⟩
  | 74 => ⟨S8x4x32x4x8x32x64, .f32⟩
  | 75 => ⟨S_, .i32⟩
  | 76 => ⟨S32x1x8x1, .i32⟩
  | 77 => ⟨S32x1x8x1, .i1⟩
  | 78 => ⟨S_, .i32⟩
  | 79 => ⟨S32x1x8x1, .i32⟩
  | 80 => ⟨S32x1x8x1, .i32⟩
  | 81 => ⟨S32x1x8x1, .i32⟩
  | 82 => ⟨S_, .i32⟩
  | 83 => ⟨S1x4x1x32, .i32⟩
  | 84 => ⟨S1x4x1x32, .i1⟩
  | 85 => ⟨S_, .i32⟩
  | 86 => ⟨S1x4x1x32, .i32⟩
  | 87 => ⟨S1x4x1x32, .i32⟩
  | 88 => ⟨S1x4x1x32, .i32⟩
  | 89 => ⟨S32x4x8x32, .i32⟩
  | 90 => ⟨S32x4x8x32, .i32⟩
  | 91 => ⟨S32x4x8x32x1, .i32⟩
  | 92 => ⟨S32x4x8x32x1, .i32⟩
  | 93 => ⟨S32x4x8x32x2, .i32⟩
  | 94 => ⟨S8x4x32x4x8x32x64, .f32⟩
  | 95 => ⟨S8x4x32x4x16x64, .f32⟩
  | 96 => ⟨S8x4x32x4x16x8x32, .f32⟩
  | 97 => ⟨S_, .f32⟩
  | 98 => ⟨S8x4x32x4x16x8x32, .f32⟩
  | 99 => ⟨S8x4x32x4x16x8x32, .f32⟩
  | 100 => ⟨S4x1, .i32⟩
  | 101 => ⟨S_, .i32⟩
  | 102 => ⟨S4x1, .i32⟩
  | 103 => ⟨S4x1, .i32⟩
  | 104 => ⟨S16, .i32⟩
  | 105 => ⟨S1x16, .i32⟩
  | 106 => ⟨S4x16, .i32⟩
  | 107 => ⟨S4x16, .i32⟩
  | 108 => ⟨S4x16, .i32⟩
  | 109 => ⟨S_, .i32⟩
  | 110 => ⟨S4x16, .i32⟩
  | 111 => ⟨S4x16, .i32⟩
  | 112 => ⟨S_, .i32⟩
  | 113 => ⟨S_, .i32⟩
  | 114 => ⟨S_, .i32⟩
  | 115 => ⟨S4x16, .i32⟩
  | 116 => ⟨S4x16, .i32⟩
  | 117 => ⟨S_, .i32⟩
  | 118 => ⟨S4x16, .i32⟩
  | 119 => ⟨S4x16, .i32⟩
  | 120 => ⟨S4x1x32, .i32⟩
  | 121 => ⟨S4x16x1, .i32⟩
  | 122 => ⟨S4x16x32, .i32⟩
  | 123 => ⟨S4x16x32, .i32⟩
  | 124 => ⟨S4x16x32, .i1⟩
  | 125 => ⟨S4x16x1, .i32⟩
  | 126 => ⟨S_, .i32⟩
  | 127 => ⟨S4x16x1, .i32⟩
  | _ => ⟨S16384x3584, .f32⟩

abbrev hbmTy0_1 (i : Nat) : BufTy := match i % 128 with
  | 0 => ⟨S4x16x1, .i32⟩
  | 1 => ⟨S4x16x32, .i32⟩
  | 2 => ⟨S4x16x32, .i32⟩
  | 3 => ⟨S4x16x32, .i1⟩
  | 4 => ⟨S4x16x32, .i1⟩
  | 5 => ⟨S32x1, .i32⟩
  | 6 => ⟨S32x8, .i32⟩
  | 7 => ⟨S32x8, .i32⟩
  | 8 => ⟨S_, .i32⟩
  | 9 => ⟨S32x8, .i32⟩
  | 10 => ⟨S32x8, .i32⟩
  | 11 => ⟨S_, .i32⟩
  | 12 => ⟨S32x8, .i32⟩
  | 13 => ⟨S32x8, .i32⟩
  | 14 => ⟨S4x16x1, .i32⟩
  | 15 => ⟨S4x16x32, .i32⟩
  | 16 => ⟨S4x16x32, .i32⟩
  | 17 => ⟨S4x16x32, .i32⟩
  | 18 => ⟨S_, .i32⟩
  | 19 => ⟨S4x16x32, .i32⟩
  | 20 => ⟨S4x16x32, .i32⟩
  | 21 => ⟨S_, .i32⟩
  | 22 => ⟨S4x16x32, .i32⟩
  | 23 => ⟨S4x16x32, .i32⟩
  | 24 => ⟨S_, .i32⟩
  | 25 => ⟨S_, .i32⟩
  | 26 => ⟨S_, .i32⟩
  | 27 => ⟨S4x16x32, .i32⟩
  | 28 => ⟨S4x16x32, .i32⟩
  | 29 => ⟨S_, .i32⟩
  | 30 => ⟨S4x16x32, .i32⟩
  | 31 => ⟨S4x16x32, .i32⟩
  | 32 => ⟨S32x1x1x8x1, .i32⟩
  | 33 => ⟨S1x4x16x1x32, .i32⟩
  | 34 => ⟨S_, .i32⟩
  | 35 => ⟨S32x1x1x8x1, .i32⟩
  | 36 => ⟨S32x1x1x8x1, .i1⟩
  | 37 => ⟨S_, .i32⟩
  | 38 => ⟨S32x1x1x8x1, .i32⟩
  | 39 => ⟨S32x1x1x8x1, .i32⟩
  | 40 => ⟨S32x1x1x8x1, .i32⟩
  | 41 => ⟨S_, .i32⟩
  | 42 => ⟨S1x4x16x1x32, .i32⟩
  | 43 => ⟨S1x4x16x1x32, .i1⟩
  | 44 => ⟨S_, .i32⟩
  | 45 => ⟨S1x4x16x1x32, .i32⟩
  | 46 => ⟨S1x4x16x1x32, .i32⟩
  | 47 => ⟨S1x4x16x1x32, .i32⟩
  | 48 => ⟨S32x4x16x8x32, .i32⟩
  | 49 => ⟨S32x4x16x8x32, .i32⟩
  | 50 => ⟨S32x4x16x8x32x1, .i32⟩
  | 51 => ⟨S32x4x16x8x32x1, .i32⟩
  | 52 => ⟨S32x4x16x8x32x2, .i32⟩
  | 53 => ⟨S4x32x4x16x8x32, .f32⟩
  | 54 => ⟨S4x16x1x32, .i1⟩
  | 55 => ⟨S1x4x32x4x16x8x32, .f32⟩
  | 56 => ⟨S8x4x32x4x16x8x32, .f32⟩
  | 57 => ⟨S8x4x32x4x16x8x32, .f32⟩
  | 58 => ⟨S_, .f32⟩
  | 59 => ⟨S_, .f32⟩
  | 60 => ⟨S8x4x32x4x16x8x32, .i1⟩
  | 61 => ⟨S8x4x32x4x16x8x32, .f32⟩
  | 62 => ⟨S8x4x32x4x16x8x32, .f32⟩
  | 63 => ⟨S8x4x32x4x16x256, .f32⟩
  | 64 => ⟨S_, .f32⟩
  | 65 => ⟨S8x4x32x4x16, .f32⟩
  | 66 => ⟨S_, .f32⟩
  | 67 => ⟨S8x4x32x4x16, .f32⟩
  | 68 => ⟨S8x4x32x4x16, .f32⟩
  | 69 => ⟨S8x4x32x4x16x1, .f32⟩
  | 70 => ⟨S8x4x32x4x16x256, .f32⟩
  | 71 => ⟨S8x4x32x4x16x256, .f32⟩
  | 72 => ⟨S8x4x32x4x16x256, .f32⟩
  | 73 => ⟨S_, .f32⟩
  | 74 => ⟨S8x4x32x4x16, .f32⟩
  | 75 => ⟨S8x4x32x4x16x1, .f32⟩
  | 76 => ⟨S8x4x32x4x16x256, .f32⟩
  | 77 => ⟨S8x4x32x4x16x256, .f32⟩
  | 78 => ⟨S8x4x32x4x16x8x32, .f32⟩
  | 79 => ⟨S8x4x32x4x16x64, .f32⟩
  | 80 => ⟨S8x4x32x64x64, .f32⟩
  | 81 => ⟨S8x32x64x4x64, .f32⟩
  | 82 => ⟨S8x2048x256, .f32⟩
  | 83 => ⟨S16384x256, .f32⟩
  | _ => ⟨S16384x3584, .f32⟩

abbrev hbmTy (i : Nat) : BufTy := match i / 128 with
  | 0 => hbmTy0_0 i
  | 1 => hbmTy0_1 i
  | _ => ⟨S16384x3584, .f32⟩

abbrev bufTy : (tb : Table) → Fin (tcTables nBuf tb) → BufTy
  | .hbm, ⟨i, _⟩ => hbmTy i
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_c_16 : Ref sig .tc := ⟨.hbm, 112, rfl⟩
abbrev main_c_17 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_19 : Ref sig .tc := ⟨.hbm, 136, rfl⟩
abbrev main_v98 : Ref sig .tc := ⟨.hbm, 137, rfl⟩
abbrev main_v99 : Ref sig .tc := ⟨.hbm, 138, rfl⟩
abbrev main_c_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_21 : Ref sig .tc := ⟨.hbm, 146, rfl⟩
abbrev main_v106 : Ref sig .tc := ⟨.hbm, 147, rfl⟩
abbrev main_v107 : Ref sig .tc := ⟨.hbm, 148, rfl⟩
abbrev main_c_22 : Ref sig .tc := ⟨.hbm, 149, rfl⟩
abbrev main_v108 : Ref sig .tc := ⟨.hbm, 150, rfl⟩
abbrev main_v109 : Ref sig .tc := ⟨.hbm, 151, rfl⟩
abbrev main_c_23 : Ref sig .tc := ⟨.hbm, 152, rfl⟩
abbrev main_c_24 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_25 : Ref sig .tc := ⟨.hbm, 162, rfl⟩
abbrev main_v113 : Ref sig .tc := ⟨.hbm, 163, rfl⟩
abbrev main_v114 : Ref sig .tc := ⟨.hbm, 164, rfl⟩
abbrev main_c_26 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_c_27 : Ref sig .tc := ⟨.hbm, 169, rfl⟩
abbrev main_v118 : Ref sig .tc := ⟨.hbm, 170, rfl⟩
abbrev main_v119 : Ref sig .tc := ⟨.hbm, 171, rfl⟩
abbrev main_c_28 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_29 : Ref sig .tc := ⟨.hbm, 186, rfl⟩
abbrev main_call4_v0 : Ref sig .tc := ⟨.hbm, 187, rfl⟩
abbrev main_call4_v1 : Ref sig .tc := ⟨.hbm, 188, rfl⟩
abbrev main_call4_v2 : Ref sig .tc := ⟨.hbm, 189, rfl⟩
abbrev main_v133 : Ref sig .tc := ⟨.hbm, 190, rfl⟩
abbrev main_v134 : Ref sig .tc := ⟨.hbm, 191, rfl⟩
abbrev main_cst_30 : Ref sig .tc := ⟨.hbm, 192, rfl⟩
abbrev main_v135 : Ref sig .tc := ⟨.hbm, 193, rfl⟩
abbrev main_cst_31 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_32 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S1024, .f32⟩
  | .hbm, ⟨10, _⟩ => ⟨S4x1024x1024, .bf16⟩
  | .hbm, ⟨11, _⟩ => ⟨S4x1024x4096, .bf16⟩
  | .hbm, ⟨12, _⟩ => ⟨S4x4096x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x1024x1024, .bf16⟩
  | .local _ .vmem, ⟨11, _⟩ => ⟨S1x1024, .f32⟩
  | .local _ .vmem, ⟨12, _⟩ => ⟨S1x1024x4096, .bf16⟩
  | .local _ .vmem, ⟨13, _⟩ => ⟨S1x4096x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S16384x256 : Shape := ⟨2, ![16384, 256]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S1024, .f32⟩
  | .hbm, ⟨10, _⟩ => ⟨S16384x1024, .f32⟩
  | .hbm, ⟨11, _⟩ => ⟨S1x1024x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024x4096, .f32⟩
  | .hbm, ⟨34, _⟩ => ⟨S1024x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S1x4096x1024, .f32⟩
  | .hbm, ⟨41, _⟩ => ⟨S4096x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel3.lean ====
abbrev S16384x1024 : Shape := ⟨2, ![16384, 1024]⟩
abbrev S4x1024 : Shape := ⟨2, ![4, 1024]⟩
abbrev S4x1024x3464 : Shape := ⟨3, ![4, 1024, 3464]⟩
abbrev S1x1024 : Shape := ⟨2, ![1, 1024]⟩
abbrev S1024 : Shape := ⟨1, ![1024]⟩
abbrev S_ : Shape := ⟨0, ![]⟩
abbrev S4x1024x120 : Shape := ⟨3, ![4, 1024, 120]⟩
abbrev S4x1024x2184 : Shape := ⟨3, ![4, 1024, 2184]⟩
abbrev S4x1024x768 : Shape := ⟨3, ![4, 1024, 768]⟩
abbrev S4x1024x512 : Shape := ⟨3, ![4, 1024, 512]⟩
abbrev S4x1024x3584 : Shape := ⟨3, ![4, 1024, 3584]⟩
abbrev S16384x3584 : Shape := ⟨2, ![16384, 3584]⟩
abbrev S1024x1024 : Shape := ⟨2, ![1024, 1024]⟩
abbrev S1x1024x3584 : Shape := ⟨3, ![1, 1024, 3584]⟩
abbrev S1024x3584 : Shape := ⟨2, ![1024, 3584]⟩
abbrev S1024x1 : Shape := ⟨2, ![1024, 1]⟩
abbrev S1x1024x896 : Shape := ⟨3, ![1, 1024, 896]⟩
abbrev S1024x896 : Shape := ⟨2, ![1024, 896]⟩

abbrev nBuf : Space → Nat
  | .hbm => 14
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x3464, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S4x1024x120, .f32⟩
  | .hbm, ⟨8, _⟩ => ⟨S4x1024x2184, .f32⟩
  | .hbm, ⟨9, _⟩ => ⟨S4x1024x768, .f32⟩
  | .hbm, ⟨10, _⟩ => ⟨S4x1024x512, .f32⟩
  | .hbm, ⟨11, _⟩ => ⟨S4x1024x3584, .f32⟩
  | .hbm, ⟨12, _⟩ => ⟨S4x1024x3584, .bf16⟩
  | .hbm, ⟨13, _⟩ => ⟨S16384x3584, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3584, .bf16⟩
  | .local _ .vmem, ⟨4, _⟩ => ⟨S1024x3584, .f32⟩
  | .local _ .vmem, ⟨5, _⟩ => ⟨S1024x3584, .f32⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S4x1024 : Shape := ⟨2, ![4, 1024]⟩
abbrev S4x1024x3464 : Shape := ⟨3, ![4, 1024, 3464]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x3464 : Shape := ⟨3, ![1, 1024, 3464]⟩
abbrev S1024x3464 : Shape := ⟨2, ![1024, 3464]⟩
abbrev S16384x3464 : Shape := ⟨2, ![16384, 3464]⟩
abbrev S16384x2184 : Shape := ⟨2, ![16384, 2184]⟩
abbrev S16384x512 : Shape := ⟨2, ![16384, 512]⟩
abbrev S16384x768 : Shape := ⟨2, ![16384, 768]⟩
abbrev S16384x120 : Shape := ⟨2, ![16384, 120]⟩
abbrev S16384x3584 : Shape := ⟨2, ![16384, 3584]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x3464, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x3464, .f32⟩
  | .hbm, ⟨22, _⟩ => ⟨S1024x3464, .f32⟩
  | .hbm, ⟨23, _⟩ => ⟨S16384x3464, .f32⟩
  | .hbm, ⟨24, _⟩ => ⟨S16384x2184, .f32⟩
  | .hbm, ⟨25, _⟩ => ⟨S16384x512, .f32⟩
  | .hbm, ⟨26, _⟩ => ⟨S16384x768, .f32⟩
  | .hbm, ⟨27, _⟩ => ⟨S_, .f32⟩
  | .hbm, ⟨28, _⟩ => ⟨S16384x120, .f32⟩
  | .hbm, ⟨29, _⟩ => ⟨S16384x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S16384x3584 : Shape := ⟨2, ![16384, 3584]⟩
abbrev S4x4x256 : Shape := ⟨3, ![4, 4, 256]⟩
abbrev S4x256 : Shape := ⟨2, ![4, 256]⟩
abbrev S4x2x4x64x64 : Shape := ⟨5, ![4, 2, 4, 64, 64]⟩
abbrev S4x2x256 : Shape := ⟨3, ![4, 2, 256]⟩
abbrev S1x4x256 : Shape := ⟨3, ![1, 4, 256]⟩
abbrev S1x256 : Shape := ⟨2, ![1, 256]⟩
abbrev S256 : Shape := ⟨1, ![256]⟩
abbrev S1x2x4x64x64 : Shape := ⟨5, ![1, 2, 4, 64, 64]⟩
abbrev S2x4x64x64 : Shape := ⟨4, ![2, 4, 64, 64]⟩
abbrev S4x4 : Shape := ⟨2, ![4, 4]⟩
abbrev S_ : Shape := ⟨0, ![]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S1x2x256 : Shape := ⟨3, ![1, 2, 256]⟩
abbrev S2x256 : Shape := ⟨2, ![2, 256]⟩
abbrev S16384x256 : Shape := ⟨2, ![16384, 256]⟩
abbrev S2048x512 : Shape := ⟨2, ![2048, 512]⟩
abbrev S2048x256 : Shape := ⟨2, ![2048, 256]⟩
abbrev S2x2048x256 : Shape := ⟨3, ![2, 2048, 256]⟩
abbrev S256x256 : Shape := ⟨2, ![256, 256]⟩
abbrev S8x256 : Shape := ⟨2, ![8, 256]⟩
abbrev S248x256 : Shape := ⟨2, ![248, 256]⟩
abbrev S1x256x256 : Shape := ⟨3, ![1, 256, 256]⟩
abbrev S1x8x256 : Shape := ⟨3, ![1, 8, 256]⟩

abbrev nBuf : Space → Nat
  | .hbm => 52
  | .vmem => 14
  | .smem => 0
  | _ => 0

abbrev bufTy : (tb : Table) → Fin (tcTables nBuf tb) → BufTy
  | .hbm, ⟨0, _⟩ => ⟨S16384x3584, .f32⟩
  | .hbm, ⟨1, _⟩ => ⟨S4x4x256, .f32⟩
  | .hbm, ⟨2, _⟩ => ⟨S4x256, .f32⟩
  | .hbm, ⟨3, _⟩ => ⟨S4x2x4x64x64, .f32⟩
  | .hbm, ⟨4, _⟩ => ⟨S4x2x256, .f32⟩
  | .hbm, ⟨5, _⟩ => ⟨S4x2x4x64x64, .f32⟩
  | .hbm, ⟨6, _⟩ => ⟨S4x2x256, .f32⟩
  | .hbm, ⟨7, _⟩ => ⟨S4x2x256, .f32⟩
  | .hbm, ⟨8, _⟩ => ⟨S1x4x256, .f32⟩
  | .hbm, ⟨9, _⟩ => ⟨S4x256, .f32⟩
  | .hbm, ⟨10, _⟩ => ⟨S1x256, .f32⟩
  | .hbm, ⟨11, _⟩ => ⟨S256, .f32⟩
  | .hbm, ⟨12, _⟩ => ⟨S1x256, .f32⟩
  | .hbm, ⟨13, _⟩ => ⟨S1x2x4x64x64, .f32⟩
  | .hbm, ⟨14, _⟩ => ⟨S2x4x64x64, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S2x4x64x1x64, .f32⟩
  | .hbm, ⟨23, _⟩ => ⟨S1x4x1x4x1, .f32⟩
  | .hbm, ⟨24, _⟩ => ⟨S2x4x64x4x64, .f32⟩
  | .hbm, ⟨25, _⟩ => ⟨S2x4x64x4x64, .f32⟩
  | .hbm, ⟨26, _⟩ => ⟨S2x4x64x4x64, .f32⟩
  | .hbm, ⟨27, _⟩ => ⟨S2x256x256, .f32⟩
  | .hbm, ⟨28, _⟩ => ⟨S2x256x256, .bf16⟩
  | .hbm, ⟨29, _⟩ => ⟨S1x2x256, .f32⟩
  | .hbm, ⟨30, _⟩ => ⟨S2x256, .f32⟩
  | .hbm, ⟨31, _⟩ => ⟨S1x2x4x64x64, .f32⟩
  | .hbm, ⟨32, _⟩ => ⟨S2x4x64x64, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S2x4x64x1x64, .f32⟩
  | .hbm, ⟨41, _⟩ => ⟨S1x4x1x4x1, .f32⟩
  | .hbm, ⟨42, _⟩ => ⟨S2x4x64x4x64, .f32⟩
  | .hbm, ⟨43, _⟩ => ⟨S2x4x64x4x64, .f32⟩
  | .hbm, ⟨44, _⟩ => ⟨S2x4x64x4x64, .f32⟩
  | .hbm, ⟨45, _⟩ => ⟨S2x256x256, .f32⟩
  | .hbm, ⟨46, _⟩ => ⟨S2x256x256, .bf16⟩
  | .hbm, ⟨47, _⟩ => ⟨S1x2x256, .f32⟩
  | .hbm, ⟨48, _⟩ => ⟨S2x256, .f32⟩
  | .hbm, ⟨49, _⟩ => ⟨S1x2x256, .f32⟩
  | .hbm, ⟨50, _⟩ => ⟨S2x256, .f32⟩
  | .hbm, ⟨51, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S4x256, .f32⟩
  | .local _ .vmem, ⟨3, _⟩ => ⟨S1x256, .f32⟩
  | .local _ .vmem, ⟨4, _⟩ => ⟨S2x256x256, .bf16⟩
  | .local _ .vmem, ⟨5, _⟩ => ⟨S2x256, .f32⟩
  | .local _ .vmem, ⟨6, _⟩ => ⟨S2x256x256, .bf16⟩
  | .local _ .vmem, ⟨7, _⟩ => ⟨S2x256, .f32⟩
  | .local _ .vmem, ⟨8, _⟩ => ⟨S2x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2x2048x256, .f32⟩
  | .local _ .vmem, ⟨13, _⟩ => ⟨S2x2048x256, .f32⟩
  | _, _ => ⟨S16384x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  v6
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let v8 : Index := Scalar.indexCast v7
  let c256 : Index := 256#32
  ![v8.toNat, 256]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let c8_i32_8 : BitVec 32 := 8#32
  let v10 : BitVec 32 := Scalar.subi v7 c8_i32_8
  let c0_i32_9 : BitVec 32 := 0#32
  let v11 : BitVec 32 := Scalar.maxsi v10 c0_i32_9
  v11
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let c256_i32_10 : BitVec 32 := 256#32
  let v13 : BitVec 32 := Scalar.addi v7 c256_i32_10
  let c2040_i32 : BitVec 32 := 2040#32
  let v14 : BitVec 32 := Scalar.minsi v13 c2040_i32
  v14
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let c8_i32_8 : BitVec 32 := 8#32
  let v10 : BitVec 32 := Scalar.subi v7 c8_i32_8
  let c0_i32_9 : BitVec 32 := 0#32
  let v11 : BitVec 32 := Scalar.maxsi v10 c0_i32_9
  let v12 : BitVec 32 := v11
  let v16 : Index := Scalar.indexCast v12
  let c256_11 : Index := 256#32
  ![v16.toNat, 256]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let c256_i32_10 : BitVec 32 := 256#32
  let v13 : BitVec 32 := Scalar.addi v7 c256_i32_10
  let c2040_i32 : BitVec 32 := 2040#32
  let v14 : BitVec 32 := Scalar.minsi v13 c2040_i32
  let v15 : BitVec 32 := v14
  let v23 : Index := Scalar.indexCast v15
  let c256_13 : Index := 256#32
  ![v23.toNat, 256]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let v81 : Index := Scalar.indexCast v7
  let c0_27 : Index := 0#32
  ![v81.toNat, 0]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let v96 : Index := Scalar.indexCast v7
  let c0_32 : Index := 0#32
  ![v96.toNat, 0]
def k0_off6 (k0_t1 : Fin k0_t1_loop.trips) : Fin 3 → Nat :=
  let c0_58 : Index := 0#32
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let v148 : Index := Scalar.indexCast v7
  let c0_59 : Index := 0#32
  ![0, v148.toNat, 0]
def k0_off7 (k0_t1 : Fin k0_t1_loop.trips) : Fin 3 → Nat :=
  let c1_88 : Index := 1#32
  let c0_i32 : BitVec 32 := 0#32
  let c1_i32 : BitVec 32 := 1#32
  let arg13 : BitVec 32 := Scf.iv c0_i32 c1_i32 k0_t1
  let c256_i32 : BitVec 32 := 256#32
  let v6 : BitVec 32 := Scalar.muli arg13 c256_i32
  let v7 : BitVec 32 := v6
  let v209 : Index := Scalar.indexCast v7
  let c0_89 : Index := 0#32
  ![1, v209.toNat, 0]
@[reducible] def k0_t2_loop : Scf.Loop 32 :=
  let c0_i32_1 : BitVec 32 := 0#32
  let c32_i32 : BitVec 32 := 32#32
  let v3 : BitVec 32 := Scalar.addi c0_i32_1 c32_i32
  let c1_i32_2 : BitVec 32 := 1#32
  ⟨c0_i32_1, v3, c1_i32_2⟩
def k0_mult4 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_8 : BitVec 32 := 8#32
  let v6 : BitVec 32 := Scalar.muli arg13 c8_i32_8
  let c0_i32_9 : BitVec 32 := 0#32
  let v7 : BitVec 32 := Scalar.addi v6 c0_i32_9
  let c8_i32_10 : BitVec 32 := 8#32
  let v8 : BitVec 32 := Scalar.muli v7 c8_i32_10
  v8
def k0_mult5 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_11 : BitVec 32 := 8#32
  let v10 : BitVec 32 := Scalar.muli arg13 c8_i32_11
  let c1_i32_12 : BitVec 32 := 1#32
  let v11 : BitVec 32 := Scalar.addi v10 c1_i32_12
  let c8_i32_13 : BitVec 32 := 8#32
  let v12 : BitVec 32 := Scalar.muli v11 c8_i32_13
  v12
def k0_mult6 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_14 : BitVec 32 := 8#32
  let v14 : BitVec 32 := Scalar.muli arg13 c8_i32_14
  let c2_i32 : BitVec 32 := 2#32
  let v15 : BitVec 32 := Scalar.addi v14 c2_i32
  let c8_i32_15 : BitVec 32 := 8#32
  let v16 : BitVec 32 := Scalar.muli v15 c8_i32_15
  v16
def k0_mult7 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_16 : BitVec 32 := 8#32
  let v18 : BitVec 32 := Scalar.muli arg13 c8_i32_16
  let c3_i32 : BitVec 32 := 3#32
  let v19 : BitVec 32 := Scalar.addi v18 c3_i32
  let c8_i32_17 : BitVec 32 := 8#32
  let v20 : BitVec 32 := Scalar.muli v19 c8_i32_17
  v20
def k0_mult8 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_18 : BitVec 32 := 8#32
  let v22 : BitVec 32 := Scalar.muli arg13 c8_i32_18
  let c4_i32 : BitVec 32 := 4#32
  let v23 : BitVec 32 := Scalar.addi v22 c4_i32
  let c8_i32_19 : BitVec 32 := 8#32
  let v24 : BitVec 32 := Scalar.muli v23 c8_i32_19
  v24
def k0_mult9 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_20 : BitVec 32 := 8#32
  let v26 : BitVec 32 := Scalar.muli arg13 c8_i32_20
  let c5_i32 : BitVec 32 := 5#32
  let v27 : BitVec 32 := Scalar.addi v26 c5_i32
  let c8_i32_21 : BitVec 32 := 8#32
  let v28 : BitVec 32 := Scalar.muli v27 c8_i32_21
  v28
def k0_mult10 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_22 : BitVec 32 := 8#32
  let v30 : BitVec 32 := Scalar.muli arg13 c8_i32_22
  let c6_i32 : BitVec 32 := 6#32
  let v31 : BitVec 32 := Scalar.addi v30 c6_i32
  let c8_i32_23 : BitVec 32 := 8#32
  let v32 : BitVec 32 := Scalar.muli v31 c8_i32_23
  v32
def k0_mult11 (k0_t2 : Fin k0_t2_loop.trips) : BitVec 32 :=
  let c0_i32_1 : BitVec 32 := 0#32
  let c1_i32_2 : BitVec 32 := 1#32
  let arg13 : BitVec 32 := Scf.iv c0_i32_1 c1_i32_2 k0_t2
  let c8_i32_24 : BitVec 32 := 8#32
  let v34 : BitVec 32 := Scalar.muli arg13 c8_i32_24
  let c7_i32 : BitVec 32 := 7#32
  let v35 : BitVec 32 := Scalar.addi v34 c7_i32
  let c8_i32_25 : BitVec 32 := 8#32
  let v36 : BitVec 32 := Scalar.muli v35 c8_i32_25
  v36
def k0_mult12 (k0_t2 : Fin k0_t2_loop.trips) : BitVec 32 :=
  let c255_i32 : BitVec 32 := 255#32
  let c0_i32_1 : BitVec 32 := 0#32
  let c1_i32_2 : BitVec 32 := 1#32
  let arg13 : BitVec 32 := Scf.iv c0_i32_1 c1_i32_2 k0_t2
  let c8_i32_26 : BitVec 32 := 8#32
  let v38 : BitVec 32 := Scalar.muli arg13 c8_i32_26
  let v39 : BitVec 32 := Scalar.subi c255_i32 v38
  let c0_i32_27 : BitVec 32 := 0#32
  let v40 : BitVec 32 := Scalar.subi v39 c0_i32_27
  let c8_i32_28 : BitVec 32 := 8#32
  let v41 : BitVec 32 := Scalar.muli v40 c8_i32_28
  v41
def k0_mult13 (k0_t2 : Fin k0_t2_loop.trips) : BitVec 32 :=
  let c255_i32_30 : BitVec 32 := 255#32
  let c0_i32_1 : BitVec 32 := 0#32
  let c1_i32_2 : BitVec 32 := 1#32
  let arg13 : BitVec 32 := Scf.iv c0_i32_1 c1_i32_2 k0_t2
  let c8_i32_29 : BitVec 32 := 8#32
  let v43 : BitVec 32 := Scalar.muli arg13 c8_i32_29
  let v44 : BitVec 32 := Scalar.subi c255_i32_30 v43
  let c1_i32_31 : BitVec 32 := 1#32
  let v45 : BitVec 32 := Scalar.subi v44 c1_i32_31
  let c8_i32_32 : BitVec 32 := 8#32
  let v46 : BitVec 32 := Scalar.muli v45 c8_i32_32
  v46
def k0_mult14 (k0_t2 : Fin k0_t2_loop.trips) : BitVec 32 :=
  let c255_i32_34 : BitVec 32 := 255#32
  let c0_i32_1 : BitVec 32 := 0#32
  let c1_i32_2 : BitVec 32 := 1#32
  let arg13 : BitVec 32 := Scf.iv c0_i32_1 c1_i32_2 k0_t2
  let c8_i32_33 : BitVec 32 := 8#32
  let v48 : BitVec 32 := Scalar.muli arg13 c8_i32_33
  let v49 : BitVec 32 := Scalar.subi c255_i32_34 v48
  let c2_i32_35 : BitVec 32 := 2#32
  let v50 : BitVec 32 := Scalar.subi v49 c2_i32_35
  let c8_i32_36 : BitVec 32 := 8#32
  let v51 : BitVec 32 := Scalar.muli v50 c8_i32_36
  v51
def k0_mult15 (k0_t2 : Fin k0_t2_loop.trips) : BitVec 32 :=
  let c255_i32_38 : BitVec 32 := 255#32
  let c0_i32_1 : BitVec 32 := 0#32
  let c1_i32_2 : BitVec 32 := 1#32
  let arg13 : BitVec 32 := Scf.iv c0_i32_1 c1_i32_2 k0_t2
  let c8_i32_37 : BitVec 32 := 8#32
  let v53 : BitVec 32 := Scalar.muli arg13 c8_i32_37
  let v54 : BitVec 32 := Scalar.subi c255_i32_38 v53
  let c3_i32_39 : BitVec 32 := 3#32
  let v55 : BitVec 32 := Scalar.subi v54 c3_i32_39
  let c8_i32_40 : BitVec 32 := 8#32
  let v56 : BitVec 32 := Scalar.muli v55 c8_i32_40
  v56
def k0_mult16 (k0_t2 : Fin k0_t2_loop.trips) : BitVec 32 :=
  let c255_i32_42 : BitVec 32 := 255#32
  let c0_i32_1 : BitVec 32 := 0#32
  let c1_i32_2 : BitVec 32 := 1#32
  let arg13 : BitVec 32 := Scf.iv c0_i32_1 c1_i32_2 k0_t2
  let c8_i32_41 : BitVec 32 := 8#32
  let v58 : BitVec 32 := Scalar.muli arg13 c8_i32_41
  let v59 : BitVec 32 := Scalar.subi c255_i32_42 v58
  let c4_i32_43 : BitVec 32 := 4#32
  let v60 : BitVec 32 := Scalar.subi v59 c4_i32_43
  let c8_i32_44 : BitVec 32 := 8#32
  let v61 : BitVec 32 := Scalar.muli v60 c8_i32_44
  v61
def k0_mult17 (k0_t2 : Fin k0_t2_loop.trips) : BitVec 32 :=
  let c255_i32_46 : BitVec 32 := 255#32
  let c0_i32_1 : BitVec 32 := 0#32
  let c1_i32_2 : BitVec 32 := 1#32
  let arg13 : BitVec 32 := Scf.iv c0_i32_1 c1_i32_2 k0_t2
  let c8_i32_45 : BitVec 32 := 8#32
  let v63 : BitVec 32 := Scalar.muli arg13 c8_i32_45
  let v64 : BitVec 32 := Scalar.subi c255_i32_46 v63
  let c5_i32_47 : BitVec 32 := 5#32
  let v65 : BitVec 32 := Scalar.subi v64 c5_i32_47
  let c8_i32_48 : BitVec 32 := 8#32
  let v66 : BitVec 32 := Scalar.muli v65 c8_i32_48
  v66
def k0_mult18 (k0_t2 : Fin k0_t2_loop.trips) : BitVec 32 :=
  let c255_i32_50 : BitVec 32 := 255#32
  let c0_i32_1 : BitVec 32 := 0#32
  let c1_i32_2 : BitVec 32 := 1#32
  let arg13 : BitVec 32 := Scf.iv c0_i32_1 c1_i32_2 k0_t2
  let c8_i32_49 : BitVec 32 := 8#32
  let v68 : BitVec 32 := Scalar.muli arg13 c8_i32_49
  let v69 : BitVec 32 := Scalar.subi c255_i32_50 v68
  let c6_i32_51 : BitVec 32 := 6#32
  let v70 : BitVec 32 := Scalar.subi v69 c6_i32_51
  let c8_i32_52 : BitVec 32 := 8#32
  let v71 : BitVec 32 := Scalar.muli v70 c8_i32_52
  v71
def k0_mult19 (k0_t2 : Fin k0_t2_loop.trips) : BitVec 32 :=
  let c255_i32_54 : BitVec 32 := 255#32
  let c0_i32_1 : BitVec 32 := 0#32
  let c1_i32_2 : BitVec 32 := 1#32
  let arg13 : BitVec 32 := Scf.iv c0_i32_1 c1_i32_2 k0_t2
  let c8_i32_53 : BitVec 32 := 8#32
  let v73 : BitVec 32 := Scalar.muli arg13 c8_i32_53
  let v74 : BitVec 32 := Scalar.subi c255_i32_54 v73
  let c7_i32_55 : BitVec 32 := 7#32
  let v75 : BitVec 32 := Scalar.subi v74 c7_i32_55
  let c8_i32_56 : BitVec 32 := 8#32
  let v76 : BitVec 32 := Scalar.muli v75 c8_i32_56
  v76
def k0_off8 (k0_t2 : Fin k0_t2_loop.trips) (c0_i32_9 : BitVec 32) : Fin 3 → Nat :=
  let c0 : Index := 0#32
  let c0_i32_1 : BitVec 32 := 0#32
  let c1_i32_2 : BitVec 32 := 1#32
  let arg13 : BitVec 32 := Scf.iv c0_i32_1 c1_i32_2 k0_t2
  let c8_i32_8 : BitVec 32 := 8#32
  let v6 : BitVec 32 := Scalar.muli arg13 c8_i32_8
  let v7 : BitVec 32 := Scalar.addi v6 c0_i32_9
  let c8_i32_10 : BitVec 32 := 8#32
  let v8 : BitVec 32 := Scalar.muli v7 c8_i32_10
  let v9 : BitVec 32 := v8
  let v78 : Index := Scalar.indexCast v9
  let c0_57 : Index := 0#32
  ![0, v78.toNat, 0]
def k0_off9 (k0_t2 : Fin k0_t2_loop.trips) (c0_i32_27 : BitVec 32) : Fin 3 → Nat :=
  let c1 : Index := 1#32
  let c255_i32 : BitVec 32 := 255#32
  let c0_i32_1 : BitVec 32 := 0#32
  let c1_i32_2 : BitVec 32 := 1#32
  let arg13 : BitVec 32 := Scf.iv c0_i32_1 c1_i32_2 k0_t2
  let c8_i32_26 : BitVec 32 := 8#32
  let v38 : BitVec 32 := Scalar.muli arg13 c8_i32_26
  let v39 : BitVec 32 := Scalar.subi c255_i32 v38
  let v40 : BitVec 32 := Scalar.subi v39 c0_i32_27
  let c8_i32_28 : BitVec 32 := 8#32
  let v41 : BitVec 32 := Scalar.muli v40 c8_i32_28
  let v42 : BitVec 32 := v41
  let v126 : Index := Scalar.indexCast v42
  let c0_88 : Index := 0#32
  ![1, v126.toNat, 0]
@[reducible] def k0_t3_loop : Scf.Loop 32 :=
  let c0_i32_4 : BitVec 32 := 0#32
  let c8_i32_5 : BitVec 32 := 8#32
  let v5 : BitVec 32 := Scalar.addi c0_i32_4 c8_i32_5
  let c1_i32_6 : BitVec 32 := 1#32
  ⟨c0_i32_4, v5, c1_i32_6⟩
def k0_mult20 (k0_t3 : Fin k0_t3_loop.trips) : BitVec 32 :=
  let c0_i32_4 : BitVec 32 := 0#32
  let c1_i32_6 : BitVec 32 := 1#32
  let arg13 : BitVec 32 := Scf.iv c0_i32_4 c1_i32_6 k0_t3
  let c256_i32 : BitVec 32 := 256#32
  let v6 : BitVec 32 := Scalar.muli arg13 c256_i32
  v6
def k0_off10 (k0_t3 : Fin k0_t3_loop.trips) : Fin 2 → Nat :=
  let c0_i32_4 : BitVec 32 := 0#32
  let c1_i32_6 : BitVec 32 := 1#32
  let arg13 : BitVec 32 := Scf.iv c0_i32_4 c1_i32_6 k0_t3
  let c256_i32 : BitVec 32 := 256#32
  let v6 : BitVec 32 := Scalar.muli arg13 c256_i32
  let v7 : BitVec 32 := v6
  let v8 : Index := Scalar.indexCast v7
  let c0 : Index := 0#32
  ![v8.toNat, 0]
def k0_off11 (k0_t3 : Fin k0_t3_loop.trips) : Fin 3 → Nat :=
  let c0_8 : Index := 0#32
  let c0_i32_4 : BitVec 32 := 0#32
  let c1_i32_6 : BitVec 32 := 1#32
  let arg13 : BitVec 32 := Scf.iv c0_i32_4 c1_i32_6 k0_t3
  let c256_i32 : BitVec 32 := 256#32
  let v6 : BitVec 32 := Scalar.muli arg13 c256_i32
  let v7 : BitVec 32 := v6
  let v10 : Index := Scalar.indexCast v7
  let c0_9 : Index := 0#32
  ![0, v10.toNat, 0]
def k0_off12 (k0_t3 : Fin k0_t3_loop.trips) : Fin 3 → Nat :=
  let c1 : Index := 1#32
  let c0_i32_4 : BitVec 32 := 0#32
  let c1_i32_6 : BitVec 32 := 1#32
  let arg13 : BitVec 32 := Scf.iv c0_i32_4 c1_i32_6 k0_t3
  let c256_i32 : BitVec 32 := 256#32
  let v6 : BitVec 32 := Scalar.muli arg13 c256_i32
  let v7 : BitVec 32 := v6
  let v13 : Index := Scalar.indexCast v7
  let c0_10 : Index := 0#32
  ![1, v13.toNat, 0]
def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x3584 : Shape := ⟨2, ![16384, 3584]⟩
abbrev S4x4x256 : Shape := ⟨3, ![4, 4, 256]⟩
abbrev S4x256 : Shape := ⟨2, ![4, 256]⟩
abbrev S4x2x4x64x64 : Shape := ⟨5, ![4, 2, 4, 64, 64]⟩
abbrev S4x2x256 : Shape := ⟨3, ![4, 2, 256]⟩
abbrev S16384x512 : Shape := ⟨2, ![16384, 512]⟩
abbrev S8x2048x512 : Shape := ⟨3, ![8, 2048, 512]⟩
abbrev S1x4x256 : Shape := ⟨3, ![1, 4, 256]⟩
abbrev S1x256 : Shape := ⟨2, ![1, 256]⟩
abbrev S256 : Shape := ⟨1, ![256]⟩
abbrev S1x2x4x64x64 : Shape := ⟨5, ![1, 2, 4, 64, 64]⟩
abbrev S2x4x64x64 : Shape := ⟨4, ![2, 4, 64, 64]⟩
abbrev S1x2x256 : Shape := ⟨3, ![1, 2, 256]⟩
abbrev S2x256 : Shape := ⟨2, ![2, 256]⟩
abbrev S8x2048x256 : Shape := ⟨3, ![8, 2048, 256]⟩
abbrev S_ : Shape := ⟨0, ![]⟩
abbrev S8x2051x256 : Shape := ⟨3, ![8, 2051, 256]⟩
abbrev S1x1x256 : Shape := ⟨3, ![1, 1, 256]⟩
abbrev S8x2048x4x64 : Shape := ⟨4, ![8, 2048, 4, 64]⟩
abbrev S4x2x64x8x2048 : Shape := ⟨5, ![4, 2, 64, 8, 2048]⟩
abbrev S2x8x2048x4x64 : Shape := ⟨5, ![2, 8, 2048, 4, 64]⟩
abbrev S2x8x2048x256 : Shape := ⟨4, ![2, 8, 2048, 256]⟩
abbrev S2x1x1x256 : Shape := ⟨4, ![2, 1, 1, 256]⟩
abbrev S1x8x2048x256 : Shape := ⟨4, ![1, 8, 2048, 256]⟩
abbrev S2x8x1024x256 : Shape := ⟨4, ![2, 8, 1024, 256]⟩
abbrev S2x8x512x256 : Shape := ⟨4, ![2, 8, 512, 256]⟩
abbrev S2x8x256x256 : Shape := ⟨4, ![2, 8, 256, 256]⟩
abbrev S2x8x128x256 : Shape := ⟨4, ![2, 8, 128, 256]⟩
abbrev S2x8x64x256 : Shape := ⟨4, ![2, 8, 64, 256]⟩
abbrev S2x8x32x256 : Shape := ⟨4, ![2, 8, 32, 256]⟩
abbrev S2x8x16x256 : Shape := ⟨4, ![2, 8, 16, 256]⟩
abbrev S2x8x8x256 : Shape := ⟨4, ![2, 8, 8, 256]⟩
abbrev S2x8x4x256 : Shape := ⟨4, ![2, 8, 4, 256]⟩
abbrev S2x8x2x256 : Shape := ⟨4, ![2, 8, 2, 256]⟩
abbrev S2x8x1x256 : Shape := ⟨4, ![2, 8, 1, 256]⟩
abbrev S2x8x0x256 : Shape := ⟨4, ![2, 8, 0, 256]⟩
abbrev S2x8x3x256 : Shape := ⟨4, ![2, 8, 3, 256]⟩
abbrev S2x8x7x256 : Shape := ⟨4, ![2, 8, 7, 256]⟩
abbrev S2x8x15x256 : Shape := ⟨4, ![2, 8, 15, 256]⟩
abbrev S2x8x31x256 : Shape := ⟨4, ![2, 8, 31, 256]⟩
abbrev S2x8x63x256 : Shape := ⟨4, ![2, 8, 63, 256]⟩
abbrev S2x8x127x256 : Shape := ⟨4, ![2, 8, 127, 256]⟩
abbrev S2x8x255x256 : Shape := ⟨4, ![2, 8, 255, 256]⟩
abbrev S2x8x511x256 : Shape := ⟨4, ![2, 8, 511, 256]⟩
abbrev S2x8x1023x256 : Shape := ⟨4, ![2, 8, 1023, 256]⟩
abbrev S16384x256 : Shape := ⟨2, ![16384, 256]⟩

abbrev nBuf : Space → Nat
  | .hbm => 472
  | .vmem => 0
  | .smem => 0
  | _ => 0

abbrev hbmTy0_0 (i : Nat) : BufTy := match i % 128 with
  | 0 => ⟨S16384x3584, .f32⟩
  | 1 => ⟨S4x4x256, .f32⟩
  | 2 => ⟨S4x256, .f32⟩
  | 3 => ⟨S4x2x4x64x64, .f32⟩
  | 4 => ⟨S4x2x256, .f32⟩
  | 5 => ⟨S4x2x4x64x64, .f32⟩
  | 6 => ⟨S4x2x256, .f32⟩
  | 7 => ⟨S4x2x256, .f32⟩
  | 8 => ⟨S16384x512, .f32⟩
  | 9 => ⟨S8x2048x512, .f32⟩
  | 10 => ⟨S1x4x256, .f32⟩
  | 11 => ⟨S4x256, .f32⟩
  | 12 => ⟨S1x256, .f32⟩
  | 13 => ⟨S256, .f32⟩
  | 14 => ⟨S1x2x4x64x64, .f32⟩
  | 15 => ⟨S2x4x64x64, .f32⟩
  | 16 => ⟨S1x2x256, .f32⟩
  | 17 => ⟨S2x256, .f32⟩
  | 18 => ⟨S1x2x4x64x64, .f32⟩
  | 19 => ⟨S2x4x64x64, .f32⟩
  | 20 => ⟨S1x2x256, .f32⟩
  | 21 => ⟨S2x256, .f32⟩
  | 22 => ⟨S1x2x256, .f32⟩
  | 23 => ⟨S2x256, .f32⟩
  | 24 => ⟨S8x2048x256, .f32⟩
  | 25 => ⟨S8x2048x256, .f32⟩
  | 26 => ⟨S8x2048x256, .f32⟩
  | 27 => ⟨S8x2048x256, .f32⟩
  | 28 => ⟨S_, .f32⟩
  | 29 => ⟨S8x2048x256, .f32⟩
  | 30 => ⟨S8x2048x256, .f32⟩
  | 31 => ⟨S8x2048x256, .f32⟩
  | 32 => ⟨S_, .f32⟩
  | 33 => ⟨S8x2048x256, .f32⟩
  | 34 => ⟨S8x2048x256, .f32⟩
  | 35 => ⟨S8x2048x256, .f32⟩
  | 36 => ⟨S_, .f32⟩
  | 37 => ⟨S8x2048x256, .f32⟩
  | 38 => ⟨S8x2048x256, .f32⟩
  | 39 => ⟨S_, .f32⟩
  | 40 => ⟨S8x2048x256, .f32⟩
  | 41 => ⟨S8x2048x256, .f32⟩
  | 42 => ⟨S8x2048x256, .f32⟩
  | 43 => ⟨S_, .i32⟩
  | 44 => ⟨S_, .f32⟩
  | 45 => ⟨S8x2051x256, .f32⟩
  | 46 => ⟨S1x256, .f32⟩
  | 47 => ⟨S256, .f32⟩
  | 48 => ⟨S8x2048x256, .f32⟩
  | 49 => ⟨S1x1x256, .f32⟩
  | 50 => ⟨S8x2048x256, .f32⟩
  | 51 => ⟨S8x2048x256, .f32⟩
  | 52 => ⟨S_, .f32⟩
  | 53 => ⟨S8x2048x256, .f32⟩
  | 54 => ⟨S8x2048x256, .f32⟩
  | 55 => ⟨S1x256, .f32⟩
  | 56 => ⟨S256, .f32⟩
  | 57 => ⟨S8x2048x256, .f32⟩
  | 58 => ⟨S1x1x256, .f32⟩
  | 59 => ⟨S8x2048x256, .f32⟩
  | 60 => ⟨S8x2048x256, .f32⟩
  | 61 => ⟨S8x2048x256, .f32⟩
  | 62 => ⟨S1x256, .f32⟩
  | 63 => ⟨S256, .f32⟩
  | 64 => ⟨S8x2048x256, .f32⟩
  | 65 => ⟨S1x1x256, .f32⟩
  | 66 => ⟨S8x2048x256, .f32⟩
  | 67 => ⟨S8x2048x256, .f32⟩
  | 68 => ⟨S8x2048x256, .f32⟩
  | 69 => ⟨S1x256, .f32⟩
  | 70 => ⟨S256, .f32⟩
  | 71 => ⟨S8x2048x256, .f32⟩
  | 72 => ⟨S1x1x256, .f32⟩
  | 73 => ⟨S8x2048x256, .f32⟩
  | 74 => ⟨S8x2048x256, .f32⟩
  | 75 => ⟨S8x2048x256, .f32⟩
  | 76 => ⟨S1x1x256, .f32⟩
  | 77 => ⟨S8x2048x256, .f32⟩
  | 78 => ⟨S8x2048x256, .f32⟩
  | 79 => ⟨S8x2048x4x64, .f32⟩
  | 80 => ⟨S4x2x64x8x2048, .f32⟩
  | 81 => ⟨S2x8x2048x4x64, .f32⟩
  | 82 => ⟨S2x8x2048x256, .f32⟩
  | 83 => ⟨S2x1x1x256, .f32⟩
  | 84 => ⟨S2x8x2048x256, .f32⟩
  | 85 => ⟨S2x8x2048x256, .f32⟩
  | 86 => ⟨S2x8x2048x256, .f32⟩
  | 87 => ⟨S2x8x2048x256, .f32⟩
  | 88 => ⟨S_, .f32⟩
  | 89 => ⟨S2x8x2048x256, .f32⟩
  | 90 => ⟨S2x8x2048x256, .f32⟩
  | 91 => ⟨S_, .f32⟩
  | 92 => ⟨S2x8x2048x256, .f32⟩
  | 93 => ⟨S2x8x2048x256, .f32⟩
  | 94 => ⟨S4x2x64x8x2048, .f32⟩
  | 95 => ⟨S2x8x2048x4x64, .f32⟩
  | 96 => ⟨S2x8x2048x256, .f32⟩
  | 97 => ⟨S2x1x1x256, .f32⟩
  | 98 => ⟨S2x8x2048x256, .f32⟩
  | 99 => ⟨S2x8x2048x256, .f32⟩
  | 100 => ⟨S2x8x2048x256, .f32⟩
  | 101 => ⟨S2x8x2048x256, .f32⟩
  | 102 => ⟨S_, .f32⟩
  | 103 => ⟨S2x8x2048x256, .f32⟩
  | 104 => ⟨S2x8x2048x256, .f32⟩
  | 105 => ⟨S_, .f32⟩
  | 106 => ⟨S2x8x2048x256, .f32⟩
  | 107 => ⟨S2x8x2048x256, .f32⟩
  | 108 => ⟨S_, .f32⟩
  | 109 => ⟨S2x8x2048x256, .f32⟩
  | 110 => ⟨S2x8x2048x256, .f32⟩
  | 111 => ⟨S2x256, .f32⟩
  | 112 => ⟨S_, .f32⟩
  | 113 => ⟨S2x256, .f32⟩
  | 114 => ⟨S2x256, .f32⟩
  | 115 => ⟨S2x256, .f32⟩
  | 116 => ⟨S2x256, .f32⟩
  | 117 => ⟨S2x256, .i1⟩
  | 118 => ⟨S2x256, .f32⟩
  | 119 => ⟨S2x256, .f32⟩
  | 120 => ⟨S2x256, .f32⟩
  | 121 => ⟨S2x256, .f32⟩
  | 122 => ⟨S2x256, .f32⟩
  | 123 => ⟨S2x256, .f32⟩
  | 124 => ⟨S2x256, .f32⟩
  | 125 => ⟨S2x256, .f32⟩
  | 126 => ⟨S2x1x1x256, .f32⟩
  | 127 => ⟨S2x8x2048x256, .f32⟩
  | _ => ⟨S16384x3584, .f32⟩

abbrev hbmTy0_1 (i : Nat) : BufTy := match i % 128 with
  | 0 => ⟨S2x8x2048x256, .f32⟩
  | 1 => ⟨S2x8x2048x256, .f32⟩
  | 2 => ⟨S_, .f32⟩
  | 3 => ⟨S2x8x2048x256, .f32⟩
  | 4 => ⟨S2x8x2048x256, .f32⟩
  | 5 => ⟨S2x8x2048x256, .f32⟩
  | 6 => ⟨S2x8x2048x256, .f32⟩
  | 7 => ⟨S2x8x2048x256, .f32⟩
  | 8 => ⟨S2x8x2048x256, .f32⟩
  | 9 => ⟨S1x8x2048x256, .f32⟩
  | 10 => ⟨S2x8x2048x256, .f32⟩
  | 11 => ⟨S2x8x2048x256, .f32⟩
  | 12 => ⟨S1x8x2048x256, .f32⟩
  | 13 => ⟨S8x2048x256, .f32⟩
  | 14 => ⟨S1x8x2048x256, .f32⟩
  | 15 => ⟨S8x2048x256, .f32⟩
  | 16 => ⟨S8x2048x256, .f32⟩
  | 17 => ⟨S1x8x2048x256, .f32⟩
  | 18 => ⟨S1x8x2048x256, .f32⟩
  | 19 => ⟨S2x8x2048x256, .f32⟩
  | 20 => ⟨S1x8x2048x256, .f32⟩
  | 21 => ⟨S8x2048x256, .f32⟩
  | 22 => ⟨S1x8x2048x256, .f32⟩
  | 23 => ⟨S8x2048x256, .f32⟩
  | 24 => ⟨S8x2048x256, .f32⟩
  | 25 => ⟨S1x8x2048x256, .f32⟩
  | 26 => ⟨S1x8x2048x256, .f32⟩
  | 27 => ⟨S2x8x2048x256, .f32⟩
  | 28 => ⟨S2x8x1024x256, .f32⟩
  | 29 => ⟨S2x8x1024x256, .f32⟩
  | 30 => ⟨S2x8x1024x256, .f32⟩
  | 31 => ⟨S2x8x1024x256, .f32⟩
  | 32 => ⟨S2x8x1024x256, .f32⟩
  | 33 => ⟨S2x8x1024x256, .f32⟩
  | 34 => ⟨S2x8x1024x256, .f32⟩
  | 35 => ⟨S2x8x512x256, .f32⟩
  | 36 => ⟨S2x8x512x256, .f32⟩
  | 37 => ⟨S2x8x512x256, .f32⟩
  | 38 => ⟨S2x8x512x256, .f32⟩
  | 39 => ⟨S2x8x512x256, .f32⟩
  | 40 => ⟨S2x8x512x256, .f32⟩
  | 41 => ⟨S2x8x512x256, .f32⟩
  | 42 => ⟨S2x8x256x256, .f32⟩
  | 43 => ⟨S2x8x256x256, .f32⟩
  | 44 => ⟨S2x8x256x256, .f32⟩
  | 45 => ⟨S2x8x256x256, .f32⟩
  | 46 => ⟨S2x8x256x256, .f32⟩
  | 47 => ⟨S2x8x256x256, .f32⟩
  | 48 => ⟨S2x8x256x256, .f32⟩
  | 49 => ⟨S2x8x128x256, .f32⟩
  | 50 => ⟨S2x8x128x256, .f32⟩
  | 51 => ⟨S2x8x128x256, .f32⟩
  | 52 => ⟨S2x8x128x256, .f32⟩
  | 53 => ⟨S2x8x128x256, .f32⟩
  | 54 => ⟨S2x8x128x256, .f32⟩
  | 55 => ⟨S2x8x128x256, .f32⟩
  | 56 => ⟨S2x8x64x256, .f32⟩
  | 57 => ⟨S2x8x64x256, .f32⟩
  | 58 => ⟨S2x8x64x256, .f32⟩
  | 59 => ⟨S2x8x64x256, .f32⟩
  | 60 => ⟨S2x8x64x256, .f32⟩
  | 61 => ⟨S2x8x64x256, .f32⟩
  | 62 => ⟨S2x8x64x256, .f32⟩
  | 63 => ⟨S2x8x32x256, .f32⟩
  | 64 => ⟨S2x8x32x256, .f32⟩
  | 65 => ⟨S2x8x32x256, .f32⟩
  | 66 => ⟨S2x8x32x256, .f32⟩
  | 67 => ⟨S2x8x32x256, .f32⟩
  | 68 => ⟨S2x8x32x256, .f32⟩
  | 69 => ⟨S2x8x32x256, .f32⟩
  | 70 => ⟨S2x8x16x256, .f32⟩
  | 71 => ⟨S2x8x16x256, .f32⟩
  | 72 => ⟨S2x8x16x256, .f32⟩
  | 73 => ⟨S2x8x16x256, .f32⟩
  | 74 => ⟨S2x8x16x256, .f32⟩
  | 75 => ⟨S2x8x16x256, .f32⟩
  | 76 => ⟨S2x8x16x256, .f32⟩
  | 77 => ⟨S2x8x8x256, .f32⟩
  | 78 => ⟨S2x8x8x256, .f32⟩
  | 79 => ⟨S2x8x8x256, .f32⟩
  | 80 => ⟨S2x8x8x256, .f32⟩
  | 81 => ⟨S2x8x8x256, .f32⟩
  | 82 => ⟨S2x8x8x256, .f32⟩
  | 83 => ⟨S2x8x8x256, .f32⟩
  | 84 => ⟨S2x8x4x256, .f32⟩
  | 85 => ⟨S2x8x4x256, .f32⟩
  | 86 => ⟨S2x8x4x256, .f32⟩
  | 87 => ⟨S2x8x4x256, .f32⟩
  | 88 => ⟨S2x8x4x256, .f32⟩
  | 89 => ⟨S2x8x4x256, .f32⟩
  | 90 => ⟨S2x8x4x256, .f32⟩
  | 91 => ⟨S2x8x2x256, .f32⟩
  | 92 => ⟨S2x8x2x256, .f32⟩
  | 93 => ⟨S2x8x2x256, .f32⟩
  | 94 => ⟨S2x8x2x256, .f32⟩
  | 95 => ⟨S2x8x2x256, .f32⟩
  | 96 => ⟨S2x8x2x256, .f32⟩
  | 97 => ⟨S2x8x2x256, .f32⟩
  | 98 => ⟨S2x8x1x256, .f32⟩
  | 99 => ⟨S2x8x1x256, .f32⟩
  | 100 => ⟨S2x8x1x256, .f32⟩
  | 101 => ⟨S2x8x1x256, .f32⟩
  | 102 => ⟨S2x8x1x256, .f32⟩
  | 103 => ⟨S2x8x1x256, .f32⟩
  | 104 => ⟨S2x8x1x256, .f32⟩
  | 105 => ⟨S2x8x0x256, .f32⟩
  | 106 => ⟨S2x8x0x256, .f32⟩
  | 107 => ⟨S2x8x0x256, .f32⟩
  | 108 => ⟨S2x8x0x256, .f32⟩
  | 109 => ⟨S2x8x0x256, .f32⟩
  | 110 => ⟨S2x8x0x256, .f32⟩
  | 111 => ⟨S2x8x0x256, .f32⟩
  | 112 => ⟨S2x8x1x256, .f32⟩
  | 113 => ⟨S2x8x1x256, .f32⟩
  | 114 => ⟨S2x8x1x256, .f32⟩
  | 115 => ⟨S2x8x1x256, .f32⟩
  | 116 => ⟨S_, .f32⟩
  | 117 => ⟨S2x8x2x256, .f32⟩
  | 118 => ⟨S_, .f32⟩
  | 119 => ⟨S2x8x2x256, .f32⟩
  | 120 => ⟨S2x8x2x256, .f32⟩
  | 121 => ⟨S_, .f32⟩
  | 122 => ⟨S2x8x2x256, .f32⟩
  | 123 => ⟨S_, .f32⟩
  | 124 => ⟨S2x8x2x256, .f32⟩
  | 125 => ⟨S2x8x2x256, .f32⟩
  | 126 => ⟨S2x8x1x256, .f32⟩
  | 127 => ⟨S2x8x1x256, .f32⟩
  | _ => ⟨S16384x3584, .f32⟩

abbrev hbmTy0_2 (i : Nat) : BufTy := match i % 128 with
  | 0 => ⟨S2x8x1x256, .f32⟩
  | 1 => ⟨S2x8x1x256, .f32⟩
  | 2 => ⟨S2x8x1x256, .f32⟩
  | 3 => ⟨S2x8x1x256, .f32⟩
  | 4 => ⟨S2x8x1x256, .f32⟩
  | 5 => ⟨S2x8x1x256, .f32⟩
  | 6 => ⟨S2x8x2x256, .f32⟩
  | 7 => ⟨S2x8x1x256, .f32⟩
  | 8 => ⟨S2x8x2x256, .f32⟩
  | 9 => ⟨S_, .f32⟩
  | 10 => ⟨S2x8x4x256, .f32⟩
  | 11 => ⟨S_, .f32⟩
  | 12 => ⟨S2x8x4x256, .f32⟩
  | 13 => ⟨S2x8x4x256, .f32⟩
  | 14 => ⟨S_, .f32⟩
  | 15 => ⟨S2x8x4x256, .f32⟩
  | 16 => ⟨S_, .f32⟩
  | 17 => ⟨S2x8x4x256, .f32⟩
  | 18 => ⟨S2x8x4x256, .f32⟩
  | 19 => ⟨S2x8x3x256, .f32⟩
  | 20 => ⟨S2x8x3x256, .f32⟩
  | 21 => ⟨S2x8x3x256, .f32⟩
  | 22 => ⟨S2x8x3x256, .f32⟩
  | 23 => ⟨S2x8x3x256, .f32⟩
  | 24 => ⟨S2x8x3x256, .f32⟩
  | 25 => ⟨S2x8x3x256, .f32⟩
  | 26 => ⟨S2x8x1x256, .f32⟩
  | 27 => ⟨S2x8x4x256, .f32⟩
  | 28 => ⟨S2x8x1x256, .f32⟩
  | 29 => ⟨S2x8x4x256, .f32⟩
  | 30 => ⟨S_, .f32⟩
  | 31 => ⟨S2x8x8x256, .f32⟩
  | 32 => ⟨S_, .f32⟩
  | 33 => ⟨S2x8x8x256, .f32⟩
  | 34 => ⟨S2x8x8x256, .f32⟩
  | 35 => ⟨S_, .f32⟩
  | 36 => ⟨S2x8x8x256, .f32⟩
  | 37 => ⟨S_, .f32⟩
  | 38 => ⟨S2x8x8x256, .f32⟩
  | 39 => ⟨S2x8x8x256, .f32⟩
  | 40 => ⟨S2x8x7x256, .f32⟩
  | 41 => ⟨S2x8x7x256, .f32⟩
  | 42 => ⟨S2x8x7x256, .f32⟩
  | 43 => ⟨S2x8x7x256, .f32⟩
  | 44 => ⟨S2x8x7x256, .f32⟩
  | 45 => ⟨S2x8x7x256, .f32⟩
  | 46 => ⟨S2x8x7x256, .f32⟩
  | 47 => ⟨S2x8x1x256, .f32⟩
  | 48 => ⟨S2x8x8x256, .f32⟩
  | 49 => ⟨S2x8x1x256, .f32⟩
  | 50 => ⟨S2x8x8x256, .f32⟩
  | 51 => ⟨S_, .f32⟩
  | 52 => ⟨S2x8x16x256, .f32⟩
  | 53 => ⟨S_, .f32⟩
  | 54 => ⟨S2x8x16x256, .f32⟩
  | 55 => ⟨S2x8x16x256, .f32⟩
  | 56 => ⟨S_, .f32⟩
  | 57 => ⟨S2x8x16x256, .f32⟩
  | 58 => ⟨S_, .f32⟩
  | 59 => ⟨S2x8x16x256, .f32⟩
  | 60 => ⟨S2x8x16x256, .f32⟩
  | 61 => ⟨S2x8x15x256, .f32⟩
  | 62 => ⟨S2x8x15x256, .f32⟩
  | 63 => ⟨S2x8x15x256, .f32⟩
  | 64 => ⟨S2x8x15x256, .f32⟩
  | 65 => ⟨S2x8x15x256, .f32⟩
  | 66 => ⟨S2x8x15x256, .f32⟩
  | 67 => ⟨S2x8x15x256, .f32⟩
  | 68 => ⟨S2x8x1x256, .f32⟩
  | 69 => ⟨S2x8x16x256, .f32⟩
  | 70 => ⟨S2x8x1x256, .f32⟩
  | 71 => ⟨S2x8x16x256, .f32⟩
  | 72 => ⟨S_, .f32⟩
  | 73 => ⟨S2x8x32x256, .f32⟩
  | 74 => ⟨S_, .f32⟩
  | 75 => ⟨S2x8x32x256, .f32⟩
  | 76 => ⟨S2x8x32x256, .f32⟩
  | 77 => ⟨S_, .f32⟩
  | 78 => ⟨S2x8x32x256, .f32⟩
  | 79 => ⟨S_, .f32⟩
  | 80 => ⟨S2x8x32x256, .f32⟩
  | 81 => ⟨S2x8x32x256, .f32⟩
  | 82 => ⟨S2x8x31x256, .f32⟩
  | 83 => ⟨S2x8x31x256, .f32⟩
  | 84 => ⟨S2x8x31x256, .f32⟩
  | 85 => ⟨S2x8x31x256, .f32⟩
  | 86 => ⟨S2x8x31x256, .f32⟩
  | 87 => ⟨S2x8x31x256, .f32⟩
  | 88 => ⟨S2x8x31x256, .f32⟩
  | 89 => ⟨S2x8x1x256, .f32⟩
  | 90 => ⟨S2x8x32x256, .f32⟩
  | 91 => ⟨S2x8x1x256, .f32⟩
  | 92 => ⟨S2x8x32x256, .f32⟩
  | 93 => ⟨S_, .f32⟩
  | 94 => ⟨S2x8x64x256, .f32⟩
  | 95 => ⟨S_, .f32⟩
  | 96 => ⟨S2x8x64x256, .f32⟩
  | 97 => ⟨S2x8x64x256, .f32⟩
  | 98 => ⟨S_, .f32⟩
  | 99 => ⟨S2x8x64x256, .f32⟩
  | 100 => ⟨S_, .f32⟩
  | 101 => ⟨S2x8x64x256, .f32⟩
  | 102 => ⟨S2x8x64x256, .f32⟩
  | 103 => ⟨S2x8x63x256, .f32⟩
  | 104 => ⟨S2x8x63x256, .f32⟩
  | 105 => ⟨S2x8x63x256, .f32⟩
  | 106 => ⟨S2x8x63x256, .f32⟩
  | 107 => ⟨S2x8x63x256, .f32⟩
  | 108 => ⟨S2x8x63x256, .f32⟩
  | 109 => ⟨S2x8x63x256, .f32⟩
  | 110 => ⟨S2x8x1x256, .f32⟩
  | 111 => ⟨S2x8x64x256, .f32⟩
  | 112 => ⟨S2x8x1x256, .f32⟩
  | 113 => ⟨S2x8x64x256, .f32⟩
  | 114 => ⟨S_, .f32⟩
  | 115 => ⟨S2x8x128x256, .f32⟩
  | 116 => ⟨S_, .f32⟩
  | 117 => ⟨S2x8x128x256, .f32⟩
  | 118 => ⟨S2x8x128x256, .f32⟩
  | 119 => ⟨S_, .f32⟩
  | 120 => ⟨S2x8x128x256, .f32⟩
  | 121 => ⟨S_, .f32⟩
  | 122 => ⟨S2x8x128x256, .f32⟩
  | 123 => ⟨S2x8x128x256, .f32⟩
  | 124 => ⟨S2x8x127x256, .f32⟩
  | 125 => ⟨S2x8x127x256, .f32⟩
  | 126 => ⟨S2x8x127x256, .f32⟩
  | 127 => ⟨S2x8x127x256, .f32⟩
  | _ => ⟨S16384x3584, .f32⟩

abbrev hbmTy0_3 (i : Nat) : BufTy := match i % 128 with
  | 0 => ⟨S2x8x127x256, .f32⟩
  | 1 => ⟨S2x8x127x256, .f32⟩
  | 2 => ⟨S2x8x127x256, .f32⟩
  | 3 => ⟨S2x8x1x256, .f32⟩
  | 4 => ⟨S2x8x128x256, .f32⟩
  | 5 => ⟨S2x8x1x256, .f32⟩
  | 6 => ⟨S2x8x128x256, .f32⟩
  | 7 => ⟨S_, .f32⟩
  | 8 => ⟨S2x8x256x256, .f32⟩
  | 9 => ⟨S_, .f32⟩
  | 10 => ⟨S2x8x256x256, .f32⟩
  | 11 => ⟨S2x8x256x256, .f32⟩
  | 12 => ⟨S_, .f32⟩
  | 13 => ⟨S2x8x256x256, .f32⟩
  | 14 => ⟨S_, .f32⟩
  | 15 => ⟨S2x8x256x256, .f32⟩
  | 16 => ⟨S2x8x256x256, .f32⟩
  | 17 => ⟨S2x8x255x256, .f32⟩
  | 18 => ⟨S2x8x255x256, .f32⟩
  | 19 => ⟨S2x8x255x256, .f32⟩
  | 20 => ⟨S2x8x255x256, .f32⟩
  | 21 => ⟨S2x8x255x256, .f32⟩
  | 22 => ⟨S2x8x255x256, .f32⟩
  | 23 => ⟨S2x8x255x256, .f32⟩
  | 24 => ⟨S2x8x1x256, .f32⟩
  | 25 => ⟨S2x8x256x256, .f32⟩
  | 26 => ⟨S2x8x1x256, .f32⟩
  | 27 => ⟨S2x8x256x256, .f32⟩
  | 28 => ⟨S_, .f32⟩
  | 29 => ⟨S2x8x512x256, .f32⟩
  | 30 => ⟨S_, .f32⟩
  | 31 => ⟨S2x8x512x256, .f32⟩
  | 32 => ⟨S2x8x512x256, .f32⟩
  | 33 => ⟨S_, .f32⟩
  | 34 => ⟨S2x8x512x256, .f32⟩
  | 35 => ⟨S_, .f32⟩
  | 36 => ⟨S2x8x512x256, .f32⟩
  | 37 => ⟨S2x8x512x256, .f32⟩
  | 38 => ⟨S2x8x511x256, .f32⟩
  | 39 => ⟨S2x8x511x256, .f32⟩
  | 40 => ⟨S2x8x511x256, .f32⟩
  | 41 => ⟨S2x8x511x256, .f32⟩
  | 42 => ⟨S2x8x511x256, .f32⟩
  | 43 => ⟨S2x8x511x256, .f32⟩
  | 44 => ⟨S2x8x511x256, .f32⟩
  | 45 => ⟨S2x8x1x256, .f32⟩
  | 46 => ⟨S2x8x512x256, .f32⟩
  | 47 => ⟨S2x8x1x256, .f32⟩
  | 48 => ⟨S2x8x512x256, .f32⟩
  | 49 => ⟨S_, .f32⟩
  | 50 => ⟨S2x8x1024x256, .f32⟩
  | 51 => ⟨S_, .f32⟩
  | 52 => ⟨S2x8x1024x256, .f32⟩
  | 53 => ⟨S2x8x1024x256, .f32⟩
  | 54 => ⟨S_, .f32⟩
  | 55 => ⟨S2x8x1024x256, .f32⟩
  | 56 => ⟨S_, .f32⟩
  | 57 => ⟨S2x8x1024x256, .f32⟩
  | 58 => ⟨S2x8x1024x256, .f32⟩
  | 59 => ⟨S2x8x1023x256, .f32⟩
  | 60 => ⟨S2x8x1023x256, .f32⟩
  | 61 => ⟨S2x8x1023x256, .f32⟩
  | 62 => ⟨S2x8x1023x256, .f32⟩
  | 63 => ⟨S2x8x1023x256, .f32⟩
  | 64 => ⟨S2x8x1023x256, .f32⟩
  | 65 => ⟨S2x8x1023x256, .f32⟩
  | 66 => ⟨S2x8x1x256, .f32⟩
  | 67 => ⟨S2x8x1024x256, .f32⟩
  | 68 => ⟨S2x8x1x256, .f32⟩
  | 69 => ⟨S2x8x1024x256, .f32⟩
  | 70 => ⟨S_, .f32⟩
  | 71 => ⟨S2x8x2048x256, .f32⟩
  | 72 => ⟨S_, .f32⟩
  | 73 => ⟨S2x8x2048x256, .f32⟩
  | 74 => ⟨S2x8x2048x256, .f32⟩
  | 75 => ⟨S_, .f32⟩
  | 76 => ⟨S2x8x2048x256, .f32⟩
  | 77 => ⟨S_, .f32⟩
  | 78 => ⟨S2x8x2048x256, .f32⟩
  | 79 => ⟨S2x8x2048x256, .f32⟩
  | 80 => ⟨S1x8x2048x256, .f32⟩
  | 81 => ⟨S8x2048x256, .f32⟩
  | 82 => ⟨S1x8x2048x256, .f32⟩
  | 83 => ⟨S8x2048x256, .f32⟩
  | 84 => ⟨S8x2048x256, .f32⟩
  | 85 => ⟨S8x2048x256, .f32⟩
  | 86 => ⟨S8x2048x256, .f32⟩
  | 87 => ⟨S16384x256, .f32⟩
  | _ => ⟨S16384x3584, .f32⟩

abbrev hbmTy (i : Nat) : BufTy := match i / 128 with
  | 0 => hbmTy0_0 i
  | 1 => hbmTy0_1 i
  | 2 => hbmTy0_2 i
  | 3 => hbmTy0_3 i
  | _ => ⟨S16384x3584, .f32⟩

abbrev bufTy : (tb : Table) → Fin (tcTables nBuf tb) → BufTy
  | .hbm, ⟨i, _⟩ => hbmTy i
  | _, _ => ⟨S16384x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_4 : Ref sig .tc := ⟨.hbm, 88, rfl⟩
abbrev main_v73 : Ref sig .tc := ⟨.hbm, 89, rfl⟩
abbrev main_v74 : Ref sig .tc := ⟨.hbm, 90, rfl⟩
abbrev main_cst_5 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_6 : Ref sig .tc := ⟨.hbm, 102, rfl⟩
abbrev main_v85 : Ref sig .tc := ⟨.hbm, 103, rfl⟩
abbrev main_v86 : Ref sig .tc := ⟨.hbm, 104, rfl⟩
abbrev main_cst_7 : Ref sig .tc := ⟨.hbm, 105, rfl⟩
abbrev main_v87 : Ref sig .tc := ⟨.hbm, 106, rfl⟩
abbrev main_v88 : Ref sig .tc := ⟨.hbm, 107, rfl⟩
abbrev main_cst_8 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_9 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_cst_10 : Ref sig .tc := ⟨.hbm, 244, rfl⟩
abbrev main_v210 : Ref sig .tc := ⟨.hbm, 245, rfl⟩
abbrev main_cst_11 : Ref sig .tc := ⟨.hbm, 246, rfl⟩
abbrev main_v211 : Ref sig .tc := ⟨.hbm, 247, rfl⟩
abbrev main_v212 : Ref sig .tc := ⟨.hbm, 248, rfl⟩
abbrev main_cst_12 : Ref sig .tc := ⟨.hbm, 249, rfl⟩
abbrev main_v213 : Ref sig .tc := ⟨.hbm, 250, rfl⟩
abbrev main_cst_13 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_cst_14 : Ref sig .tc := ⟨.hbm, 265, rfl⟩
abbrev main_v227 : Ref sig .tc := ⟨.hbm, 266, rfl⟩
abbrev main_cst_15 : Ref sig .tc := ⟨.hbm, 267, rfl⟩
abbrev main_v228 : Ref sig .tc := ⟨.hbm, 268, rfl⟩
abbrev main_v229 : Ref sig .tc := ⟨.hbm, 269, rfl⟩
abbrev main_cst_16 : Ref sig .tc := ⟨.hbm, 270, rfl⟩
abbrev main_v230 : Ref sig .tc := ⟨.hbm, 271, rfl⟩
abbrev main_cst_17 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_cst_18 : Ref sig .tc := ⟨.hbm, 286, rfl⟩
abbrev main_v244 : Ref sig .tc := ⟨.hbm, 287, rfl⟩
abbrev main_cst_19 : Ref sig .tc := ⟨.hbm, 288, rfl⟩
abbrev main_v245 : Ref sig .tc := ⟨.hbm, 289, rfl⟩
abbrev main_v246 : Ref sig .tc := ⟨.hbm, 290, rfl⟩
abbrev main_cst_20 : Ref sig .tc := ⟨.hbm, 291, rfl⟩
abbrev main_v247 : Ref sig .tc := ⟨.hbm, 292, rfl⟩
abbrev main_cst_21 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_cst_22 : Ref sig .tc := ⟨.hbm, 307, rfl⟩
abbrev main_v261 : Ref sig .tc := ⟨.hbm, 308, rfl⟩
abbrev main_cst_23 : Ref sig .tc := ⟨.hbm, 309, rfl⟩
abbrev main_v262 : Ref sig .tc := ⟨.hbm, 310, rfl⟩
abbrev main_v263 : Ref sig .tc := ⟨.hbm, 311, rfl⟩
abbrev main_cst_24 : Ref sig .tc := ⟨.hbm, 312, rfl⟩
abbrev main_v264 : Ref sig .tc := ⟨.hbm, 313, rfl⟩
abbrev main_cst_25 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_cst_26 : Ref sig .tc := ⟨.hbm, 328, rfl⟩
abbrev main_v278 : Ref sig .tc := ⟨.hbm, 329, rfl⟩
abbrev main_cst_27 : Ref sig .tc := ⟨.hbm, 330, rfl⟩
abbrev main_v279 : Ref sig .tc := ⟨.hbm, 331, rfl⟩
abbrev main_v280 : Ref sig .tc := ⟨.hbm, 332, rfl⟩
abbrev main_cst_28 : Ref sig .tc := ⟨.hbm, 333, rfl⟩
abbrev main_v281 : Ref sig .tc := ⟨.hbm, 334, rfl⟩
abbrev main_cst_29 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_cst_30 : Ref sig .tc := ⟨.hbm, 349, rfl⟩
abbrev main_v295 : Ref sig .tc := ⟨.hbm, 350, rfl⟩
abbrev main_cst_31 : Ref sig .tc := ⟨.hbm, 351, rfl⟩
abbrev main_v296 : Ref sig .tc := ⟨.hbm, 352, rfl⟩
abbrev main_v297 : Ref sig .tc := ⟨.hbm, 353, rfl⟩
abbrev main_cst_32 : Ref sig .tc := ⟨.hbm, 354, rfl⟩
abbrev main_v298 : Ref sig .tc := ⟨.hbm, 355, rfl⟩
abbrev main_cst_33 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev main_v311 : Ref sig .tc := ⟨.hbm, 369, rfl⟩
abbrev main_cst_34 : Ref sig .tc := ⟨.hbm, 370, rfl⟩
abbrev main_v312 : Ref sig .tc := ⟨.hbm, 371, rfl⟩
abbrev main_cst_35 : Ref sig .tc := ⟨.hbm, 372, rfl⟩
abbrev main_v313 : Ref sig .tc := ⟨.hbm, 373, rfl⟩
abbrev main_v314 : Ref sig .tc := ⟨.hbm, 374, rfl⟩
abbrev main_cst_36 : Ref sig .tc := ⟨.hbm, 375, rfl⟩
abbrev main_v315 : Ref sig .tc := ⟨.hbm, 376, rfl⟩
abbrev main_cst_37 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_cst_38 : Ref sig .tc := ⟨.hbm, 391, rfl⟩
abbrev main_v329 : Ref sig .tc := ⟨.hbm, 392, rfl⟩
abbrev main_cst_39 : Ref sig .tc := ⟨.hbm, 393, rfl⟩
abbrev main_v330 : Ref sig .tc := ⟨.hbm, 394, rfl⟩
abbrev main_v331 : Ref sig .tc := ⟨.hbm, 395, rfl⟩
abbrev main_cst_40 : Ref sig .tc := ⟨.hbm, 396, rfl⟩
abbrev main_v332 : Ref sig .tc := ⟨.hbm, 397, rfl⟩
abbrev main_cst_41 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_cst_42 : Ref sig .tc := ⟨.hbm, 412, rfl⟩
abbrev main_v346 : Ref sig .tc := ⟨.hbm, 413, rfl⟩
abbrev main_cst_43 : Ref sig .tc := ⟨.hbm, 414, rfl⟩
abbrev main_v347 : Ref sig .tc := ⟨.hbm, 415, rfl⟩
abbrev main_v348 : Ref sig .tc := ⟨.hbm, 416, rfl⟩
abbrev main_cst_44 : Ref sig .tc := ⟨.hbm, 417, rfl⟩
abbrev main_v349 : Ref sig .tc := ⟨.hbm, 418, rfl⟩
abbrev main_cst_45 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_cst_46 : Ref sig .tc := ⟨.hbm, 433, rfl⟩
abbrev main_v363 : Ref sig .tc := ⟨.hbm, 434, rfl⟩
abbrev main_cst_47 : Ref sig .tc := ⟨.hbm, 435, rfl⟩
abbrev main_v364 : Ref sig .tc := ⟨.hbm, 436, rfl⟩
abbrev main_v365 : Ref sig .tc := ⟨.hbm, 437, rfl⟩
abbrev main_cst_48 : Ref sig .tc := ⟨.hbm, 438, rfl⟩
abbrev main_v366 : Ref sig .tc := ⟨.hbm, 439, rfl⟩
abbrev main_cst_49 : Ref sig .tc := ⟨.hbm, 440, rfl⟩
abbrev main_v367 : Ref sig .tc := ⟨.hbm, 441, rfl⟩
abbrev main_v368 : Ref sig .tc := ⟨.hbm, 442, rfl⟩
abbrev main_v369 : Ref sig .tc := ⟨.hbm, 443, rfl⟩
abbrev main_v370 : Ref sig .tc := ⟨.hbm, 444, rfl⟩
abbrev main_v371 : Ref sig .tc := ⟨.hbm, 445, rfl⟩
abbrev main_v372 : Ref sig .tc := ⟨.hbm, 446, rfl⟩
abbrev main_v373 : Ref sig .tc := ⟨.hbm, 447, rfl⟩
abbrev main_v374 : Ref sig .tc := ⟨.hbm, 448, rfl⟩
abbrev main_v375 : Ref sig .tc := ⟨.hbm, 449, rfl⟩
abbrev main_v376 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_cst_50 : Ref sig .tc := ⟨.hbm, 454, rfl⟩
abbrev main_v380 : Ref sig .tc := ⟨.hbm, 455, rfl⟩
abbrev main_cst_51 : Ref sig .tc := ⟨.hbm, 456, rfl⟩
abbrev main_v381 : Ref sig .tc := ⟨.hbm, 457, rfl⟩
abbrev main_v382 : Ref sig .tc := ⟨.hbm, 458, rfl⟩
abbrev main_cst_52 : Ref sig .tc := ⟨.hbm, 459, rfl⟩
abbrev main_v383 : Ref sig .tc := ⟨.hbm, 460, rfl⟩
abbrev main_cst_53 : Ref sig .tc := ⟨.hbm, 461, rfl⟩
abbrev main_v384 : Ref sig .tc := ⟨.hbm, 462, rfl⟩
abbrev main_v385 : Ref sig .tc := ⟨.hbm, 463, rfl⟩
abbrev main_v386 : Ref sig .tc := ⟨.hbm, 464, rfl⟩
abbrev main_v387 : Ref sig .tc := ⟨.hbm, 465, rfl⟩
abbrev main_v388 : Ref sig .tc := ⟨.hbm, 466, rfl⟩
abbrev main_v389 : Ref sig .tc := ⟨.hbm, 467, rfl⟩
abbrev main_v390 : Ref sig .tc := ⟨.hbm, 468, rfl⟩
abbrev main_v391 : Ref sig .tc := ⟨.hbm, 469, rfl⟩
abbrev main_v392 : Ref sig .tc := ⟨.hbm, 470, rfl⟩
abbrev main_v393 : Ref sig .tc := ⟨.hbm, 471, rfl⟩

abbrev nD : Nat := 1
abbrev τ : Topo := Topo.v7x

variable {F : FTy → Type} [FloatOps F]
-- ==== Proof.LruRun.lean ====
/- The run of the recurrence kernel's body. Its output is computed from the scratch buffers' contents, which the body
   first fills, so the pieces that it writes are stated as functions of what the scratch buffers hold at its start. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces that the body writes into its output block, last first, as a function of what the three scratch buffers hold
    at the start, with the proof that the body runs: it leaves its inputs as they were, its scratch buffers at some
    contents and its output block with these pieces written. -/
noncomputable def lruRun (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
    (x0 : Vec F S2048x512 .f32) (x1 : Vec F S4x256 .f32) (x2 : Vec F S1x256 .f32) (x3 : Vec F S2x256x256 .bf16) (x4 : Vec F S2x256 .f32) (x5 : Vec F S2x256x256 .bf16) (x6 : Vec F S2x256 .f32) (x7 : Vec F S2x256 .f32) :
    { L8 : BufTy.Contents (Elt F) arg10.view.ty → BufTy.Contents (Elt F) arg11.view.ty → BufTy.Contents (Elt F) arg12.view.ty → List (View.Piece (Elt F) S2048x256 .f32) //
      ∀ (E : Set ℕ) (K : PUnit → sProp 𝕄) (g0 : BufTy.Contents (Elt F) arg10.view.ty) (g1 : BufTy.Contents (Elt F) arg11.view.ty) (g2 : BufTy.Contents (Elt F) arg12.view.ty),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (arg10.view.loc (c : Thread nD τ) ↦[arg10.view.set]{fullShare} g0) ∗ (arg11.view.loc (c : Thread nD τ) ↦[arg11.view.set]{fullShare} g1) ∗ (arg12.view.loc (c : Thread nD τ) ↦[arg12.view.set]{fullShare} g2)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f (L8 g0 g1 g2)) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12) K } := by
  refine ⟨?_, fun E K g0 g1 g2 => ?run⟩
  case run =>
    simp only [cc0_rglru_eq_skeleton]; unfold cc0_rglru_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HS0, HS1, HS2, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel4Ideal.Gen

end
-- ==== Proof.LruFrame.lean ====
/- The frame of the recurrence kernel: its body's run, the pipeline's data with the block that the body leaves, and the
   whole program's run. -/
module

public import proofs.«01_k».proof.Proof.LruRun
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section body

variable (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
variable (x0 : Vec F S2048x512 .f32) (x1 : Vec F S4x256 .f32) (x2 : Vec F S1x256 .f32) (x3 : Vec F S2x256x256 .bf16) (x4 : Vec F S2x256 .f32) (x5 : Vec F S2x256x256 .bf16) (x6 : Vec F S2x256 .f32) (x7 : Vec F S2x256 .f32)

/-- The pieces that the first loop writes into the gates', the factors' and the terms' buffers. -/
def lruPre := pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) (Scf.trips (0#32) (Scalar.addi 0#32 8#32) 1#32)

/-- The pieces that the second loop, the scan, writes into the factors' buffer over the first loop's. -/
def lruScan (g1 : BufTy.Contents (Elt F) arg11.view.ty) (g2 : BufTy.Contents (Elt F) arg12.view.ty) :=
  (st_k0_t2 (F := F) Variants.none c none i arg1 harg1 arg2 harg2 arg3 harg3 arg4 harg4 arg5 harg5 arg6 harg6 arg7 harg7 arg8 harg8 arg9 harg9 arg10 harg10 arg11 harg11 arg12 harg12 lruRun.sl.v1
    (arg12.view.writes (Elt F) g2 (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.2)
    (arg11.view.writes (Elt F) g1 (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1)
    (k0_pay3, k0_pay3) (Scf.trips (0#32) (Scalar.addi 0#32 32#32) 1#32)).2

/-- The pieces that the last loop writes, by what the scratch buffers hold at the start. -/
def lruPost (g0 : BufTy.Contents (Elt F) arg10.view.ty) (g1 : BufTy.Contents (Elt F) arg11.view.ty) (g2 : BufTy.Contents (Elt F) arg12.view.ty) :=
  pb_k0_t3 (F := F) Variants.none c none i arg1 harg1 arg2 harg2 arg3 harg3 arg4 harg4 arg5 harg5 arg6 harg6 arg7 harg7 arg8 harg8 arg9 harg9 arg10 harg10 arg11 harg11 arg12 harg12
    (arg10.view.writes (Elt F) g0 (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).1)
    (arg11.view.writes (Elt F) g1 (lruScan c i arg1 harg1 arg2 harg2 arg3 harg3 arg4 harg4 arg5 harg5 arg6 harg6 arg7 harg7 arg8 harg8 arg9 harg9 arg10 harg10 arg11 harg11 arg12 harg12 x0 x1 x2 x3 x4 x5 x6 x7 g1 g2 ++ (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1))
    (Scf.trips (0#32) (Scalar.addi 0#32 8#32) 1#32)

/-- The body's pieces, by loops. -/
theorem lruRun_eq (g0 g1 g2) : (lruRun c i arg1 harg1 arg2 harg2 arg3 harg3 arg4 harg4 arg5 harg5 arg6 harg6 arg7 harg7 arg8 harg8 arg9 harg9 arg10 harg10 arg11 harg11 arg12 harg12 x0 x1 x2 x3 x4 x5 x6 x7).1 g0 g1 g2 = lruPost c i arg1 harg1 arg2 harg2 arg3 harg3 arg4 harg4 arg5 harg5 arg6 harg6 arg7 harg7 arg8 harg8 arg9 harg9 arg10 harg10 arg11 harg11 arg12 harg12 x0 x1 x2 x3 x4 x5 x6 x7 g0 g1 g2 := by
  unfold lruRun lruPost lruScan lruPre
  rfl

/-- The first loop fills the gates' buffer, -/
theorem cover_gate (y : S2048x256.Idx) : ∃ pc ∈ (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).1, y ∈ pc.1.set :=
  View.cover_of_tiledL (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).1 S256x256.size (by sl_kernel_rfl) y

/-- the factors' buffer -/
theorem cover_factors (y : S2x2048x256.Idx) : ∃ pc ∈ (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1, y ∈ pc.1.set :=
  View.cover_of_tiledL (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1 S1x256x256.size (by sl_kernel_rfl) y

/-- and the terms' buffer. -/
theorem cover_terms (y : S2x2048x256.Idx) : ∃ pc ∈ (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.2, y ∈ pc.1.set :=
  View.cover_of_tiledL (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.2 S1x256x256.size (by sl_kernel_rfl) y

/-- The last loop fills the output block. -/
theorem cover_out (g0 g1 g2) (y : S2048x256.Idx) : ∃ pc ∈ lruPost c i arg1 harg1 arg2 harg2 arg3 harg3 arg4 harg4 arg5 harg5 arg6 harg6 arg7 harg7 arg8 harg8 arg9 harg9 arg10 harg10 arg11 harg11 arg12 harg12 x0 x1 x2 x3 x4 x5 x6 x7 g0 g1 g2, y ∈ pc.1.set :=
  View.cover_of_tiledL (lruPost c i arg1 harg1 arg2 harg2 arg3 harg3 arg4 harg4 arg5 harg5 arg6 harg6 arg7 harg7 arg8 harg8 arg9 harg9 arg10 harg10 arg11 harg11 arg12 harg12 x0 x1 x2 x3 x4 x5 x6 x7 g0 g1 g2) S256x256.size (by sl_kernel_rfl) y

/-- Pieces that cover a whole buffer leave the same contents whatever it held. -/
theorem writes_any {S : Shape} {e : EltTy} {a : Memref sig .tc .vmem S e} (ha : a.IsWhole) (L : List (View.Piece (Elt F) S e))
    (hL : ∀ y, ∃ pc ∈ L, y ∈ pc.1.set) (g g' : BufTy.Contents (Elt F) a.view.ty) :
    a.view.writes (Elt F) g L = a.view.writes (Elt F) g' L :=
  (ha.eq_unread (View.read_writes_of_cover a.view g a.view g' L hL)).trans (ha.eq_unread rfl).symm

/-- What the scratch buffers hold at the start doesn't matter. -/
theorem lruPost_any (g0 g1 g2 g0' g1' g2') :
    lruPost c i arg1 harg1 arg2 harg2 arg3 harg3 arg4 harg4 arg5 harg5 arg6 harg6 arg7 harg7 arg8 harg8 arg9 harg9 arg10 harg10 arg11 harg11 arg12 harg12 x0 x1 x2 x3 x4 x5 x6 x7 g0 g1 g2 = lruPost c i arg1 harg1 arg2 harg2 arg3 harg3 arg4 harg4 arg5 harg5 arg6 harg6 arg7 harg7 arg8 harg8 arg9 harg9 arg10 harg10 arg11 harg11 arg12 harg12 x0 x1 x2 x3 x4 x5 x6 x7 g0' g1' g2' := by
  have h0 := writes_any harg10 _ (cover_gate c i arg1 harg1 arg2 harg2 arg3 harg3 arg4 harg4 arg5 harg5 arg6 harg6 arg7 harg7 arg8 harg8 arg9 harg9 arg10 harg10 arg11 harg11 arg12 harg12 x0 x1 x2 x3 x4 x5 x6 x7) g0 g0'
  have h1 := writes_any harg11 _ (cover_factors c i arg1 harg1 arg2 harg2 arg3 harg3 arg4 harg4 arg5 harg5 arg6 harg6 arg7 harg7 arg8 harg8 arg9 harg9 arg10 harg10 arg11 harg11 arg12 harg12 x0 x1 x2 x3 x4 x5 x6 x7) g1 g1'
  have h2 := writes_any harg12 _ (cover_terms c i arg1 harg1 arg2 harg2 arg3 harg3 arg4 harg4 arg5 harg5 arg6 harg6 arg7 harg7 arg8 harg8 arg9 harg9 arg10 harg10 arg11 harg11 arg12 harg12 x0 x1 x2 x3 x4 x5 x6 x7) g2 g2'
  unfold lruPost
  rw [View.writes_append, View.writes_append]
  unfold lruScan
  rw [h0, h1, h2]

/-- What the body leaves in its output block. -/
def out0_A_8 : Vec F S2048x256 .f32 :=
  VO0_8.read (Elt F) (VO0_8.writes (Elt F) VO0_8.junk (lruPost c i arg1 harg1 arg2 harg2 arg3 harg3 arg4 harg4 arg5 harg5 arg6 harg6 arg7 harg7 arg8 harg8 arg9 harg9 arg10 harg10 arg11 harg11 arg12 harg12 x0 x1 x2 x3 x4 x5 x6 x7 arg10.view.junk arg11.view.junk arg12.view.junk))

end body
/-! ## What the outputs hold after each point -/

/-- What the outputs' staging buffers hold after the body at point `t`: the run's contents at
    the point's memrefs and input blocks. -/
def outsAt0 (c : Dev nD) (t : Fin cfg0.N) : Vec F S2048x256 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold owns
  icases HS0 with ⟨%ds0, %g0, -, HS0⟩
  icases HS1 with ⟨%ds1, %g1, -, HS1⟩
  icases HS2 with ⟨%ds2, %g2, -, HS2⟩
  iapply ((lruRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _ g0 g1 g2)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitr
  swap; · iexact H8
  ipureintro
  rw [lruRun_eq, lruPost_any _ _ _ _ _ _ _ _ _ _ _ _ _ _ _ _ _ _ _ _ _ _ _ _ _ _ _ _ _ _ _ _ _ _ g0 g1 g2 _ _ _]
  exact View.read_writes_of_cover _ _ _ _ _ (cover_out _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel4Ideal.Gen

end
-- ==== Proof.LruQuiet.lean ====
/- The frame of the recurrence kernel at the floats' words, from the run over any float values. -/
module

public import proofs.«01_k».proof.Defs
public import proofs.«01_k».proof.Proof.LruFrame
public import proofs.«01_k».proof.Proof.Gen.Kernel4

@[expose] public section

set_option maxRecDepth 65536
set_option maxHeartbeats 4000000

noncomputable section

namespace Cert.Proof

open Idealize.ShloMosaic Idealize.SL.Sem

local instance : Cert.Kernel4.Facts := Cert.Kernel4.Gen.facts

/-- The two programs' body tables are one: each has one label, whose body is the same text. -/
theorem bodies_same : Cert.Kernel4.defs₀ (F := Bits) = Cert.Kernel4Ideal.defs₀ (F := Bits) :=
  congrArg (Defs.onTc (nD := Cert.Kernel4Ideal.nD) (τ := Cert.Kernel4Ideal.τ) (sig := Cert.Kernel4Ideal.sig) (Λ := Cert.Kernel4Ideal.Λ₀))
    (funext fun l => match l with
      | ⟨0, _⟩ => funext fun _ => rfl
      | ⟨n + 1, h⟩ => absurd h (by omega))

/-- The two programs' tables are one. -/
theorem tables_same : Cert.Kernel4.defs (F := Bits) = Cert.Kernel4Ideal.defs (F := Bits) :=
  congrArg (Pipeline.defs (Cert.Kernel4Ideal.pcfgs (F := Bits))) bodies_same

/-- The recurrence kernel ends with its arguments unchanged and every counter at zero. -/
theorem quiet_kernel4 : Cert.quiescent_Kernel4 (hKernel4 := Cert.Kernel4.Gen.facts) := fun m ρ _ => by
  have h := Cert.Kernel4Ideal.Gen.frame (F := Bits) m ρ
  rw [← tables_same] at h
  exact h

end Cert.Proof

end
-- ==== Proof.LruTrip.lean ====
/- One trip of the recurrence kernel's first loop in closed form. -/
module

public import proofs.«01_k».proof.Proof.LruFrame

@[expose] public section

set_option maxRecDepth 65536

noncomputable section

namespace Cert.Lru

open Idealize.ShloMosaic Idealize.ShloMosaic.TcCoe Idealize.ShloMosaic.Tactic
open Cert.Kernel4Ideal Cert.Kernel4Ideal.Gen

variable {F : FTy → Type} [FloatOps F]

variable (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
  (X1 : BufTy.Contents (Elt F) arg1.view.ty) (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty) (X8 : BufTy.Contents (Elt F) arg8.view.ty)
  (k : Fin k0_t1_loop.trips)

/-- The gate's chunk, -/
abbrev chG : Vec F S256x256 .f32 := View.readAt (Elt F) arg1.view (Rect.unit (s := S2048x512) (k0_off4 k) S256x256.size (k0_off4_inb k)).toLoadRect X1
/-- the chunk of the sequence, -/
abbrev chX : Vec F S256x256 .f32 := View.readAt (Elt F) arg1.view (Rect.unit (s := S2048x512) (k0_off1 k) S256x256.size (k0_off1_inb k)).toLoadRect X1
/-- the rows before it -/
abbrev chP : Vec F S8x256 .f32 := View.readAt (Elt F) arg1.view (Rect.unit (s := S2048x512) (k0_off2 k) S8x256.size (k0_off2_inb k)).toLoadRect X1
/-- and after it. -/
abbrev chN : Vec F S8x256 .f32 := View.readAt (Elt F) arg1.view (Rect.unit (s := S2048x512) (k0_off3 k) S8x256.size (k0_off3_inb k)).toLoadRect X1
/-- A row of the convolution's weights, -/
abbrev cw (r : Fin 4) (h : ∀ a, (![r.val, 0] : Fin 2 → ℕ) a + S1x256.size a ≤ S4x256.size a) : Vec F S1x256 .f32 := View.readAt (Elt F) arg2.view (Rect.unit (s := S4x256) ![r.val, 0] S1x256.size h).toLoadRect X2
/-- its bias, -/
abbrev cb : Vec F S1x256 .f32 := View.readAt (Elt F) arg3.view (Rect.unit (s := S1x256) ![0, 0] S1x256.size (by decide)).toLoadRect X3

/-- the convolution's chunk. -/
def chC : FVec F S256x256 .f32 :=
  k0_pay16 (chX arg1 X1 k) (k0_pay12 0#32 1#32 k (chP arg1 X1 k)) (k0_pay13 0#32 1#32 k (chN arg1 X1 k))
    (k0_pay14 0#32 1#32 k (chX arg1 X1 k) (chP arg1 X1 k) (cw arg2 X2 0 (by decide))) (k0_pay15 (cw arg2 X2 1 (by decide))) 1#32 (cw arg2 X2 2 (by decide)) (cw arg2 X2 3 (by decide)) (cb arg3 X3)

/-- A direction's square weights, -/
abbrev gw (a : Memref sig .tc .vmem S2x256x256 .bf16) (X : BufTy.Contents (Elt F) a.view.ty) (d : Fin 2) (h : ∀ b, (![d.val, 0, 0] : Fin 3 → ℕ) b + S1x256x256.size b ≤ S2x256x256.size b) : Vec F S1x256x256 .bf16 :=
  View.readAt (Elt F) a.view (Rect.unit (s := S2x256x256) ![d.val, 0, 0] S1x256x256.size h).toLoadRect X
/-- and a direction's row. -/
abbrev gb (a : Memref sig .tc .vmem S2x256 .f32) (X : BufTy.Contents (Elt F) a.view.ty) (d : Fin 2) (h : ∀ b, (![d.val, 0] : Fin 2 → ℕ) b + S1x256.size b ≤ S2x256.size b) : Vec F S1x256 .f32 :=
  View.readAt (Elt F) a.view (Rect.unit (s := S2x256) ![d.val, 0] S1x256.size h).toLoadRect X

/-- The factors' chunk in the second direction. -/
def chA : FVec F S256x256 .f32 :=
  k0_pay29 (k0_pay27 (k0_pay21 (chC arg1 arg2 arg3 X1 X2 X3 k)) (gw arg4 X4 1 (by decide)) (gb arg5 X5 1 (by decide))) (Scalar.ofBits .f32 0x3F000000#32) (gb arg8 X8 1 (by decide))

theorem gate_pieces : (tripL_k0_t1 (F := F) .none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k).1
    = [⟨Rect.unit (s := S2048x256) (k0_off5 k) S256x256.size (k0_off5_inb k), k0_pay20 (k0_pay17 (chG arg1 X1 k)) (k0_pay18 (chG arg1 X1 k)) k0_pay19⟩] := by
  unfold tripL_k0_t1 trip_k0_t1
  rfl

theorem fac_pieces : (tripL_k0_t1 (F := F) .none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k).2.1
    = [⟨Rect.unit (s := S2x2048x256) (k0_off7 k) S1x256x256.size (k0_off7_inb k), k0_pay1 (chA arg1 arg2 arg3 arg4 arg5 arg8 X1 X2 X3 X4 X5 X8 k)⟩,
       ⟨Rect.unit (s := S2x2048x256) (k0_off6 k) S1x256x256.size (k0_off6_inb k), k0_pay25 (k0_pay22 (chC arg1 arg2 arg3 X1 X2 X3 k) (gw arg4 X4 0 (by decide)) (gb arg5 X5 0 (by decide))) (gb arg8 X8 0 (by decide))⟩] := by
  unfold tripL_k0_t1 trip_k0_t1
  rfl

theorem trm_pieces : (tripL_k0_t1 (F := F) .none c none i arg1 harg1 arg2 harg2 arg3 harg3 arg4 harg4 arg5 harg5 arg6 harg6 arg7 harg7 arg8 harg8 arg9 harg9 arg10 harg10 arg11 harg11 arg12 harg12 X1 X2 X3 X4 X5 X6 X7 X8 k).2.2
    = [⟨Rect.unit (s := S2x2048x256) (k0_off7 k) S1x256x256.size (k0_off7_inb k), k0_pay2 (chC arg1 arg2 arg3 X1 X2 X3 k) (k0_pay28 (k0_pay21 (chC arg1 arg2 arg3 X1 X2 X3 k)) (gw arg6 X6 1 (by decide)) (gb arg7 X7 1 (by decide))) (chA arg1 arg2 arg3 arg4 arg5 arg8 X1 X2 X3 X4 X5 X8 k)⟩,
       ⟨Rect.unit (s := S2x2048x256) (k0_off6 k) S1x256x256.size (k0_off6_inb k), k0_pay26 (chC arg1 arg2 arg3 X1 X2 X3 k) (k0_pay22 (chC arg1 arg2 arg3 X1 X2 X3 k) (gw arg4 X4 0 (by decide)) (gb arg5 X5 0 (by decide))) (k0_pay23 (chC arg1 arg2 arg3 X1 X2 X3 k) (gw arg6 X6 0 (by decide)) (gb arg7 X7 0 (by decide))) (gb arg8 X8 0 (by decide))⟩] := by
  unfold tripL_k0_t1 trip_k0_t1
  rfl

theorem out_pieces (X10 : BufTy.Contents (Elt F) arg10.view.ty) (X11 : BufTy.Contents (Elt F) arg11.view.ty) (k : Fin k0_t3_loop.trips) :
    tripL_k0_t3 (F := F) .none c none i arg1 harg1 arg2 harg2 arg3 harg3 arg4 harg4 arg5 harg5 arg6 harg6 arg7 harg7 arg8 harg8 arg9 harg9 arg10 harg10 arg11 harg11 arg12 harg12 X10 X11 k
    = [⟨Rect.unit (s := S2048x256) (k0_off10 k) S256x256.size (k0_off10_inb k),
        k0_pay11 (View.readAt (Elt F) arg10.view (Rect.unit (s := S2048x256) (k0_off10 k) S256x256.size (k0_off10_inb k)).toLoadRect X10)
          (View.readAt (Elt F) arg11.view (Rect.unit (s := S2x2048x256) (k0_off11 k) S1x256x256.size (k0_off11_inb k)).toLoadRect X11)
          (View.readAt (Elt F) arg11.view (Rect.unit (s := S2x2048x256) (k0_off12 k) S1x256x256.size (k0_off12_inb k)).toLoadRect X11)⟩] := by
  unfold tripL_k0_t3 trip_k0_t3
  rfl

end Cert.Lru

end
-- ==== Proof.LruScan.lean ====
/- The recurrence x ↦ a·x + b over the extended reals: a factor between 0 and a finite number distributes over every sum,
   so runs of steps compose, and a scan by doubling gives the runs' factors and terms. -/
module

public import Mathlib.Data.EReal.Inv
public import Mathlib.Algebra.Order.BigOperators.Group.Finset

@[expose] public section

namespace Cert.Lru

/-- A factor that is not negative and not infinite. -/
def Ok (a : EReal) : Prop := 0 ≤ a ∧ a ≠ ⊤

theorem Ok.one : Ok 1 := ⟨zero_le_one, EReal.coe_ne_top 1⟩

theorem Ok.coe {r : ℝ} (h : 0 ≤ r) : Ok (r : EReal) := ⟨EReal.coe_nonneg.2 h, EReal.coe_ne_top r⟩

theorem Ok.exists {a : EReal} (h : Ok a) : ∃ r : ℝ, 0 ≤ r ∧ a = r := by
  induction a with
  | bot => exact absurd h.1 (by simp)
  | top => exact absurd rfl h.2
  | coe r => exact ⟨r, EReal.coe_nonneg.1 h.1, rfl⟩

theorem Ok.mul {a b : EReal} (ha : Ok a) (hb : Ok b) : Ok (a * b) := by
  obtain ⟨r, hr, rfl⟩ := ha.exists
  obtain ⟨s, hs, rfl⟩ := hb.exists
  rw [← EReal.coe_mul]
  exact .coe (mul_nonneg hr hs)

/-- `n` steps of the recurrence from step `s` on. -/
noncomputable def go (A B : ℕ → EReal) (s : ℕ) : ℕ → EReal → EReal
  | 0, x => x
  | n + 1, x => A (s + n) * go A B s n x + B (s + n)

theorem go_add (A B : ℕ → EReal) (s m n : ℕ) (x : EReal) : go A B s (m + n) x = go A B (s + m) n (go A B s m x) := by
  induction n with
  | zero => rfl
  | succ n ih => rw [← Nat.add_assoc, go, go, ih, Nat.add_assoc]

/-- `(a, b)` stands for `n` steps from `s` on. -/
def Rep (A B : ℕ → EReal) (s n : ℕ) (a b : EReal) : Prop := Ok a ∧ ∀ x, a * x + b = go A B s n x

theorem Rep.nil (A B : ℕ → EReal) (s : ℕ) : Rep A B s 0 1 0 := ⟨.one, fun x => by rw [one_mul, add_zero, go]⟩

theorem Rep.single {A B : ℕ → EReal} {s : ℕ} (h : Ok (A s)) : Rep A B s 1 (A s) (B s) := ⟨h, fun _ => rfl⟩

theorem Rep.join {A B : ℕ → EReal} {s m n : ℕ} {a b a' b' : EReal} (h : Rep A B s m a b) (h' : Rep A B (s + m) n a' b') :
    Rep A B s (m + n) (a' * a) (a' * b + b') := by
  refine ⟨h'.1.mul h.1, fun x => ?_⟩
  rw [go_add, ← h.2, ← h'.2, EReal.left_distrib_of_nonneg_of_ne_top h'.1.1 h'.1.2, mul_assoc, add_assoc]

theorem Rep.cast {A B : ℕ → EReal} {s n s' n' : ℕ} {a b a' b' : EReal} (h : Rep A B s n a b) (hs : s = s') (hn : n = n')
    (ha : a = a') (hb : b = b') : Rep A B s' n' a' b' := by
  subst hs hn ha hb; exact h

/-- One stage of a scan by doubling: after it entry `r` stands for the last `2·w` steps (or all) up to `r`. -/
theorem Rep.stage {A B : ℕ → EReal} {p w : ℕ} {a b : ℕ → EReal} (r : ℕ)
    (h : ∀ q ≤ r, Rep A B (p + (q + 1 - min (q + 1) w)) (min (q + 1) w) (a q) (b q)) :
    Rep A B (p + (r + 1 - min (r + 1) (2 * w))) (min (r + 1) (2 * w))
      (a r * if w ≤ r then a (r - w) else 1) (a r * (if w ≤ r then b (r - w) else 0) + b r) := by
  by_cases hw : w ≤ r
  · rw [if_pos hw, if_pos hw]
    refine (Rep.join (h (r - w) (Nat.sub_le _ _)) ((h r le_rfl).cast ?_ rfl rfl rfl)).cast ?_ ?_ rfl rfl <;> omega
  · rw [if_neg hw, if_neg hw]
    refine (Rep.join (Rep.nil A B _) ((h r le_rfl).cast ?_ rfl rfl rfl)).cast rfl ?_ rfl rfl <;> omega

end Cert.Lru

end
-- ==== Proof.LruStep.lean ====
/- One trip of the recurrence kernel's scan in closed form: eight blocks of eight rows in each direction, each a scan by
   doubling in three stages and one step from the carried row. -/
module

public import proofs.«01_k».proof.Proof.LruFrame

@[expose] public section

set_option maxRecDepth 65536

noncomputable section

namespace Cert.Lru

open Idealize.ShloMosaic Idealize.ShloMosaic.TcCoe Idealize.ShloMosaic.Tactic
open Cert.Kernel4Ideal Cert.Kernel4Ideal.Gen

variable {F : FTy → Type} [FloatOps F]

/-- A block's factors and terms. -/
abbrev Pr (F : FTy → Type) := FVec F S8x256 .f32 × FVec F S8x256 .f32

/-- The rows' numbers within a block. -/
abbrev rowNo : IVec S8x256 32 := lruRun.sl.v1

/-- One stage of the forward scan with shift `s`, -/
def stF (s : BitVec 32) (p : Pr F) : Pr F :=
  (mulf p.1 (select (cmpi .sge rowNo (broadcast S8x256 s)) (dynamicRotate 0 s none p.1 rotates_S8x256_d0) (broadcast S8x256 (Scalar.ofBits .f32 0x3F800000#32 : F .f32))),
   addf (mulf p.1 (select (cmpi .sge rowNo (broadcast S8x256 s)) (dynamicRotate 0 s none p.2 rotates_S8x256_d0) (broadcast S8x256 (Scalar.ofBits .f32 0x00000000#32 : F .f32)))) p.2)

/-- and of the backward scan with shift `8 - s`. -/
def stB (s : BitVec 32) (p : Pr F) : Pr F :=
  (mulf p.1 (select (cmpi .slt rowNo (broadcast S8x256 s)) (dynamicRotate 0 s none p.1 rotates_S8x256_d0) (broadcast S8x256 (Scalar.ofBits .f32 0x3F800000#32 : F .f32))),
   addf (mulf p.1 (select (cmpi .slt rowNo (broadcast S8x256 s)) (dynamicRotate 0 s none p.2 rotates_S8x256_d0) (broadcast S8x256 (Scalar.ofBits .f32 0x00000000#32 : F .f32)))) p.2)

/-- The step from the carried row. -/
def stepBy (c : FVec F S1x256 .f32) (p : Pr F) : FVec F S8x256 .f32 :=
  addf p.2 (mulf p.1 (broadcastTo S8x256 c broadcasts_S1x256_S8x256))

/-- The carried row before block `r`, forward, -/
def carF (c : FVec F S1x256 .f32) (P : Fin 8 → Pr F) : ℕ → FVec F S1x256 .f32
  | 0 => c
  | r + 1 => extractStridedSlice S1x256 ![7, 0] (stepBy (carF c P r) (P (Fin.ofNat 8 r))) slices_S8x256_o7_0_S1x256

/-- and backward. -/
def carB (c : FVec F S1x256 .f32) (P : Fin 8 → Pr F) : ℕ → FVec F S1x256 .f32
  | 0 => c
  | r + 1 => extractStridedSlice S1x256 ![0, 0] (stepBy (carB c P r) (P (Fin.ofNat 8 r))) slices_S8x256_o0_0_S1x256

/-- Where a forward block lies, -/
abbrev rcF (k : Fin k0_t2_loop.trips) (r : Fin 8) : Rect S2x2048x256 :=
  Rect.unit (s := S2x2048x256) (k0_off8 k (BitVec.ofNat 32 r.val)) S1x8x256.size (k0_off8_inb k r)

/-- and a backward one. -/
abbrev rcB (k : Fin k0_t2_loop.trips) (r : Fin 8) : Rect S2x2048x256 :=
  Rect.unit (s := S2x2048x256) (k0_off9 k (BitVec.ofNat 32 r.val)) S1x8x256.size (k0_off9_inb k r)

variable (arg11 : Memref sig .tc .vmem S2x2048x256 .f32) (arg12 : Memref sig .tc .vmem S2x2048x256 .f32)
  (X : BufTy.Contents (Elt F) arg12.view.ty) (k : Fin k0_t2_loop.trips) (acc : FVec F S1x256 .f32 × FVec F S1x256 .f32)
  (f : BufTy.Contents (Elt F) arg11.view.ty)

/-- A forward block after its three stages, -/
def blF (r : Fin 8) : Pr F :=
  stF 4#32 (stF 2#32 (stF 1#32
    (shapeCast S8x256 (View.readAt (Elt F) arg11.view (rcF k r).toLoadRect f) shapeCasts_S1x8x256_S8x256,
     shapeCast S8x256 (View.readAt (Elt F) arg12.view (rcF k r).toLoadRect X) shapeCasts_S1x8x256_S8x256)))

/-- and a backward one. -/
def blB (r : Fin 8) : Pr F :=
  stB 4#32 (stB 6#32 (stB 7#32
    (shapeCast S8x256 (View.readAt (Elt F) arg11.view (rcB k r).toLoadRect f) shapeCasts_S1x8x256_S8x256,
     shapeCast S8x256 (View.readAt (Elt F) arg12.view (rcB k r).toLoadRect X) shapeCasts_S1x8x256_S8x256)))

/-- What is written at a forward block, -/
def pcF (r : Fin 8) : View.Piece (Elt F) S2x2048x256 .f32 :=
  ⟨rcF k r, shapeCast S1x8x256 (stepBy (carF acc.1 (blF arg11 arg12 X k f) r.val) (blF arg11 arg12 X k f r)) shapeCasts_S8x256_S1x8x256⟩

/-- and at a backward one. -/
def pcB (r : Fin 8) : View.Piece (Elt F) S2x2048x256 .f32 :=
  ⟨rcB k r, shapeCast S1x8x256 (stepBy (carB acc.2 (blB arg11 arg12 X k f) r.val) (blB arg11 arg12 X k f r)) shapeCasts_S8x256_S1x8x256⟩

section trip

variable (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (harg11 : arg11.IsWhole) (harg12 : arg12.IsWhole)

set_option maxHeartbeats 0 in
theorem trip_pieces : tripL_k0_t2 (F := F) .none c none i arg1 harg1 arg2 harg2 arg3 harg3 arg4 harg4 arg5 harg5 arg6 harg6 arg7 harg7 arg8 harg8 arg9 harg9 arg10 harg10 arg11 harg11 arg12 harg12 rowNo X k acc f
    = [pcB arg11 arg12 X k acc f 7, pcB arg11 arg12 X k acc f 6, pcB arg11 arg12 X k acc f 5, pcB arg11 arg12 X k acc f 4,
       pcB arg11 arg12 X k acc f 3, pcB arg11 arg12 X k acc f 2, pcB arg11 arg12 X k acc f 1, pcB arg11 arg12 X k acc f 0,
       pcF arg11 arg12 X k acc f 7, pcF arg11 arg12 X k acc f 6, pcF arg11 arg12 X k acc f 5, pcF arg11 arg12 X k acc f 4,
       pcF arg11 arg12 X k acc f 3, pcF arg11 arg12 X k acc f 2, pcF arg11 arg12 X k acc f 1, pcF arg11 arg12 X k acc f 0] := by
  unfold tripL_k0_t2 trip_k0_t2
  rfl

set_option maxHeartbeats 0 in
theorem trip_result : tripR_k0_t2 (F := F) .none c none i arg1 harg1 arg2 harg2 arg3 harg3 arg4 harg4 arg5 harg5 arg6 harg6 arg7 harg7 arg8 harg8 arg9 harg9 arg10 harg10 arg11 harg11 arg12 harg12 rowNo X k acc f
    = (carF acc.1 (blF arg11 arg12 X k f) 8, carB acc.2 (blB arg11 arg12 X k f) 8) := by
  unfold tripR_k0_t2 trip_k0_t2
  rfl

end trip

end Cert.Lru

end
-- ==== Proof.LruLoop.lean ====
/- The scan loop of the recurrence kernel: after every trip the scanned rows hold the states of the recurrence and the
   carried rows the latest one, in each direction. -/
module

public import proofs.«01_k».proof.Proof.LruScan
public import proofs.«01_k».proof.Proof.LruStep
public import Idealize.ShloMosaic.Lib.Pipeline.ValueKit
public import Idealize.ShloMosaic.Lib.Pointwise
public import Idealize.ShloMosaic.Lib.KernelVsHost

@[expose] public section

set_option maxRecDepth 16384

noncomputable section

namespace Cert.Lru

open Idealize.ShloMosaic Idealize.ShloMosaic.TcCoe
open Cert.Kernel4Ideal Cert.Kernel4Ideal.Gen

theorem one_word : (Scalar.ofBits .f32 0x3F800000#32 : Ideal .f32) = (1 : EReal) := by
  simp [Scalar.ofBits, FloatOps.ofBits, Ideal.ofBits, Ideal.ieee]
  rw [← EReal.coe_mul]; norm_num

theorem zero_word' : (Scalar.ofBits .f32 0x00000000#32 : Ideal .f32) = (0 : EReal) := by
  simp [Scalar.ofBits, FloatOps.ofBits, Ideal.ofBits, Ideal.ieee]

theorem rowNo_at (q : Fin 8) (l : Fin 256) : rowNo (ix2 q l) = BitVec.ofNat 32 q.val := by
  unfold rowNo lruRun.sl.v1
  pointwise

/-- A scalar of a stage: the entry where the condition holds, else the neutral one. -/
theorem sel (x y : EReal) (c : BitVec 1) : Scalar.select c x y = if c = 1#1 then x else y := rfl

theorem sge_at (w : Fin 5) (q : Fin 8) : (Scalar.cmpi .sge (BitVec.ofNat 32 q.val) (BitVec.ofNat 32 w.val) = 1#1) ↔ w.val ≤ q.val := by
  revert w q; decide +kernel

theorem slt_at (s : Fin 8) (q : Fin 8) : (Scalar.cmpi .slt (BitVec.ofNat 32 q.val) (BitVec.ofNat 32 s.val) = 1#1) ↔ q.val < s.val := by
  revert s q; decide +kernel

/-- A forward stage at an entry. -/
theorem stF_at (w : Fin 5) (p : Pr Ideal) (q : Fin 8) (l : Fin 256) :
    (stF (BitVec.ofNat 32 w.val) p).1 (ix2 q l) = p.1 (ix2 q l) * (if w.val ≤ q.val then p.1 (ix2 (⟨q.val - w.val, by omega⟩ : Fin 8) l) else 1)
    ∧ (stF (BitVec.ofNat 32 w.val) p).2 (ix2 q l) = p.1 (ix2 q l) * (if w.val ≤ q.val then p.2 (ix2 (⟨q.val - w.val, by omega⟩ : Fin 8) l) else 0) + p.2 (ix2 q l) := by
  have hr : ∀ x : FVec Ideal S8x256 .f32, w.val ≤ q.val → dynamicRotate 0 (BitVec.ofNat 32 w.val) none x rotates_S8x256_d0 (ix2 q l) = x (ix2 (⟨q.val - w.val, by omega⟩ : Fin 8) l) := fun x hw =>
    dynamicRotate_apply 0 _ x rotates_S8x256_d0 _ _ fun b => by
      have hn : (BitVec.ofNat 32 w.val).toNat = w.val := by rw [BitVec.toNat_ofNat]; exact Nat.mod_eq_of_lt (by omega)
      rw [hn]
      match b with
      | ⟨0, _⟩ => refine Eq.trans ?_ (if_pos rfl).symm; show q.val - w.val = (q.val + 8 - w.val % 8) % 8; omega
      | ⟨1, _⟩ => exact (if_neg (by decide : ¬ (⟨1, by decide⟩ : Fin 2) = 0)).symm
  have hc : (cmpi .sge rowNo (broadcast S8x256 (BitVec.ofNat 32 w.val)) (ix2 q l) = 1#1) ↔ w.val ≤ q.val := by
    show (Scalar.cmpi .sge (rowNo (ix2 q l)) (BitVec.ofNat 32 w.val) = 1#1) ↔ _
    rw [rowNo_at]; exact sge_at w q
  constructor
  · show p.1 (ix2 q l) * Scalar.select (cmpi .sge rowNo (broadcast S8x256 (BitVec.ofNat 32 w.val)) (ix2 q l)) (dynamicRotate 0 (BitVec.ofNat 32 w.val) none p.1 rotates_S8x256_d0 (ix2 q l)) (Scalar.ofBits .f32 0x3F800000#32 : Ideal .f32) = _
    rw [sel, one_word]
    by_cases hw : w.val ≤ q.val
    · rw [if_pos (hc.2 hw), if_pos hw, hr _ hw]
    · rw [if_neg (fun h => hw (hc.1 h)), if_neg hw]
  · show p.1 (ix2 q l) * Scalar.select (cmpi .sge rowNo (broadcast S8x256 (BitVec.ofNat 32 w.val)) (ix2 q l)) (dynamicRotate 0 (BitVec.ofNat 32 w.val) none p.2 rotates_S8x256_d0 (ix2 q l)) (Scalar.ofBits .f32 0x00000000#32 : Ideal .f32) + p.2 (ix2 q l) = _
    rw [sel, zero_word']
    by_cases hw : w.val ≤ q.val
    · rw [if_pos (hc.2 hw), if_pos hw, hr _ hw]
    · rw [if_neg (fun h => hw (hc.1 h)), if_neg hw]

/-- A backward stage at an entry, the rows counted from the last. -/
theorem stB_at (s : Fin 8) (hs : 0 < s.val) (p : Pr Ideal) (q : Fin 8) (l : Fin 256) :
    (stB (BitVec.ofNat 32 s.val) p).1 (ix2 q.rev l) = p.1 (ix2 q.rev l) * (if 8 - s.val ≤ q.val then p.1 (ix2 (⟨q.val - (8 - s.val), by omega⟩ : Fin 8).rev l) else 1)
    ∧ (stB (BitVec.ofNat 32 s.val) p).2 (ix2 q.rev l) = p.1 (ix2 q.rev l) * (if 8 - s.val ≤ q.val then p.2 (ix2 (⟨q.val - (8 - s.val), by omega⟩ : Fin 8).rev l) else 0) + p.2 (ix2 q.rev l) := by
  have hr : ∀ x : FVec Ideal S8x256 .f32, 8 - s.val ≤ q.val → dynamicRotate 0 (BitVec.ofNat 32 s.val) none x rotates_S8x256_d0 (ix2 q.rev l) = x (ix2 (⟨q.val - (8 - s.val), by omega⟩ : Fin 8).rev l) := fun x hw =>
    dynamicRotate_apply 0 _ x rotates_S8x256_d0 _ _ fun b => by
      have hn : (BitVec.ofNat 32 s.val).toNat = s.val := by rw [BitVec.toNat_ofNat]; exact Nat.mod_eq_of_lt (by omega)
      rw [hn]
      match b with
      | ⟨0, _⟩ => refine Eq.trans ?_ (if_pos rfl).symm; show 8 - (q.val - (8 - s.val) + 1) = (8 - (q.val + 1) + 8 - s.val % 8) % 8; omega
      | ⟨1, _⟩ => exact (if_neg (by decide : ¬ (⟨1, by decide⟩ : Fin 2) = 0)).symm
  have hc : (cmpi .slt rowNo (broadcast S8x256 (BitVec.ofNat 32 s.val)) (ix2 q.rev l) = 1#1) ↔ 8 - s.val ≤ q.val := by
    show (Scalar.cmpi .slt (rowNo (ix2 q.rev l)) (BitVec.ofNat 32 s.val) = 1#1) ↔ _
    rw [rowNo_at, slt_at s q.rev]; show 8 - (q.val + 1) < s.val ↔ _; omega
  constructor
  · show p.1 (ix2 q.rev l) * Scalar.select (cmpi .slt rowNo (broadcast S8x256 (BitVec.ofNat 32 s.val)) (ix2 q.rev l)) (dynamicRotate 0 (BitVec.ofNat 32 s.val) none p.1 rotates_S8x256_d0 (ix2 q.rev l)) (Scalar.ofBits .f32 0x3F800000#32 : Ideal .f32) = _
    rw [sel, one_word]
    by_cases hw : 8 - s.val ≤ q.val
    · rw [if_pos (hc.2 hw), if_pos hw, hr _ hw]
    · rw [if_neg (fun h => hw (hc.1 h)), if_neg hw]
  · show p.1 (ix2 q.rev l) * Scalar.select (cmpi .slt rowNo (broadcast S8x256 (BitVec.ofNat 32 s.val)) (ix2 q.rev l)) (dynamicRotate 0 (BitVec.ofNat 32 s.val) none p.2 rotates_S8x256_d0 (ix2 q.rev l)) (Scalar.ofBits .f32 0x00000000#32 : Ideal .f32) + p.2 (ix2 q.rev l) = _
    rw [sel, zero_word']
    by_cases hw : 8 - s.val ≤ q.val
    · rw [if_pos (hc.2 hw), if_pos hw, hr _ hw]
    · rw [if_neg (fun h => hw (hc.1 h)), if_neg hw]

/-- Row `q` of a block stands for the last `w` steps (or all) up to it, the rows counted by `ρ`. -/
def Blk (A B : ℕ → EReal) (p w : ℕ) (ρ : Fin 8 → Fin 8) (l : Fin 256) (P : Pr Ideal) : Prop :=
  ∀ q : Fin 8, Rep A B (p + (q.val + 1 - min (q.val + 1) w)) (min (q.val + 1) w) (P.1 (ix2 (ρ q) l)) (P.2 (ix2 (ρ q) l))

theorem Blk.stage {A B : ℕ → EReal} {p : ℕ} {ρ : Fin 8 → Fin 8} {l : Fin 256} {P P' : Pr Ideal} (w : ℕ) (H : Blk A B p w ρ l P)
    (h : ∀ q : Fin 8, P'.1 (ix2 (ρ q) l) = P.1 (ix2 (ρ q) l) * (if w ≤ q.val then P.1 (ix2 (ρ (⟨q.val - w, by omega⟩ : Fin 8)) l) else 1)
      ∧ P'.2 (ix2 (ρ q) l) = P.1 (ix2 (ρ q) l) * (if w ≤ q.val then P.2 (ix2 (ρ (⟨q.val - w, by omega⟩ : Fin 8)) l) else 0) + P.2 (ix2 (ρ q) l)) :
    Blk A B p (2 * w) ρ l P' := by
  intro q
  have hq := q.isLt
  have key := Rep.stage (A := A) (B := B) (p := p) (w := w) (a := fun r => P.1 (ix2 (ρ (Fin.ofNat 8 r)) l)) (b := fun r => P.2 (ix2 (ρ (Fin.ofNat 8 r)) l)) q.val
    (fun r hr => by
      have e : (Fin.ofNat 8 r).val = r := Nat.mod_eq_of_lt (by omega)
      have := H (Fin.ofNat 8 r)
      rw [e] at this
      exact this)
  have e1 : Fin.ofNat 8 q.val = q := Fin.ext (Nat.mod_eq_of_lt q.isLt)
  have e2 : Fin.ofNat 8 (q.val - w) = (⟨q.val - w, by omega⟩ : Fin 8) := Fin.ext (Nat.mod_eq_of_lt (by omega))
  simp only [e1, e2] at key
  rw [(h q).1, (h q).2]
  exact key

theorem Blk.forward {A B : ℕ → EReal} {p : ℕ} {l : Fin 256} {P : Pr Ideal} (H : Blk A B p 1 id l P) :
    Blk A B p 8 id l (stF 4#32 (stF 2#32 (stF 1#32 P))) :=
  ((H.stage 1 fun q => stF_at 1 P q l).stage 2 fun q => stF_at 2 _ q l).stage 4 fun q => stF_at 4 _ q l

theorem Blk.backward {A B : ℕ → EReal} {p : ℕ} {l : Fin 256} {P : Pr Ideal} (H : Blk A B p 1 Fin.rev l P) :
    Blk A B p 8 Fin.rev l (stB 4#32 (stB 6#32 (stB 7#32 P))) :=
  ((H.stage 1 fun q => stB_at 7 (by decide) P q l).stage 2 fun q => stB_at 6 (by decide) _ q l).stage 4 fun q => stB_at 4 (by decide) _ q l

theorem stepBy_at (c : FVec Ideal S1x256 .f32) (P : Pr Ideal) (q : Fin 8) (l : Fin 256) :
    stepBy c P (ix2 q l) = P.2 (ix2 q l) + P.1 (ix2 q l) * c (ix2 0 l) := by
  unfold stepBy
  pointwise

/-- The step from the carried state gives every row's state. -/
theorem Blk.step {A B : ℕ → EReal} {p : ℕ} {ρ : Fin 8 → Fin 8} {l : Fin 256} {P : Pr Ideal} (H : Blk A B p 8 ρ l P)
    (c : FVec Ideal S1x256 .f32) (hc : c (ix2 0 l) = go A B 0 p 0) (q : Fin 8) :
    stepBy c P (ix2 (ρ q) l) = go A B 0 (p + q.val + 1) 0 := by
  have hq := q.isLt
  have e := ((H q).cast (s' := p) (n' := q.val + 1) (by omega) (by omega) rfl rfl).2 (c (ix2 0 l))
  rw [stepBy_at, add_comm, e, hc, Nat.add_assoc, go_add A B 0 p (q.val + 1), Nat.zero_add]

theorem last_at (x : FVec Ideal S8x256 .f32) (l : Fin 256) : extractStridedSlice S1x256 ![7, 0] x slices_S8x256_o7_0_S1x256 (ix2 0 l) = x (ix2 7 l) := by
  pointwise

theorem first_at (x : FVec Ideal S8x256 .f32) (l : Fin 256) : extractStridedSlice S1x256 ![0, 0] x slices_S8x256_o0_0_S1x256 (ix2 0 l) = x (ix2 0 l) := by
  pointwise

theorem carF_at {A B : ℕ → EReal} {p : ℕ} {l : Fin 256} {P : Fin 8 → Pr Ideal} (H : ∀ r : Fin 8, Blk A B (p + 8 * r.val) 8 id l (P r))
    (c : FVec Ideal S1x256 .f32) (hc : c (ix2 0 l) = go A B 0 p 0) : ∀ r ≤ 8, carF c P r (ix2 0 l) = go A B 0 (p + 8 * r) 0
  | 0, _ => hc
  | r + 1, h => by
    have e : (Fin.ofNat 8 r).val = r := Nat.mod_eq_of_lt (by omega)
    have hb := H (Fin.ofNat 8 r)
    rw [e] at hb
    rw [carF, last_at]
    exact (hb.step _ (carF_at H c hc r (by omega)) 7).trans (congrArg (fun n => go A B 0 n 0) (by show p + 8 * r + 7 + 1 = _; omega))

theorem carB_at {A B : ℕ → EReal} {p : ℕ} {l : Fin 256} {P : Fin 8 → Pr Ideal} (H : ∀ r : Fin 8, Blk A B (p + 8 * r.val) 8 Fin.rev l (P r))
    (c : FVec Ideal S1x256 .f32) (hc : c (ix2 0 l) = go A B 0 p 0) : ∀ r ≤ 8, carB c P r (ix2 0 l) = go A B 0 (p + 8 * r) 0
  | 0, _ => hc
  | r + 1, h => by
    have e : (Fin.ofNat 8 r).val = r := Nat.mod_eq_of_lt (by omega)
    have hb := H (Fin.ofNat 8 r)
    rw [e] at hb
    rw [carB, first_at]
    exact (hb.step _ (carB_at H c hc r (by omega)) 7).trans (congrArg (fun n => go A B 0 n 0) (by show p + 8 * r + 7 + 1 = _; omega))

/-! ## The arrays along the sequence, in each direction -/

/-- The entries of lane `l` along direction `d`: forward, or from the last row on. -/
def along (a : S2x2048x256.Idx → EReal) (d : Fin 2) (l : Fin 256) (s : ℕ) : EReal :=
  if d = 0 then a (ix3 0 (Fin.ofNat 2048 s) l) else a (ix3 1 (Fin.ofNat 2048 s).rev l)

/-- The state after `n` steps. -/
def state (a b : S2x2048x256.Idx → EReal) (d : Fin 2) (l : Fin 256) (n : ℕ) : EReal := go (along a d l) (along b d l) 0 n 0

/-- The factors' buffer after `n` steps in each direction, by coordinates, -/
def mid' (a b : S2x2048x256.Idx → EReal) (n : ℕ) (d : Fin 2) (t : Fin 2048) (l : Fin 256) : EReal :=
  if d = 0 then (if t.val < n then state a b 0 l (t.val + 1) else a (ix3 0 t l))
  else (if 2047 - t.val < n then state a b 1 l (2047 - t.val + 1) else a (ix3 1 t l))

/-- and by index. -/
def mid (a b : S2x2048x256.Idx → EReal) (n : ℕ) (y : S2x2048x256.Idx) : EReal :=
  mid' a b n (y 0) (y 1) (y 2)

theorem mid_fwd (a b : S2x2048x256.Idx → EReal) (n : ℕ) (t : Fin 2048) (l : Fin 256) :
    mid a b n (ix3 0 t l) = if t.val < n then state a b 0 l (t.val + 1) else a (ix3 0 t l) := by
  show mid' a b n 0 t l = _
  unfold mid'
  rw [if_pos rfl]

theorem mid_bwd (a b : S2x2048x256.Idx → EReal) (n : ℕ) (t : Fin 2048) (l : Fin 256) :
    mid a b n (ix3 1 t l) = if 2047 - t.val < n then state a b 1 l (2047 - t.val + 1) else a (ix3 1 t l) := by
  show mid' a b n 1 t l = _
  unfold mid'
  rw [if_neg (by decide)]

theorem mem_emb {s : Shape} (r : Rect s) (x : r.shape.Idx) : r.emb x ∈ r.set := by
  rw [← Rect.map_emb_univ]; exact Finset.mem_map_of_mem _ (Finset.mem_univ x)

section trip

variable {a b : S2x2048x256.Idx → EReal}
  (arg11 : Memref sig .tc .vmem S2x2048x256 .f32) (arg12 : Memref sig .tc .vmem S2x2048x256 .f32)
  (X : BufTy.Contents (Elt Ideal) arg12.view.ty) (k : Fin k0_t2_loop.trips) (acc : FVec Ideal S1x256 .f32 × FVec Ideal S1x256 .f32)
  (f : BufTy.Contents (Elt Ideal) arg11.view.ty)

theorem rcF_at (r q : Fin 8) (l : Fin 256) (t : Fin 2048) (ht : t.val = 64 * k.val + 8 * r.val + q.val) : (rcF k r).emb (ix3 0 q l) = ix3 0 t l :=
  Rect.emb_eq_of_coords _ _ _ fun c => by
    show _ = k0_off8 k (BitVec.ofNat 32 r.val) c + 1 * _
    rw [k0_off8_eq k r]
    match c with
    | ⟨0, _⟩ => rfl
    | ⟨1, _⟩ => show t.val = 64 * k.val + 8 * r.val + 1 * q.val; omega
    | ⟨2, _⟩ => show l.val = 0 + 1 * l.val; omega

theorem rcB_at (r q : Fin 8) (l : Fin 256) (t : Fin 2048) (ht : t.val = 2040 - (64 * k.val + 8 * r.val) + q.val) : (rcB k r).emb (ix3 0 q l) = ix3 1 t l :=
  Rect.emb_eq_of_coords _ _ _ fun c => by
    show _ = k0_off9 k (BitVec.ofNat 32 r.val) c + 1 * _
    rw [k0_off9_eq k r]
    match c with
    | ⟨0, _⟩ => rfl
    | ⟨1, _⟩ => show t.val = 2040 - (64 * k.val + 8 * r.val) + 1 * q.val; omega
    | ⟨2, _⟩ => show l.val = 0 + 1 * l.val; omega

theorem cast_at (x : FVec Ideal S1x8x256 .f32) (q : Fin 8) (l : Fin 256) : shapeCast S8x256 x shapeCasts_S1x8x256_S8x256 (ix2 q l) = x (ix3 0 q l) := by
  pointwise

theorem cast_at' (x : FVec Ideal S8x256 .f32) (q : Fin 8) (l : Fin 256) : shapeCast S1x8x256 x shapeCasts_S8x256_S1x8x256 (ix3 0 q l) = x (ix2 q l) := by
  pointwise

theorem trips2 : k.val < 32 := k.isLt

variable (ha : ∀ y, Ok (a y)) (hf : ∀ y, arg11.view.read (Elt Ideal) f y = mid a b (64 * k.val) y)
  (hX : ∀ y, arg12.view.read (Elt Ideal) X y = b y)

include ha hf hX in
theorem blF_at (r : Fin 8) (l : Fin 256) : Blk (along a 0 l) (along b 0 l) (64 * k.val + 8 * r.val) 8 id l (blF arg11 arg12 X k f r) := by
  unfold blF
  refine Blk.forward fun q => ?_
  have hk := trips2 k
  have hr := r.isLt
  have hq := q.isLt
  have hm : min (q.val + 1) 1 = 1 := by omega
  have e := rcF_at k r q l ⟨64 * k.val + 8 * r.val + q.val, by omega⟩ rfl
  have en : Fin.ofNat 2048 (64 * k.val + 8 * r.val + q.val) = ⟨64 * k.val + 8 * r.val + q.val, by omega⟩ := Fin.ext (Nat.mod_eq_of_lt (by omega))
  have e1 : View.readAt (Elt Ideal) arg11.view (rcF k r).toLoadRect f (ix3 0 q l) = along a 0 l (64 * k.val + 8 * r.val + q.val) := by
    refine (congrArg (arg11.view.read (Elt Ideal) f) e).trans ((hf _).trans ?_)
    rw [mid_fwd, if_neg (by show ¬ 64 * k.val + 8 * r.val + q.val < _; omega), along, if_pos rfl, en]
  have e2 : View.readAt (Elt Ideal) arg12.view (rcF k r).toLoadRect X (ix3 0 q l) = along b 0 l (64 * k.val + 8 * r.val + q.val) := by
    refine (congrArg (arg12.view.read (Elt Ideal) X) e).trans ((hX _).trans ?_)
    rw [along, if_pos rfl, en]
  have hok : Ok (along a 0 l (64 * k.val + 8 * r.val + q.val)) := by rw [along, if_pos rfl]; exact ha _
  exact (Rep.single hok).cast (by omega) (by omega) ((cast_at _ q l).trans e1).symm ((cast_at _ q l).trans e2).symm

include ha hf hX in
theorem blB_at (r : Fin 8) (l : Fin 256) : Blk (along a 1 l) (along b 1 l) (64 * k.val + 8 * r.val) 8 Fin.rev l (blB arg11 arg12 X k f r) := by
  unfold blB
  refine Blk.backward fun q => ?_
  have hk := trips2 k
  have hr := r.isLt
  have hq := q.isLt
  have hm : min (q.val + 1) 1 = 1 := by omega
  have hv : q.rev.val = 7 - q.val := by show 8 - (q.val + 1) = _; omega
  have en : (Fin.ofNat 2048 (64 * k.val + 8 * r.val + q.val)).rev = (⟨2047 - (64 * k.val + 8 * r.val + q.val), by omega⟩ : Fin 2048) :=
    Fin.ext (by
      show 2048 - ((64 * k.val + 8 * r.val + q.val) % 2048 + 1) = 2047 - (64 * k.val + 8 * r.val + q.val)
      rw [Nat.mod_eq_of_lt (by omega)]; omega)
  have e := rcB_at k r q.rev l ⟨2047 - (64 * k.val + 8 * r.val + q.val), by omega⟩ (by
    show 2047 - (64 * k.val + 8 * r.val + q.val) = _
    rw [hv]; omega)
  have e1 : View.readAt (Elt Ideal) arg11.view (rcB k r).toLoadRect f (ix3 0 q.rev l) = along a 1 l (64 * k.val + 8 * r.val + q.val) := by
    refine (congrArg (arg11.view.read (Elt Ideal) f) e).trans ((hf _).trans ?_)
    rw [mid_bwd, if_neg (by show ¬ 2047 - (2047 - (64 * k.val + 8 * r.val + q.val)) < _; omega), along, if_neg (by decide), en]
  have e2 : View.readAt (Elt Ideal) arg12.view (rcB k r).toLoadRect X (ix3 0 q.rev l) = along b 1 l (64 * k.val + 8 * r.val + q.val) := by
    refine (congrArg (arg12.view.read (Elt Ideal) X) e).trans ((hX _).trans ?_)
    rw [along, if_neg (by decide), en]
  have hok : Ok (along a 1 l (64 * k.val + 8 * r.val + q.val)) := by rw [along, if_neg (by decide)]; exact ha _
  exact (Rep.single hok).cast (by omega) (by omega) ((cast_at _ q.rev l).trans e1).symm ((cast_at _ q.rev l).trans e2).symm

variable (h1 : ∀ l, acc.1 (ix2 0 l) = state a b 0 l (64 * k.val)) (h2 : ∀ l, acc.2 (ix2 0 l) = state a b 1 l (64 * k.val))

include ha hf hX h1 in
theorem pcF_at (r : Fin 8) (x : S1x8x256.Idx) :
    (pcF arg11 arg12 X k acc f r).2 x = mid a b (64 * (k.val + 1)) ((rcF k r).emb x) := by
  obtain ⟨q, l, rfl⟩ : ∃ (q : Fin 8) (l : Fin 256), x = ix3 (0 : Fin 1) q l := ⟨x 1, x 2, by rw [eq_ix3 x]; congr 1; exact Subsingleton.elim (α := Fin 1) _ _⟩
  have hk := trips2 k
  have hr := r.isLt
  have hq := q.isLt
  rw [rcF_at k r q l ⟨64 * k.val + 8 * r.val + q.val, by omega⟩ rfl]
  rw [mid_fwd, if_pos (by show 64 * k.val + 8 * r.val + q.val < _; omega)]
  refine (show (pcF arg11 arg12 X k acc f r).2 (ix3 0 q l) = stepBy (carF acc.1 (blF arg11 arg12 X k f) r.val) (blF arg11 arg12 X k f r) (ix2 q l) from cast_at' (stepBy (carF acc.1 (blF arg11 arg12 X k f) r.val) (blF arg11 arg12 X k f r)) q l).trans ?_
  exact (blF_at arg11 arg12 X k f ha hf hX r l).step _ (carF_at (fun r => blF_at arg11 arg12 X k f ha hf hX r l) _ (h1 l) r.val (by omega)) q

include ha hf hX h2 in
theorem pcB_at (r : Fin 8) (x : S1x8x256.Idx) :
    (pcB arg11 arg12 X k acc f r).2 x = mid a b (64 * (k.val + 1)) ((rcB k r).emb x) := by
  obtain ⟨q, l, rfl⟩ : ∃ (q : Fin 8) (l : Fin 256), x = ix3 (0 : Fin 1) q.rev l := ⟨(x 1 : Fin 8).rev, x 2, (eq_ix3 x).trans (by
    have e0 : (x 0 : Fin 1) = (0 : Fin 1) := Subsingleton.elim (α := Fin 1) _ _
    have e1 : (x 1 : Fin 8) = (x 1 : Fin 8).rev.rev := (Fin.rev_rev _).symm
    exact congrArg₂ (fun (u : Fin 1) (v : Fin 8) => (ix3 u v (x 2) : S1x8x256.Idx)) e0 e1)⟩
  have hk := trips2 k
  have hr := r.isLt
  have hq := q.isLt
  have hv : q.rev.val = 7 - q.val := by show 8 - (q.val + 1) = _; omega
  rw [rcB_at k r q.rev l ⟨2047 - (64 * k.val + 8 * r.val + q.val), by omega⟩ (by
    show 2047 - (64 * k.val + 8 * r.val + q.val) = _
    rw [hv]; omega)]
  rw [mid_bwd, if_pos (by show 2047 - (2047 - (64 * k.val + 8 * r.val + q.val)) < _; omega)]
  dsimp only
  rw [show 2047 - (2047 - (64 * k.val + 8 * r.val + q.val)) = 64 * k.val + 8 * r.val + q.val by omega]
  refine (show (pcB arg11 arg12 X k acc f r).2 (ix3 0 q.rev l) = stepBy (carB acc.2 (blB arg11 arg12 X k f) r.val) (blB arg11 arg12 X k f r) (ix2 q.rev l) from cast_at' (stepBy (carB acc.2 (blB arg11 arg12 X k f) r.val) (blB arg11 arg12 X k f r)) q.rev l).trans ?_
  exact (blB_at arg11 arg12 X k f ha hf hX r l).step _ (carB_at (fun r => blB_at arg11 arg12 X k f ha hf hX r l) _ (h2 l) r.val (by omega)) q

/-- A trip's pieces. -/
abbrev pcs : List (View.Piece (Elt Ideal) S2x2048x256 .f32) :=
  [pcB arg11 arg12 X k acc f 7, pcB arg11 arg12 X k acc f 6, pcB arg11 arg12 X k acc f 5, pcB arg11 arg12 X k acc f 4,
       pcB arg11 arg12 X k acc f 3, pcB arg11 arg12 X k acc f 2, pcB arg11 arg12 X k acc f 1, pcB arg11 arg12 X k acc f 0,
       pcF arg11 arg12 X k acc f 7, pcF arg11 arg12 X k acc f 6, pcF arg11 arg12 X k acc f 5, pcF arg11 arg12 X k acc f 4,
       pcF arg11 arg12 X k acc f 3, pcF arg11 arg12 X k acc f 2, pcF arg11 arg12 X k acc f 1, pcF arg11 arg12 X k acc f 0]

theorem of_pcs (p : View.Piece (Elt Ideal) S2x2048x256 .f32) (h : p ∈ pcs arg11 arg12 X k acc f) :
    (∃ r, p = pcF arg11 arg12 X k acc f r) ∨ ∃ r, p = pcB arg11 arg12 X k acc f r := by
  simp only [pcs, List.mem_cons, List.not_mem_nil, or_false] at h
  rcases h with h | h | h | h | h | h | h | h | h | h | h | h | h | h | h | h
  exacts [.inr ⟨_, h⟩, .inr ⟨_, h⟩, .inr ⟨_, h⟩, .inr ⟨_, h⟩, .inr ⟨_, h⟩, .inr ⟨_, h⟩, .inr ⟨_, h⟩, .inr ⟨_, h⟩,
    .inl ⟨_, h⟩, .inl ⟨_, h⟩, .inl ⟨_, h⟩, .inl ⟨_, h⟩, .inl ⟨_, h⟩, .inl ⟨_, h⟩, .inl ⟨_, h⟩, .inl ⟨_, h⟩]

theorem pcF_mem (r : Fin 8) : pcF arg11 arg12 X k acc f r ∈ pcs arg11 arg12 X k acc f := by
  fin_cases r <;> simp [pcs]

theorem pcB_mem (r : Fin 8) : pcB arg11 arg12 X k acc f r ∈ pcs arg11 arg12 X k acc f := by
  fin_cases r <;> simp [pcs]

include ha hf hX h1 h2 in
/-- After a trip the buffer holds 64 further states in each direction. -/
theorem trip_mid (y : S2x2048x256.Idx) :
    arg11.view.read (Elt Ideal) (arg11.view.writes (Elt Ideal) f (pcs arg11 arg12 X k acc f)) y = mid a b (64 * (k.val + 1)) y := by
  have hk := trips2 k
  by_cases hy : ∃ p ∈ pcs arg11 arg12 X k acc f, y ∈ p.1.set
  · refine View.read_writes_apply_of_pieces arg11.view f (mid a b (64 * (k.val + 1))) _ (fun p hp x => ?_) y hy
    rcases of_pcs _ _ _ _ _ _ p hp with ⟨r, rfl⟩ | ⟨r, rfl⟩
    · exact pcF_at arg11 arg12 X k acc f ha hf hX h1 r x
    · exact pcB_at arg11 arg12 X k acc f ha hf hX h2 r x
  · rw [View.read_writes_apply_of_forall_not_mem arg11.view f y _ (fun p hp h => hy ⟨p, hp, h⟩), hf]
    obtain ⟨d, t, l, rfl⟩ : ∃ (d : Fin 2) (t : Fin 2048) (l : Fin 256), y = ix3 d t l := ⟨y 0, y 1, y 2, eq_ix3 y⟩
    have ht := t.isLt
    by_cases hd : d = 0
    · subst hd
      have hn : ¬ (64 * k.val ≤ t.val ∧ t.val < 64 * (k.val + 1)) := fun h => hy ⟨_, pcF_mem arg11 arg12 X k acc f ⟨(t.val - 64 * k.val) / 8, by omega⟩, by
        show ix3 0 t l ∈ (rcF k ⟨(t.val - 64 * k.val) / 8, by omega⟩).set
        rw [← rcF_at k ⟨(t.val - 64 * k.val) / 8, by omega⟩ ⟨(t.val - 64 * k.val) % 8, by omega⟩ l t (by
          show t.val = 64 * k.val + 8 * ((t.val - 64 * k.val) / 8) + (t.val - 64 * k.val) % 8; omega)]
        exact mem_emb _ _⟩
      rw [mid_fwd, mid_fwd]
      by_cases h : t.val < 64 * k.val
      · rw [if_pos h, if_pos (by omega)]
      · rw [if_neg h, if_neg (by omega)]
    · obtain rfl : d = 1 := by omega
      have hn : ¬ (64 * k.val ≤ 2047 - t.val ∧ 2047 - t.val < 64 * (k.val + 1)) := fun h => hy ⟨_, pcB_mem arg11 arg12 X k acc f ⟨(2047 - t.val - 64 * k.val) / 8, by omega⟩, by
        show ix3 1 t l ∈ (rcB k ⟨(2047 - t.val - 64 * k.val) / 8, by omega⟩).set
        rw [← rcB_at k ⟨(2047 - t.val - 64 * k.val) / 8, by omega⟩ ⟨7 - (2047 - t.val - 64 * k.val) % 8, by omega⟩ l t (by
          show t.val = 2040 - (64 * k.val + 8 * ((2047 - t.val - 64 * k.val) / 8)) + (7 - (2047 - t.val - 64 * k.val) % 8); omega)]
        exact mem_emb _ _⟩
      rw [mid_bwd, mid_bwd]
      by_cases h : 2047 - t.val < 64 * k.val
      · rw [if_pos h, if_pos (by omega)]
      · rw [if_neg h, if_neg (by omega)]

end trip

section loop

variable {a b : S2x2048x256.Idx → EReal} (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
  (X : BufTy.Contents (Elt Ideal) arg12.view.ty) (G : BufTy.Contents (Elt Ideal) arg11.view.ty)
  (ha : ∀ y, Ok (a y)) (hG : ∀ y, arg11.view.read (Elt Ideal) G y = a y) (hX : ∀ y, arg12.view.read (Elt Ideal) X y = b y)

include ha hG hX in
/-- Before every trip. -/
theorem loop_mid : ∀ n ≤ 32,
    (∀ l, (st_k0_t2 (F := Ideal) .none c none i arg1 harg1 arg2 harg2 arg3 harg3 arg4 harg4 arg5 harg5 arg6 harg6 arg7 harg7 arg8 harg8 arg9 harg9 arg10 harg10 arg11 harg11 arg12 harg12 rowNo X G (k0_pay3, k0_pay3) n).1.1 (ix2 0 l) = state a b 0 l (64 * n))
    ∧ (∀ l, (st_k0_t2 (F := Ideal) .none c none i arg1 harg1 arg2 harg2 arg3 harg3 arg4 harg4 arg5 harg5 arg6 harg6 arg7 harg7 arg8 harg8 arg9 harg9 arg10 harg10 arg11 harg11 arg12 harg12 rowNo X G (k0_pay3, k0_pay3) n).1.2 (ix2 0 l) = state a b 1 l (64 * n))
    ∧ ∀ y, arg11.view.read (Elt Ideal) (arg11.view.writes (Elt Ideal) G (st_k0_t2 (F := Ideal) .none c none i arg1 harg1 arg2 harg2 arg3 harg3 arg4 harg4 arg5 harg5 arg6 harg6 arg7 harg7 arg8 harg8 arg9 harg9 arg10 harg10 arg11 harg11 arg12 harg12 rowNo X G (k0_pay3, k0_pay3) n).2) y = mid a b (64 * n) y
  | 0, _ => by
    refine ⟨fun l => ?_, fun l => ?_, fun y => ?_⟩
    · exact zero_word'
    · exact zero_word'
    · refine (hG y).trans ?_
      obtain ⟨d, t, l, rfl⟩ : ∃ (d : Fin 2) (t : Fin 2048) (l : Fin 256), y = ix3 d t l := ⟨y 0, y 1, y 2, eq_ix3 y⟩
      by_cases hd : d = 0
      · subst hd; rw [mid_fwd, if_neg (by omega)]
      · obtain rfl : d = 1 := by omega
        rw [mid_bwd, if_neg (by omega)]
  | n + 1, h => by
    obtain ⟨h1, h2, h3⟩ := loop_mid n (by omega)
    have hs := st_k0_t2_succ (F := Ideal) .none c none i arg1 harg1 arg2 harg2 arg3 harg3 arg4 harg4 arg5 harg5 arg6 harg6 arg7 harg7 arg8 harg8 arg9 harg9 arg10 harg10 arg11 harg11 arg12 harg12 rowNo X G (k0_pay3, k0_pay3) (⟨n, show n < 32 by omega⟩ : Fin k0_t2_loop.trips)
    have hs' : st_k0_t2 (F := Ideal) .none c none i arg1 harg1 arg2 harg2 arg3 harg3 arg4 harg4 arg5 harg5 arg6 harg6 arg7 harg7 arg8 harg8 arg9 harg9 arg10 harg10 arg11 harg11 arg12 harg12 rowNo X G (k0_pay3, k0_pay3) (n + 1) = _ := hs
    rw [hs', trip_pieces, trip_result, View.writes_append]
    dsimp only
    generalize st_k0_t2 (F := Ideal) .none c none i arg1 harg1 arg2 harg2 arg3 harg3 arg4 harg4 arg5 harg5 arg6 harg6 arg7 harg7 arg8 harg8 arg9 harg9 arg10 harg10 arg11 harg11 arg12 harg12 rowNo X G (k0_pay3, k0_pay3) n = S at h1 h2 h3 ⊢
    refine ⟨fun l => ?_, fun l => ?_, ?_⟩
    · exact carF_at (fun r => blF_at arg11 arg12 X ⟨n, show n < 32 by omega⟩ _ ha h3 hX r l) _ (h1 l) 8 le_rfl
    · exact carB_at (fun r => blB_at arg11 arg12 X ⟨n, show n < 32 by omega⟩ _ ha h3 hX r l) _ (h2 l) 8 le_rfl
    · exact trip_mid arg11 arg12 X ⟨n, show n < 32 by omega⟩ S.1 _ ha h3 hX h1 h2

end loop

end Cert.Lru

end
-- ==== Proof.LruPay.lean ====
/- The recurrence kernel's payloads at an entry. -/
module

public import proofs.«01_k».proof.Proof.LruScan
public import proofs.«01_k».proof.Proof.Gen.Kernel4Ideal.Skeleton
public import Idealize.ShloMosaic.Lib.Pipeline.ValueKit
public import Idealize.ShloMosaic.Lib.Pointwise
public import Idealize.ShloMosaic.Lib.KernelVsHost

@[expose] public section

set_option maxRecDepth 16384

noncomputable section

namespace Cert.Lru

open Idealize.ShloMosaic Idealize.ShloMosaic.TcCoe
open Cert.Kernel4Ideal Cert.Kernel4Ideal.Gen

/-- A single-precision word's value. -/
abbrev wd (b : BitVec 32) : EReal := Ideal.ofBits .f32 b

/-- The logistic function as the kernel computes it. -/
def sg (x : EReal) : EReal := wd 0x3F000000#32 * Ideal.tanh (wd 0x3F000000#32 * x) + wd 0x3F000000#32

/-- The decay rate from the parameter. -/
def sp (x : EReal) : EReal :=
  max (0 - x) (0) + Ideal.log (1 + Ideal.exp (0 - max (0 - x) (-(0 - x))))

/-- The factor of a step. -/
def fac (z x : EReal) : EReal := Ideal.exp (sg z * (wd 0xC1000000#32 * sp x))

/-- The term of a step. -/
def trm (a z u : EReal) : EReal := Ideal.sqrt (1 - a * a) * sg z * u

/-- The branch that multiplies. -/
def gel (x : EReal) : EReal :=
  wd 0x3F000000#32 * x * (1 + Ideal.tanh (wd 0x3F4C422A#32 * (x + wd 0x3D372713#32 * x * x * x)))

theorem pay20_at (v : FVec Ideal S256x256 .f32) (i l : Fin 256) :
    k0_pay20 (F := Ideal) (k0_pay17 v) (k0_pay18 v) k0_pay19 (ix2 i l) = gel (v (ix2 i l)) := by
  pointwise [k0_pay20, k0_pay17, k0_pay18, k0_pay19, gel, wd]

theorem pay22_at (u : FVec Ideal S256x256 .f32) (w : FVec Ideal S1x256x256 .bf16) (b : FVec Ideal S1x256 .f32) (i l : Fin 256) :
    k0_pay22 u w b (ix2 i l) = sg ((∑ j : Fin 256, u (ix2 i j) * w (ix3 0 j l)) + b (ix2 0 l)) := by
  pointwise [k0_pay22, k0_pay21, sg, wd]

theorem pay23_at (u : FVec Ideal S256x256 .f32) (w : FVec Ideal S1x256x256 .bf16) (b : FVec Ideal S1x256 .f32) (i l : Fin 256) :
    k0_pay23 u w b (ix2 i l) = sg ((∑ j : Fin 256, u (ix2 i j) * w (ix3 0 j l)) + b (ix2 0 l)) := by
  pointwise [k0_pay23, k0_pay21, sg, wd]

theorem pay28_at (u : FVec Ideal S256x256 .f32) (w : FVec Ideal S1x256x256 .bf16) (b : FVec Ideal S1x256 .f32) (i l : Fin 256) :
    k0_pay28 (k0_pay21 u) w b (ix2 i l) = sg ((∑ j : Fin 256, u (ix2 i j) * w (ix3 0 j l)) + b (ix2 0 l)) := by
  pointwise [k0_pay28, k0_pay21, sg, wd]

theorem pay27_at (u : FVec Ideal S256x256 .f32) (w : FVec Ideal S1x256x256 .bf16) (b : FVec Ideal S1x256 .f32) (i l : Fin 256) :
    k0_pay27 (k0_pay21 u) w b (ix2 i l) = (∑ j : Fin 256, u (ix2 i j) * w (ix3 0 j l)) + b (ix2 0 l) := by
  pointwise [k0_pay27, k0_pay21]

theorem pay29_at (z : FVec Ideal S256x256 .f32) (x : FVec Ideal S1x256 .f32) (i l : Fin 256) :
    k0_pay29 z (Scalar.ofBits .f32 0x3F000000#32 : Ideal .f32) x (ix2 i l) = fac (z (ix2 i l)) (x (ix2 0 l)) := by
  pointwise [k0_pay29, fac, sg, sp, wd]
  rfl

theorem pay24_at (s : FVec Ideal S256x256 .f32) (x : FVec Ideal S1x256 .f32) (i l : Fin 256) :
    k0_pay24 s x (ix2 i l) = Ideal.exp (s (ix2 i l) * (wd 0xC1000000#32 * sp (x (ix2 0 l)))) := by
  pointwise [k0_pay24, sp, wd]
  rfl

theorem pay25_at (s : FVec Ideal S256x256 .f32) (x : FVec Ideal S1x256 .f32) (i l : Fin 256) :
    k0_pay25 s x (ix3 0 i l) = k0_pay24 s x (ix2 i l) := by
  pointwise [k0_pay25]

theorem pay1_at (s : FVec Ideal S256x256 .f32) (i l : Fin 256) : k0_pay1 s (ix3 0 i l) = s (ix2 i l) := by
  pointwise [k0_pay1]

theorem pay26_at (u s z : FVec Ideal S256x256 .f32) (x : FVec Ideal S1x256 .f32) (i l : Fin 256) :
    k0_pay26 u s z x (ix3 0 i l) = Ideal.sqrt (1 - k0_pay24 s x (ix2 i l) * k0_pay24 s x (ix2 i l)) * z (ix2 i l) * u (ix2 i l) := by
  pointwise [k0_pay26, wd]

theorem pay2_at (u z a : FVec Ideal S256x256 .f32) (i l : Fin 256) :
    k0_pay2 u z a (ix3 0 i l) = Ideal.sqrt (1 - a (ix2 i l) * a (ix2 i l)) * z (ix2 i l) * u (ix2 i l) := by
  pointwise [k0_pay2, wd]

theorem pay11_at (g : FVec Ideal S256x256 .f32) (x y : FVec Ideal S1x256x256 .f32) (i l : Fin 256) :
    k0_pay11 g x y (ix2 i l) = g (ix2 i l) * (x (ix3 0 i l) + y (ix3 0 i l)) := by
  pointwise [k0_pay11]

/-! ## The convolution -/

/-- Row `j` of a sequence with two zero rows before and one after. -/
def pd (f : Fin 2048 → EReal) (j : ℕ) : EReal := if h : 2 ≤ j ∧ j - 2 < 2048 then f ⟨j - 2, h.2⟩ else 0

/-- The convolution at step `t`. -/
def cnv (w : Fin 4 → EReal) (b : EReal) (f : Fin 2048 → EReal) (t : ℕ) : EReal :=
  w 0 * pd f t + w 1 * pd f (t + 1) + w 2 * pd f (t + 2) + w 3 * pd f (t + 3) + b

theorem pd_in (f : Fin 2048 → EReal) (j : ℕ) (s : Fin 2048) (h : j = s.val + 2) : pd f j = f s := by
  subst h
  rw [pd, dif_pos ⟨by omega, by omega⟩]
  congr 1

theorem pd_out (f : Fin 2048 → EReal) (j : ℕ) (h : j < 2 ∨ 2050 ≤ j) : pd f j = 0 := dif_neg (by omega)

theorem mask_prev (k : Fin k0_t1_loop.trips) :
    Scalar.extui (Scalar.cmpi .sgt (Scalar.muli (Scf.iv 0#32 1#32 k) 256#32) 0#32) = if 0 < k.val then 1#32 else 0#32 := by
  revert k; decide +kernel

theorem mask_next (k : Fin k0_t1_loop.trips) :
    Scalar.extui (Scalar.cmpi .slt (Scalar.addi (Scalar.muli (Scf.iv 0#32 1#32 k) 256#32) 256#32) 2048#32) = if k.val < 7 then 1#32 else 0#32 := by
  revert k; decide +kernel

theorem int_one : (Scalar.sitofp .f32 1#32 : Ideal .f32) = (1 : EReal) := by
  show (((1#32 : BitVec 32).toInt : ℝ) : EReal) = 1
  norm_num

theorem int_zero : (Scalar.sitofp .f32 0#32 : Ideal .f32) = (0 : EReal) := by
  show (((0#32 : BitVec 32).toInt : ℝ) : EReal) = 0
  norm_num

theorem pay12_at (k : Fin k0_t1_loop.trips) (v : FVec Ideal S8x256 .f32) (q : Fin 8) (l : Fin 256) :
    k0_pay12 0#32 1#32 k v (ix2 q l) = if 0 < k.val then v (ix2 q l) else 0 := by
  show v (ix2 q l) * (Scalar.sitofp .f32 (Scalar.extui (Scalar.cmpi .sgt (Scalar.muli (Scf.iv 0#32 1#32 k) 256#32) 0#32)) : Ideal .f32) = _
  rw [mask_prev]
  by_cases h : 0 < k.val
  · rw [if_pos h, if_pos h, int_one, mul_one]
  · rw [if_neg h, if_neg h, int_zero, mul_zero]

theorem pay13_at (k : Fin k0_t1_loop.trips) (v : FVec Ideal S8x256 .f32) (q : Fin 8) (l : Fin 256) :
    k0_pay13 0#32 1#32 k v (ix2 q l) = if k.val < 7 then v (ix2 q l) else 0 := by
  show v (ix2 q l) * (Scalar.sitofp .f32 (Scalar.extui (Scalar.cmpi .slt (Scalar.addi (Scalar.muli (Scf.iv 0#32 1#32 k) 256#32) 256#32) 2048#32)) : Ideal .f32) = _
  rw [mask_next]
  by_cases h : k.val < 7
  · rw [if_pos h, if_pos h, int_one, mul_one]
  · rw [if_neg h, if_neg h, int_zero, mul_zero]

theorem slt2 (i : Fin 8) : (IntOp.cmpi .slt (BitVec.ofNat 32 i.val) 2#32 = 1#1) ↔ i.val < 2 := by revert i; decide +kernel
theorem slt1 (i : Fin 8) : (IntOp.cmpi .slt (BitVec.ofNat 32 i.val) 1#32 = 1#1) ↔ i.val < 1 := by revert i; decide +kernel
theorem sge7 (i : Fin 8) : (IntOp.cmpi .sge (BitVec.ofNat 32 i.val) 7#32 = 1#1) ↔ 7 ≤ i.val := by revert i; decide +kernel

theorem sel' (c : BitVec 1) (x y : EReal) : Scalar.select c x y = if c = 1#1 then x else y := rfl

section conv

variable (k : Fin k0_t1_loop.trips) (v9 : FVec Ideal S256x256 .f32) (v17 v24 : FVec Ideal S8x256 .f32) (l : Fin 256) (f : Fin 2048 → EReal)
  (h9 : ∀ (i : Fin 256) (s : Fin 2048), s.val = 256 * k.val + i.val → v9 (ix2 i l) = f s)
  (h17 : ∀ (q : Fin 8) (s : Fin 2048), s.val + 8 = 256 * k.val + q.val → v17 (ix2 q l) = f s)
  (h24 : ∀ (q : Fin 8) (s : Fin 2048), s.val = 256 * k.val + 256 + q.val → v24 (ix2 q l) = f s)

include h9 h17 in
theorem back2 (i : Fin 256) (p1 : (i.val + 8 - 2) % 8 < 8) (p2 : (i.val + 256 - 2) % 256 < 256) (p3 : (8 + (i.val - 8) + 256 - 2) % 256 < 256) :
    (if h : i.val < 8 then
      Scalar.select (IntOp.cmpi CmpIPredicate.slt (BitVec.ofNat 32 i.val) 2#32)
        (k0_pay12 0#32 1#32 k v17 (ix2 ⟨(i.val + 8 - 2) % 8, p1⟩ l)) (v9 (ix2 ⟨(i.val + 256 - 2) % 256, p2⟩ l))
     else v9 (ix2 ⟨(8 + (i.val - 8) + 256 - 2) % 256, p3⟩ l)) = pd f (256 * k.val + i.val) := by
  have hk : k.val < 8 := k.isLt
  have hi := i.isLt
  by_cases h : i.val < 8
  · rw [dif_pos h, sel']
    by_cases h2 : i.val < 2
    · rw [if_pos ((slt2 ⟨i.val, h⟩).2 h2), pay12_at]
      by_cases h0 : 0 < k.val
      · rw [if_pos h0, pd_in f _ ⟨256 * k.val + i.val - 2, by omega⟩ (by dsimp only; omega)]
        exact h17 _ _ (by dsimp only; omega)
      · rw [if_neg h0, pd_out f _ (by omega)]
    · rw [if_neg (fun e => h2 ((slt2 ⟨i.val, h⟩).1 e)), pd_in f _ ⟨256 * k.val + i.val - 2, by omega⟩ (by dsimp only; omega)]
      exact h9 _ _ (by dsimp only; omega)
  · rw [dif_neg h, pd_in f _ ⟨256 * k.val + i.val - 2, by omega⟩ (by dsimp only; omega)]
    exact h9 _ _ (by dsimp only; omega)

include h9 h17 in
theorem back1 (i : Fin 256) (p1 : (i.val + 8 - 1) % 8 < 8) (p2 : (i.val + 256 - 1) % 256 < 256) (p3 : (8 + (i.val - 8) + 256 - 1) % 256 < 256) :
    (if h : i.val < 8 then
      Scalar.select (IntOp.cmpi CmpIPredicate.slt (BitVec.ofNat 32 i.val) 1#32)
        (k0_pay12 0#32 1#32 k v17 (ix2 ⟨(i.val + 8 - 1) % 8, p1⟩ l)) (v9 (ix2 ⟨(i.val + 256 - 1) % 256, p2⟩ l))
     else v9 (ix2 ⟨(8 + (i.val - 8) + 256 - 1) % 256, p3⟩ l)) = pd f (256 * k.val + i.val + 1) := by
  have hk : k.val < 8 := k.isLt
  have hi := i.isLt
  by_cases h : i.val < 8
  · rw [dif_pos h, sel']
    by_cases h2 : i.val < 1
    · rw [if_pos ((slt1 ⟨i.val, h⟩).2 h2), pay12_at]
      by_cases h0 : 0 < k.val
      · rw [if_pos h0, pd_in f _ ⟨256 * k.val + i.val - 1, by omega⟩ (by dsimp only; omega)]
        exact h17 _ _ (by dsimp only; omega)
      · rw [if_neg h0, pd_out f _ (by omega)]
    · rw [if_neg (fun e => h2 ((slt1 ⟨i.val, h⟩).1 e)), pd_in f _ ⟨256 * k.val + i.val - 1, by omega⟩ (by dsimp only; omega)]
      exact h9 _ _ (by dsimp only; omega)
  · rw [dif_neg h, pd_in f _ ⟨256 * k.val + i.val - 1, by omega⟩ (by dsimp only; omega)]
    exact h9 _ _ (by dsimp only; omega)

include h9 h24 in
theorem next1 (i : Fin 256) (p0 : (i.val + 256 - 255) % 256 < 256) (p1 : (i.val - 248 + 8 - 7) % 8 < 8) (p2 : (248 + (i.val - 248) + 256 - 255) % 256 < 256) :
    (if h : i.val < 248 then v9 (ix2 ⟨(i.val + 256 - 255) % 256, p0⟩ l)
     else
      Scalar.select (IntOp.cmpi CmpIPredicate.sge (BitVec.ofNat 32 (i.val - 248)) 7#32)
        (k0_pay13 0#32 1#32 k v24 (ix2 ⟨(i.val - 248 + 8 - 7) % 8, p1⟩ l)) (v9 (ix2 ⟨(248 + (i.val - 248) + 256 - 255) % 256, p2⟩ l)))
      = pd f (256 * k.val + i.val + 3) := by
  have hk : k.val < 8 := k.isLt
  have hi := i.isLt
  by_cases h : i.val < 248
  · rw [dif_pos h, pd_in f _ ⟨256 * k.val + i.val + 1, by omega⟩ (by dsimp only)]
    exact h9 _ _ (by dsimp only; omega)
  · rw [dif_neg h, sel']
    by_cases h2 : 7 ≤ i.val - 248
    · rw [if_pos ((sge7 ⟨i.val - 248, by omega⟩).2 h2), pay13_at]
      by_cases h0 : k.val < 7
      · rw [if_pos h0, pd_in f _ ⟨256 * k.val + i.val + 1, by omega⟩ (by dsimp only)]
        exact h24 _ _ (by dsimp only; omega)
      · rw [if_neg h0, pd_out f _ (by omega)]
    · rw [if_neg (fun e => h2 ((sge7 ⟨i.val - 248, by omega⟩).1 e)), pd_in f _ ⟨256 * k.val + i.val + 1, by omega⟩ (by dsimp only)]
      exact h9 _ _ (by dsimp only; omega)

include h9 h17 h24 in
/-- The convolution's chunk at an entry. -/
theorem conv_at (w0 w1 w2 w3 bb : FVec Ideal S1x256 .f32) (w : Fin 4 → EReal) (b : EReal) (e0 : w0 (ix2 0 l) = w 0) (e1 : w1 (ix2 0 l) = w 1)
    (e2 : w2 (ix2 0 l) = w 2) (e3 : w3 (ix2 0 l) = w 3) (eb : bb (ix2 0 l) = b) (i : Fin 256) :
    k0_pay16 (F := Ideal) v9 (k0_pay12 0#32 1#32 k v17) (k0_pay13 0#32 1#32 k v24) (k0_pay14 0#32 1#32 k v9 v17 w0) (k0_pay15 w1) 1#32 w2 w3 bb (ix2 i l)
      = cnv w b f (256 * k.val + i.val) := by
  have hk : k.val < 8 := k.isLt
  pointwise [k0_pay16, k0_pay14, k0_pay15]
  rw [e0, e1, e2, e3, eb, cnv, h9 i ⟨256 * k.val + i.val, by omega⟩ rfl, pd_in f (256 * k.val + i.val + 2) ⟨256 * k.val + i.val, by omega⟩ rfl]
  refine congrArg (· + b) (congrArg₂ (· + ·) (congrArg (· + w 2 * f ⟨256 * k.val + i.val, by omega⟩)
    (congrArg₂ (· + ·) (congrArg (w 0 * ·) ?_) (congrArg (w 1 * ·) ?_))) (congrArg (w 3 * ·) ?_))
  · have e := back2 k v9 v17 l f h9 h17 i (by omega) (by omega) (by omega)
    by_cases h : i.val < 8
    · rw [dif_pos h] at e ⊢; exact e
    · rw [dif_neg h] at e ⊢; exact e
  · have e := back1 k v9 v17 l f h9 h17 i (by omega) (by omega) (by omega)
    by_cases h : i.val < 8
    · rw [dif_pos h] at e ⊢; exact e
    · rw [dif_neg h] at e ⊢; exact e
  · have e := next1 k v9 v24 l f h9 h24 i (by omega) (by omega) (by omega)
    by_cases h : i.val < 248
    · rw [dif_pos h] at e ⊢; exact e
    · rw [dif_neg h] at e ⊢; exact e

end conv

end Cert.Lru

end
-- ==== Proof.LruFun.lean ====
/- The recurrence's scalar functions in the kernel's and in the reference's form. -/
module

public import proofs.«01_k».proof.Proof.LruPay
public import Mathlib.Analysis.SpecialFunctions.Trigonometric.DerivHyp
public import Mathlib.Data.EReal.Inv

@[expose] public section

noncomputable section

namespace Cert.Lru

open Idealize.ShloMosaic Idealize.ShloMosaic.TcCoe

theorem half_word : wd 0x3F000000#32 = ((1 / 2 : ℝ) : EReal) := by
  simp [wd, Ideal.ofBits, Ideal.ieee]
  rw [← EReal.coe_mul]; norm_num

theorem two_word : wd 0x40000000#32 = ((2 : ℝ) : EReal) := by
  simp [wd, Ideal.ofBits, Ideal.ieee]
  rw [← EReal.coe_mul]; norm_num

theorem rate_word : wd 0xC1000000#32 = ((-8 : ℝ) : EReal) := by
  simp [wd, Ideal.ofBits, Ideal.ieee]
  rw [← EReal.coe_mul]; norm_num

theorem logistic_real (r : ℝ) : (1 + Real.exp (-r))⁻¹ = 1 / 2 * Real.tanh (1 / 2 * r) + 1 / 2 := by
  rw [Real.tanh_eq_sinh_div_cosh, Real.sinh_eq, Real.cosh_eq, show -r = -(1 / 2 * r) + -(1 / 2 * r) by ring, Real.exp_add, Real.exp_neg]
  have h := Real.exp_pos (1 / 2 * r)
  generalize Real.exp (1 / 2 * r) = e at h
  field_simp
  ring

/-- The reference's logistic function is the kernel's. -/
theorem logistic_sg (x : EReal) : Ideal.logistic x = sg x := by
  rw [sg, half_word]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, Ideal.logistic_coe, ← EReal.coe_mul, ← EReal.coe_add, logistic_real]

theorem sg_ok (x : EReal) : ∃ r : ℝ, 0 ≤ r ∧ sg x = r := by
  rw [← logistic_sg]
  induction x with
  | bot => exact ⟨0, le_rfl, by rw [Ideal.logistic_bot, EReal.coe_zero]⟩
  | top => exact ⟨1, zero_le_one, by rw [Ideal.logistic_top, EReal.coe_one]⟩
  | coe r => exact ⟨(1 + Real.exp (-r))⁻¹, inv_nonneg.2 (by positivity), Ideal.logistic_coe r⟩

theorem log_nonneg {x : EReal} (h : 1 ≤ x) : 0 ≤ Ideal.log x := by
  induction x with
  | bot => exact absurd (le_bot_iff.1 h) (by rw [← EReal.coe_one]; exact EReal.coe_ne_bot 1)
  | top => simp
  | coe r =>
    have hr : 1 ≤ r := by exact_mod_cast h
    rw [Ideal.log_coe, if_neg (by linarith)]
    exact EReal.coe_nonneg.2 (Real.log_nonneg hr)

theorem exp_nonneg (x : EReal) : 0 ≤ Ideal.exp x := by
  induction x with
  | bot => simp
  | top => simp
  | coe r => exact EReal.coe_nonneg.2 (Real.exp_nonneg r)

theorem sp_nonneg (x : EReal) : 0 ≤ sp x :=
  add_nonneg (le_max_right _ _) (log_nonneg (le_add_of_nonneg_right (exp_nonneg _)))

theorem exp_ok {x : EReal} (h : x ≤ 0) : Ok (Ideal.exp x) := by
  refine ⟨exp_nonneg x, ?_⟩
  induction x with
  | bot => simp
  | top => simp at h
  | coe r => simp

/-- A step's factor is a nonnegative real. -/
theorem fac_ok (z x : EReal) : Ok (fac z x) := by
  obtain ⟨r, hr, e⟩ := sg_ok z
  refine exp_ok ?_
  rw [e, rate_word]
  have h1 : ((-8 : ℝ) : EReal) * sp x ≤ 0 := by
    rw [mul_comm]; exact EReal.mul_nonpos_iff.2 (Or.inl ⟨sp_nonneg x, by exact_mod_cast (by norm_num : (-8 : ℝ) ≤ 0)⟩)
  exact EReal.mul_nonpos_iff.2 (Or.inl ⟨EReal.coe_nonneg.2 hr, h1⟩)

/-- The exponent in the reference's order. -/
theorem expo (z x : EReal) : wd 0xC1000000#32 * sg z * sp x = sg z * (wd 0xC1000000#32 * sp x) := by
  rw [mul_comm (wd 0xC1000000#32) (sg z), mul_assoc]

/-- The reference's form under the root is the kernel's. -/
theorem under (L : EReal) : -(Ideal.exp (wd 0x40000000#32 * L) - 1) = 1 - Ideal.exp L * Ideal.exp L := by
  rw [two_word]
  induction L with
  | bot => rw [EReal.coe_mul_bot_of_pos (by norm_num)]; simp
  | top =>
    rw [EReal.coe_mul_top_of_pos (by norm_num)]; simp
    rw [← EReal.coe_one]; exact EReal.top_sub_coe 1
  | coe r =>
    rw [← EReal.coe_mul, Ideal.exp_coe, Ideal.exp_coe, ← EReal.coe_mul, ← Real.exp_add, ← EReal.coe_one, ← EReal.coe_sub, ← EReal.coe_sub, ← EReal.coe_neg]
    congr 1
    rw [show 2 * r = r + r by ring]; ring

end Cert.Lru

end
-- ==== Proof.LruPre.lean ====
/- What the recurrence kernel's first loop leaves in its three scratch buffers, and the block its last loop leaves. -/
module

public import proofs.«01_k».proof.Proof.LruTrip
public import proofs.«01_k».proof.Proof.LruLoop
public import proofs.«01_k».proof.Proof.LruFun
public import Idealize.ShloMosaic.Lib.WholeRead

@[expose] public section

set_option maxRecDepth 65536

noncomputable section

namespace Cert.Lru

open Idealize.ShloMosaic Idealize.ShloMosaic.TcCoe Idealize.ShloMosaic.Tactic
open Cert.Kernel4Ideal Cert.Kernel4Ideal.Gen

/-- A column of the gate, -/
def lo (l : Fin 256) : Fin 512 := ⟨l.val, by omega⟩
/-- and of the sequence. -/
def hi (l : Fin 256) : Fin 512 := ⟨256 + l.val, by omega⟩

section spec

variable (x0 : Vec Ideal S2048x512 .f32) (x1 : Vec Ideal S4x256 .f32) (x2 : Vec Ideal S1x256 .f32) (x3 : Vec Ideal S2x256x256 .bf16) (x4 : Vec Ideal S2x256 .f32) (x5 : Vec Ideal S2x256x256 .bf16) (x6 : Vec Ideal S2x256 .f32) (x7 : Vec Ideal S2x256 .f32)

/-- The convolved sequence, -/
def uu (t : ℕ) (l : Fin 256) : EReal := cnv (fun r => x1 (ix2 r l)) (x2 (ix2 0 l)) (fun s => x0 (ix2 s (hi l))) t
/-- a gate before its logistic, -/
def zz (w : Vec Ideal S2x256x256 .bf16) (b : Vec Ideal S2x256 .f32) (d : Fin 2) (t : ℕ) (l : Fin 256) : EReal :=
  (∑ j : Fin 256, uu x0 x1 x2 t j * w (ix3 d j l)) + b (ix2 d l)
/-- the factors by coordinates -/
def aa (d : Fin 2) (t : Fin 2048) (l : Fin 256) : EReal := fac (zz x0 x1 x2 x3 x4 d t.val l) (x7 (ix2 d l))
/-- and the terms, -/
def bb (d : Fin 2) (t : Fin 2048) (l : Fin 256) : EReal :=
  trm (aa x0 x1 x2 x3 x4 x7 d t l) (zz x0 x1 x2 x5 x6 d t.val l) (uu x0 x1 x2 t.val l)
/-- the factors by index -/
def aArr (y : S2x2048x256.Idx) : EReal := aa x0 x1 x2 x3 x4 x7 (y 0) (y 1) (y 2)
/-- and the terms, -/
def bArr (y : S2x2048x256.Idx) : EReal := bb x0 x1 x2 x3 x4 x5 x6 x7 (y 0) (y 1) (y 2)
/-- the gate by coordinates -/
def gg (t : Fin 2048) (l : Fin 256) : EReal := gel (x0 (ix2 t (lo l)))
/-- and by index. -/
def gArr (y : S2048x256.Idx) : EReal := gg x0 (y 0) (y 1)
/-- The block's entries. -/
def oo (t : Fin 2048) (l : Fin 256) : EReal :=
  gg x0 t l * (state (aArr x0 x1 x2 x3 x4 x7) (bArr x0 x1 x2 x3 x4 x5 x6 x7) 0 l (t.val + 1)
    + state (aArr x0 x1 x2 x3 x4 x7) (bArr x0 x1 x2 x3 x4 x5 x6 x7) 1 l (2047 - t.val + 1))
/-- The block. -/
def oArr (y : S2048x256.Idx) : EReal := oo x0 x1 x2 x3 x4 x5 x6 x7 (y 0) (y 1)

theorem aArr_ok (y : S2x2048x256.Idx) : Ok (aArr x0 x1 x2 x3 x4 x7 y) := fac_ok _ _

end spec

theorem off2_zero : ∀ k : Fin k0_t1_loop.trips, k0_off2 k 0 = 256 * k.val - 8 := by decide +kernel
theorem off2_one : ∀ k : Fin k0_t1_loop.trips, k0_off2 k 1 = 256 := by decide +kernel

/-- A load of a whole buffer's contents at a place. -/
theorem rd {S : Shape} {e : EltTy} {a : Memref sig .tc .vmem S e} (ha : a.IsWhole) (x : S.Idx → Elt Ideal e) (r : Rect S) (y : r.shape.Idx) (z : S.Idx)
    (h : r.emb y = z) : View.readAt (Elt Ideal) a.view r.toLoadRect (ha.unread x) y = x z :=
  (ha.readAt_unread x _ y).trans (congrArg x h)

section first

variable (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
variable (x0 : Vec Ideal S2048x512 .f32) (x1 : Vec Ideal S4x256 .f32) (x2 : Vec Ideal S1x256 .f32) (x3 : Vec Ideal S2x256x256 .bf16) (x4 : Vec Ideal S2x256 .f32) (x5 : Vec Ideal S2x256x256 .bf16) (x6 : Vec Ideal S2x256 .f32) (x7 : Vec Ideal S2x256 .f32)
  (k : Fin k0_t1_loop.trips)

theorem trips1 : k.val < 8 := k.isLt

omit k in
theorem trips3 (k : Fin k0_t3_loop.trips) : k.val < 8 := k.isLt

/-- A row of the trip's chunk. -/
def tr (k : ℕ) (hk : k < 8) (p : Fin 256) : Fin 2048 := ⟨256 * k + p.val, by omega⟩

theorem chG_at (p l : Fin 256) : chG (F := Ideal) arg1 (harg1.unread x0) k (ix2 p l) = x0 (ix2 (tr k.val (trips1 k) p) (lo l)) :=
  rd harg1 x0 _ _ _ (Rect.emb_eq_of_coords _ _ _ fun a => by
    match a with
    | ⟨0, _⟩ => exact (show 256 * k.val + p.val = 256 * k.val + 1 * p.val by omega).trans (congrArg (fun o => o + 1 * p.val) (congrFun (k0_off4_eq k) 0).symm)
    | ⟨1, _⟩ => exact (show l.val = 0 + 1 * l.val by omega).trans (congrArg (fun o => o + 1 * l.val) (congrFun (k0_off4_eq k) 1).symm))

theorem chX_at (p l : Fin 256) (s : Fin 2048) (h : s.val = 256 * k.val + p.val) : chX (F := Ideal) arg1 (harg1.unread x0) k (ix2 p l) = x0 (ix2 s (hi l)) :=
  rd harg1 x0 _ _ _ (Rect.emb_eq_of_coords _ _ _ fun a => by
    match a with
    | ⟨0, _⟩ => exact (show s.val = 256 * k.val + 1 * p.val by omega).trans (congrArg (fun o => o + 1 * p.val) (congrFun (k0_off1_eq k) 0).symm)
    | ⟨1, _⟩ => exact (show 256 + l.val = 256 + 1 * l.val by omega).trans (congrArg (fun o => o + 1 * l.val) (congrFun (k0_off1_eq k) 1).symm))

theorem chP_at (q : Fin 8) (l : Fin 256) (s : Fin 2048) (h : s.val + 8 = 256 * k.val + q.val) : chP (F := Ideal) arg1 (harg1.unread x0) k (ix2 q l) = x0 (ix2 s (hi l)) :=
  rd harg1 x0 _ _ _ (Rect.emb_eq_of_coords _ _ _ fun a => by
    show _ = k0_off2 k a + 1 * _
    match a with
    | ⟨0, _⟩ => show s.val = k0_off2 k 0 + 1 * q.val; rw [off2_zero]; omega
    | ⟨1, _⟩ => show 256 + l.val = k0_off2 k 1 + 1 * l.val; rw [off2_one]; omega)

theorem chN_at (q : Fin 8) (l : Fin 256) (s : Fin 2048) (h : s.val = 256 * k.val + 256 + q.val) : chN (F := Ideal) arg1 (harg1.unread x0) k (ix2 q l) = x0 (ix2 s (hi l)) :=
  rd harg1 x0 _ _ _ (Rect.emb_eq_of_coords _ _ _ fun a => by
    match a with
    | ⟨0, _⟩ => exact (show s.val = min (256 * k.val + 256) 2040 + 1 * q.val by omega).trans (congrArg (fun o => o + 1 * q.val) (congrFun (k0_off3_eq k) 0).symm)
    | ⟨1, _⟩ => exact (show 256 + l.val = 256 + 1 * l.val by omega).trans (congrArg (fun o => o + 1 * l.val) (congrFun (k0_off3_eq k) 1).symm))

theorem row_at {n : ℕ} {a : Memref sig .tc .vmem (⟨2, ![n, 256]⟩ : Shape) .f32} (ha : a.IsWhole) (x : Vec Ideal (⟨2, ![n, 256]⟩ : Shape) .f32) (r : Fin n) (h : ∀ b, (![r.val, 0] : Fin 2 → ℕ) b + S1x256.size b ≤ (⟨2, ![n, 256]⟩ : Shape).size b) (l : Fin 256) :
    View.readAt (Elt Ideal) a.view (Rect.unit (s := (⟨2, ![n, 256]⟩ : Shape)) ![r.val, 0] S1x256.size h).toLoadRect (ha.unread x) (ix2 (n0 := 1) 0 l) = x (ix2 r l) :=
  rd ha x _ _ _ (Rect.emb_eq_of_coords _ _ _ fun c => by
    match c with
    | ⟨0, _⟩ => show r.val = r.val + 1 * 0; omega
    | ⟨1, _⟩ => show l.val = 0 + 1 * l.val; omega)

theorem gw_at {a : Memref sig .tc .vmem S2x256x256 .bf16} (ha : a.IsWhole) (x : Vec Ideal S2x256x256 .bf16) (d : Fin 2) (h : ∀ b, (![d.val, 0, 0] : Fin 3 → ℕ) b + S1x256x256.size b ≤ S2x256x256.size b) (j l : Fin 256) :
    gw (F := Ideal) a (ha.unread x) d h (ix3 0 j l) = x (ix3 d j l) :=
  rd ha x _ _ _ (Rect.emb_eq_of_coords _ _ _ fun c => by
    match c with
    | ⟨0, _⟩ => show d.val = d.val + 1 * 0; omega
    | ⟨1, _⟩ => show j.val = 0 + 1 * j.val; omega
    | ⟨2, _⟩ => show l.val = 0 + 1 * l.val; omega)

theorem chC_at (p l : Fin 256) : chC (F := Ideal) arg1 arg2 arg3 (harg1.unread x0) (harg2.unread x1) (harg3.unread x2) k (ix2 p l) = uu x0 x1 x2 (256 * k.val + p.val) l :=
  conv_at k _ _ _ l (fun s => x0 (ix2 s (hi l))) (fun p s h => chX_at arg1 harg1 x0 k p l s h) (fun q s h => chP_at arg1 harg1 x0 k q l s h) (fun q s h => chN_at arg1 harg1 x0 k q l s h)
    _ _ _ _ _ (fun r => x1 (ix2 r l)) _ (row_at harg2 x1 0 _ l) (row_at harg2 x1 1 _ l) (row_at harg2 x1 2 _ l) (row_at harg2 x1 3 _ l) (row_at harg3 x2 0 _ l) p

/-- A gate's chunk, in either direction. -/
theorem sum_at {a : Memref sig .tc .vmem S2x256x256 .bf16} (ha : a.IsWhole) (w : Vec Ideal S2x256x256 .bf16) {a' : Memref sig .tc .vmem S2x256 .f32} (ha' : a'.IsWhole) (b : Vec Ideal S2x256 .f32) (d : Fin 2)
    (h : ∀ b, (![d.val, 0, 0] : Fin 3 → ℕ) b + S1x256x256.size b ≤ S2x256x256.size b) (h' : ∀ b, (![d.val, 0] : Fin 2 → ℕ) b + S1x256.size b ≤ S2x256.size b) (p l : Fin 256) :
    (∑ j : Fin 256, chC (F := Ideal) arg1 arg2 arg3 (harg1.unread x0) (harg2.unread x1) (harg3.unread x2) k (ix2 p j) * gw (F := Ideal) a (ha.unread w) d h (ix3 0 j l)) + gb (F := Ideal) a' (ha'.unread b) d h' (ix2 0 l)
      = zz x0 x1 x2 w b d (256 * k.val + p.val) l :=
  congrArg₂ (· + ·) (Finset.sum_congr rfl fun j _ => congrArg₂ (· * ·) (chC_at arg1 harg1 arg2 harg2 arg3 harg3 x0 x1 x2 k p j) (gw_at ha w d h j l)) (row_at ha' b d h' l)

theorem chA_at (p l : Fin 256) : chA (F := Ideal) arg1 arg2 arg3 arg4 arg5 arg8 (harg1.unread x0) (harg2.unread x1) (harg3.unread x2) (harg4.unread x3) (harg5.unread x4) (harg8.unread x7) k (ix2 p l)
    = aa x0 x1 x2 x3 x4 x7 1 (tr k.val (trips1 k) p) l :=
  (pay29_at _ _ p l).trans (congrArg₂ fac ((pay27_at _ _ _ p l).trans (sum_at arg1 harg1 arg2 harg2 arg3 harg3 x0 x1 x2 k harg4 x3 harg5 x4 1 _ _ p l)) (row_at harg8 x7 1 _ l))

theorem fac0_at (p l : Fin 256) : k0_pay24 (F := Ideal) (k0_pay22 (chC arg1 arg2 arg3 (harg1.unread x0) (harg2.unread x1) (harg3.unread x2) k) (gw arg4 (harg4.unread x3) 0 (by decide)) (gb arg5 (harg5.unread x4) 0 (by decide))) (gb arg8 (harg8.unread x7) 0 (by decide)) (ix2 p l)
    = aa x0 x1 x2 x3 x4 x7 0 (tr k.val (trips1 k) p) l :=
  (pay24_at _ _ p l).trans (congrArg₂ (fun s x => Ideal.exp (s * (wd 0xC1000000#32 * sp x))) ((pay22_at _ _ _ p l).trans (congrArg sg (sum_at arg1 harg1 arg2 harg2 arg3 harg3 x0 x1 x2 k harg4 x3 harg5 x4 0 _ _ p l))) (row_at harg8 x7 0 _ l))

theorem emb5 (p l : Fin 256) : (Rect.unit (s := S2048x256) (k0_off5 k) S256x256.size (k0_off5_inb k)).emb (ix2 p l) = ix2 (tr k.val (trips1 k) p) l :=
  Rect.emb_eq_of_coords _ _ _ fun c => by
    match c with
    | ⟨0, _⟩ => exact (show 256 * k.val + p.val = 256 * k.val + 1 * p.val by omega).trans (congrArg (fun o => o + 1 * p.val) (congrFun (k0_off5_eq k) 0).symm)
    | ⟨1, _⟩ => exact (show l.val = 0 + 1 * l.val by omega).trans (congrArg (fun o => o + 1 * l.val) (congrFun (k0_off5_eq k) 1).symm)

theorem emb6 (p l : Fin 256) : (Rect.unit (s := S2x2048x256) (k0_off6 k) S1x256x256.size (k0_off6_inb k)).emb (ix3 0 p l) = ix3 0 (tr k.val (trips1 k) p) l :=
  Rect.emb_eq_of_coords _ _ _ fun c => by
    match c with
    | ⟨0, _⟩ => exact congrArg (fun o => o + 1 * 0) (congrFun (k0_off6_eq k) 0).symm
    | ⟨1, _⟩ => exact (show 256 * k.val + p.val = 256 * k.val + 1 * p.val by omega).trans (congrArg (fun o => o + 1 * p.val) (congrFun (k0_off6_eq k) 1).symm)
    | ⟨2, _⟩ => exact (show l.val = 0 + 1 * l.val by omega).trans (congrArg (fun o => o + 1 * l.val) (congrFun (k0_off6_eq k) 2).symm)

theorem emb7 (p l : Fin 256) : (Rect.unit (s := S2x2048x256) (k0_off7 k) S1x256x256.size (k0_off7_inb k)).emb (ix3 0 p l) = ix3 1 (tr k.val (trips1 k) p) l :=
  Rect.emb_eq_of_coords _ _ _ fun c => by
    match c with
    | ⟨0, _⟩ => exact congrArg (fun o => o + 1 * 0) (congrFun (k0_off7_eq k) 0).symm
    | ⟨1, _⟩ => exact (show 256 * k.val + p.val = 256 * k.val + 1 * p.val by omega).trans (congrArg (fun o => o + 1 * p.val) (congrFun (k0_off7_eq k) 1).symm)
    | ⟨2, _⟩ => exact (show l.val = 0 + 1 * l.val by omega).trans (congrArg (fun o => o + 1 * l.val) (congrFun (k0_off7_eq k) 2).symm)

/-- Every index of a chunk by its coordinates. -/
theorem idx2 (x : S256x256.Idx) : ∃ p l : Fin 256, x = ix2 p l := ⟨x 0, x 1, eq_ix2 x⟩

theorem idx3 (x : S1x256x256.Idx) : ∃ p l : Fin 256, x = ix3 0 p l :=
  ⟨x 1, x 2, (eq_ix3 x).trans (congrArg (fun z => ix3 z (x 1) (x 2)) (Subsingleton.elim (α := Fin 1) _ _))⟩

theorem gate_trip : ∀ pc ∈ (tripL_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) k).1,
    ∀ x, pc.2 x = gArr x0 (pc.1.emb x) := by
  rw [gate_pieces]
  intro pc hpc x
  obtain rfl := List.mem_singleton.1 hpc
  obtain ⟨p, l, rfl⟩ := idx2 x
  exact (pay20_at _ p l).trans ((congrArg gel (chG_at arg1 harg1 x0 k p l)).trans (congrArg (gArr x0) (emb5 k p l)).symm)

theorem fac_trip : ∀ pc ∈ (tripL_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) k).2.1,
    ∀ x, pc.2 x = aArr x0 x1 x2 x3 x4 x7 (pc.1.emb x) := by
  rw [fac_pieces]
  intro pc hpc x
  rcases List.mem_cons.1 hpc with rfl | hpc
  · obtain ⟨p, l, rfl⟩ := idx3 x
    exact (pay1_at _ p l).trans ((chA_at arg1 harg1 arg2 harg2 arg3 harg3 arg4 harg4 arg5 harg5 arg8 harg8 x0 x1 x2 x3 x4 x7 k p l).trans (congrArg (aArr x0 x1 x2 x3 x4 x7) (emb7 k p l)).symm)
  · obtain rfl := List.mem_singleton.1 hpc
    obtain ⟨p, l, rfl⟩ := idx3 x
    exact (pay25_at _ _ p l).trans ((fac0_at arg1 harg1 arg2 harg2 arg3 harg3 arg4 harg4 arg5 harg5 arg8 harg8 x0 x1 x2 x3 x4 x7 k p l).trans (congrArg (aArr x0 x1 x2 x3 x4 x7) (emb6 k p l)).symm)

theorem trm_trip : ∀ pc ∈ (tripL_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) k).2.2,
    ∀ x, pc.2 x = bArr x0 x1 x2 x3 x4 x5 x6 x7 (pc.1.emb x) := by
  rw [trm_pieces]
  intro pc hpc x
  rcases List.mem_cons.1 hpc with rfl | hpc
  · obtain ⟨p, l, rfl⟩ := idx3 x
    refine (pay2_at _ _ _ p l).trans (Eq.trans ?_ (congrArg (bArr x0 x1 x2 x3 x4 x5 x6 x7) (emb7 k p l)).symm)
    rw [chA_at arg1 harg1 arg2 harg2 arg3 harg3 arg4 harg4 arg5 harg5 arg8 harg8 x0 x1 x2 x3 x4 x7 k p l, chC_at arg1 harg1 arg2 harg2 arg3 harg3 x0 x1 x2 k p l, pay28_at,
      sum_at arg1 harg1 arg2 harg2 arg3 harg3 x0 x1 x2 k harg6 x5 harg7 x6 1 _ _ p l]
    rfl
  · obtain rfl := List.mem_singleton.1 hpc
    obtain ⟨p, l, rfl⟩ := idx3 x
    refine (pay26_at _ _ _ _ p l).trans (Eq.trans ?_ (congrArg (bArr x0 x1 x2 x3 x4 x5 x6 x7) (emb6 k p l)).symm)
    rw [fac0_at arg1 harg1 arg2 harg2 arg3 harg3 arg4 harg4 arg5 harg5 arg8 harg8 x0 x1 x2 x3 x4 x7 k p l, chC_at arg1 harg1 arg2 harg2 arg3 harg3 x0 x1 x2 k p l, pay23_at,
      sum_at arg1 harg1 arg2 harg2 arg3 harg3 x0 x1 x2 k harg6 x5 harg7 x6 0 _ _ p l]
    rfl

omit k in
/-- Every piece of the first loop holds what it should. -/
theorem pre_pieces : ∀ n ≤ 8,
    (∀ pc ∈ (pb_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) n).1, ∀ x, pc.2 x = gArr x0 (pc.1.emb x))
    ∧ (∀ pc ∈ (pb_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) n).2.1, ∀ x, pc.2 x = aArr x0 x1 x2 x3 x4 x7 (pc.1.emb x))
    ∧ (∀ pc ∈ (pb_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) n).2.2, ∀ x, pc.2 x = bArr x0 x1 x2 x3 x4 x5 x6 x7 (pc.1.emb x))
  | 0, _ => ⟨fun _ h => absurd h List.not_mem_nil, fun _ h => absurd h List.not_mem_nil, fun _ h => absurd h List.not_mem_nil⟩
  | n + 1, hn => by
    obtain ⟨h1, h2, h3⟩ := pre_pieces n (by omega)
    have hs := pb_k0_t1_succ (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) (⟨n, show n < 8 by omega⟩ : Fin k0_t1_loop.trips)
    have hs' : pb_k0_t1 (F := Ideal) .none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) (n + 1) = _ := hs
    rw [hs']
    refine ⟨fun pc h => ?_, fun pc h => ?_, fun pc h => ?_⟩
    · rcases List.mem_append.1 h with h | h
      · exact gate_trip c i arg1 harg1 arg2 harg2 arg3 harg3 arg4 harg4 arg5 harg5 arg6 harg6 arg7 harg7 arg8 harg8 arg9 harg9 arg10 harg10 arg11 harg11 arg12 harg12 x0 x1 x2 x3 x4 x5 x6 x7 _ pc h
      · exact h1 pc h
    · rcases List.mem_append.1 h with h | h
      · exact fac_trip c i arg1 harg1 arg2 harg2 arg3 harg3 arg4 harg4 arg5 harg5 arg6 harg6 arg7 harg7 arg8 harg8 arg9 harg9 arg10 harg10 arg11 harg11 arg12 harg12 x0 x1 x2 x3 x4 x5 x6 x7 _ pc h
      · exact h2 pc h
    · rcases List.mem_append.1 h with h | h
      · exact trm_trip c i arg1 harg1 arg2 harg2 arg3 harg3 arg4 harg4 arg5 harg5 arg6 harg6 arg7 harg7 arg8 harg8 arg9 harg9 arg10 harg10 arg11 harg11 arg12 harg12 x0 x1 x2 x3 x4 x5 x6 x7 _ pc h
      · exact h3 pc h

omit k

theorem gate_read (g : BufTy.Contents (Elt Ideal) arg10.view.ty) (y : S2048x256.Idx) :
    arg10.view.read (Elt Ideal) (arg10.view.writes (Elt Ideal) g (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).1) y = gArr x0 y :=
  View.read_writes_apply_of_pieces arg10.view g (gArr x0) _ (pre_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 8 le_rfl).1 y (cover_gate c i arg1 harg1 arg2 harg2 arg3 harg3 arg4 harg4 arg5 harg5 arg6 harg6 arg7 harg7 arg8 harg8 arg9 harg9 arg10 harg10 arg11 harg11 arg12 harg12 x0 x1 x2 x3 x4 x5 x6 x7 y)

theorem fac_read (g : BufTy.Contents (Elt Ideal) arg11.view.ty) (y : S2x2048x256.Idx) :
    arg11.view.read (Elt Ideal) (arg11.view.writes (Elt Ideal) g (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1) y = aArr x0 x1 x2 x3 x4 x7 y :=
  View.read_writes_apply_of_pieces arg11.view g (aArr x0 x1 x2 x3 x4 x7) _ (pre_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 8 le_rfl).2.1 y (cover_factors c i arg1 harg1 arg2 harg2 arg3 harg3 arg4 harg4 arg5 harg5 arg6 harg6 arg7 harg7 arg8 harg8 arg9 harg9 arg10 harg10 arg11 harg11 arg12 harg12 x0 x1 x2 x3 x4 x5 x6 x7 y)

theorem trm_read (g : BufTy.Contents (Elt Ideal) arg12.view.ty) (y : S2x2048x256.Idx) :
    arg12.view.read (Elt Ideal) (arg12.view.writes (Elt Ideal) g (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.2) y = bArr x0 x1 x2 x3 x4 x5 x6 x7 y :=
  View.read_writes_apply_of_pieces arg12.view g (bArr x0 x1 x2 x3 x4 x5 x6 x7) _ (pre_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 8 le_rfl).2.2 y (cover_terms c i arg1 harg1 arg2 harg2 arg3 harg3 arg4 harg4 arg5 harg5 arg6 harg6 arg7 harg7 arg8 harg8 arg9 harg9 arg10 harg10 arg11 harg11 arg12 harg12 x0 x1 x2 x3 x4 x5 x6 x7 y)

/-- After the scan every row holds its direction's state. -/
theorem scan_read (g1 : BufTy.Contents (Elt Ideal) arg11.view.ty) (g2 : BufTy.Contents (Elt Ideal) arg12.view.ty) (y : S2x2048x256.Idx) :
    arg11.view.read (Elt Ideal) (arg11.view.writes (Elt Ideal) g1 (lruScan c i arg1 harg1 arg2 harg2 arg3 harg3 arg4 harg4 arg5 harg5 arg6 harg6 arg7 harg7 arg8 harg8 arg9 harg9 arg10 harg10 arg11 harg11 arg12 harg12 x0 x1 x2 x3 x4 x5 x6 x7 g1 g2 ++ (lruPre c i arg1 harg1 arg2 harg2 arg3 harg3 arg4 harg4 arg5 harg5 arg6 harg6 arg7 harg7 arg8 harg8 arg9 harg9 arg10 harg10 arg11 harg11 arg12 harg12 x0 x1 x2 x3 x4 x5 x6 x7).2.1)) y
      = mid (aArr x0 x1 x2 x3 x4 x7) (bArr x0 x1 x2 x3 x4 x5 x6 x7) 2048 y := by
  rw [View.writes_append]
  exact (loop_mid c i arg1 harg1 arg2 harg2 arg3 harg3 arg4 harg4 arg5 harg5 arg6 harg6 arg7 harg7 arg8 harg8 arg9 harg9 arg10 harg10 arg11 harg11 arg12 harg12 _ _ (aArr_ok x0 x1 x2 x3 x4 x7) (fac_read c i arg1 harg1 arg2 harg2 arg3 harg3 arg4 harg4 arg5 harg5 arg6 harg6 arg7 harg7 arg8 harg8 arg9 harg9 arg10 harg10 arg11 harg11 arg12 harg12 x0 x1 x2 x3 x4 x5 x6 x7 g1) (trm_read c i arg1 harg1 arg2 harg2 arg3 harg3 arg4 harg4 arg5 harg5 arg6 harg6 arg7 harg7 arg8 harg8 arg9 harg9 arg10 harg10 arg11 harg11 arg12 harg12 x0 x1 x2 x3 x4 x5 x6 x7 g2) 32 le_rfl).2.2 y

end first

section last

variable (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
variable {x0 : Vec Ideal S2048x512 .f32} {x1 : Vec Ideal S4x256 .f32} {x2 : Vec Ideal S1x256 .f32} {x3 : Vec Ideal S2x256x256 .bf16} {x4 : Vec Ideal S2x256 .f32} {x5 : Vec Ideal S2x256x256 .bf16} {x6 : Vec Ideal S2x256 .f32} {x7 : Vec Ideal S2x256 .f32}
  (X10 : BufTy.Contents (Elt Ideal) arg10.view.ty) (X11 : BufTy.Contents (Elt Ideal) arg11.view.ty)
  (h10 : ∀ y, arg10.view.read (Elt Ideal) X10 y = gArr x0 y)
  (h11 : ∀ y, arg11.view.read (Elt Ideal) X11 y = mid (aArr x0 x1 x2 x3 x4 x7) (bArr x0 x1 x2 x3 x4 x5 x6 x7) 2048 y)

theorem emb10 (k : Fin k0_t3_loop.trips) (p l : Fin 256) : (Rect.unit (s := S2048x256) (k0_off10 k) S256x256.size (k0_off10_inb k)).emb (ix2 p l) = ix2 (tr k.val (trips3 k) p) l :=
  Rect.emb_eq_of_coords _ _ _ fun c => by
    match c with
    | ⟨0, _⟩ => exact (show 256 * k.val + p.val = 256 * k.val + 1 * p.val by omega).trans (congrArg (fun o => o + 1 * p.val) (congrFun (k0_off10_eq k) 0).symm)
    | ⟨1, _⟩ => exact (show l.val = 0 + 1 * l.val by omega).trans (congrArg (fun o => o + 1 * l.val) (congrFun (k0_off10_eq k) 1).symm)

theorem emb11 (k : Fin k0_t3_loop.trips) (p l : Fin 256) : (Rect.unit (s := S2x2048x256) (k0_off11 k) S1x256x256.size (k0_off11_inb k)).emb (ix3 0 p l) = ix3 0 (tr k.val (trips3 k) p) l :=
  Rect.emb_eq_of_coords _ _ _ fun c => by
    match c with
    | ⟨0, _⟩ => exact congrArg (fun o => o + 1 * 0) (congrFun (k0_off11_eq k) 0).symm
    | ⟨1, _⟩ => exact (show 256 * k.val + p.val = 256 * k.val + 1 * p.val by omega).trans (congrArg (fun o => o + 1 * p.val) (congrFun (k0_off11_eq k) 1).symm)
    | ⟨2, _⟩ => exact (show l.val = 0 + 1 * l.val by omega).trans (congrArg (fun o => o + 1 * l.val) (congrFun (k0_off11_eq k) 2).symm)

theorem emb12 (k : Fin k0_t3_loop.trips) (p l : Fin 256) : (Rect.unit (s := S2x2048x256) (k0_off12 k) S1x256x256.size (k0_off12_inb k)).emb (ix3 0 p l) = ix3 1 (tr k.val (trips3 k) p) l :=
  Rect.emb_eq_of_coords _ _ _ fun c => by
    match c with
    | ⟨0, _⟩ => exact congrArg (fun o => o + 1 * 0) (congrFun (k0_off12_eq k) 0).symm
    | ⟨1, _⟩ => exact (show 256 * k.val + p.val = 256 * k.val + 1 * p.val by omega).trans (congrArg (fun o => o + 1 * p.val) (congrFun (k0_off12_eq k) 1).symm)
    | ⟨2, _⟩ => exact (show l.val = 0 + 1 * l.val by omega).trans (congrArg (fun o => o + 1 * l.val) (congrFun (k0_off12_eq k) 2).symm)

include h10 h11 in
theorem out_trip (k : Fin k0_t3_loop.trips) : ∀ pc ∈ tripL_k0_t3 (F := Ideal) .none c none i arg1 harg1 arg2 harg2 arg3 harg3 arg4 harg4 arg5 harg5 arg6 harg6 arg7 harg7 arg8 harg8 arg9 harg9 arg10 harg10 arg11 harg11 arg12 harg12 X10 X11 k,
    ∀ x, pc.2 x = oArr x0 x1 x2 x3 x4 x5 x6 x7 (pc.1.emb x) := by
  rw [out_pieces]
  intro pc hpc x
  obtain rfl := List.mem_singleton.1 hpc
  obtain ⟨p, l, rfl⟩ := idx2 x
  refine (pay11_at _ _ _ p l).trans (Eq.trans ?_ (congrArg (oArr x0 x1 x2 x3 x4 x5 x6 x7) (emb10 k p l)).symm)
  have e0 : View.readAt (Elt Ideal) arg10.view (Rect.unit (s := S2048x256) (k0_off10 k) S256x256.size (k0_off10_inb k)).toLoadRect X10 (ix2 p l) = gg x0 (tr k.val (trips3 k) p) l :=
    (congrArg (arg10.view.read (Elt Ideal) X10) (emb10 k p l)).trans (h10 _)
  have e1 : View.readAt (Elt Ideal) arg11.view (Rect.unit (s := S2x2048x256) (k0_off11 k) S1x256x256.size (k0_off11_inb k)).toLoadRect X11 (ix3 0 p l) = state (aArr x0 x1 x2 x3 x4 x7) (bArr x0 x1 x2 x3 x4 x5 x6 x7) 0 l ((tr k.val (trips3 k) p).val + 1) :=
    (congrArg (arg11.view.read (Elt Ideal) X11) (emb11 k p l)).trans ((h11 _).trans ((mid_fwd _ _ _ _ _).trans (if_pos (tr k.val (trips3 k) p).isLt)))
  have e2 : View.readAt (Elt Ideal) arg11.view (Rect.unit (s := S2x2048x256) (k0_off12 k) S1x256x256.size (k0_off12_inb k)).toLoadRect X11 (ix3 0 p l) = state (aArr x0 x1 x2 x3 x4 x7) (bArr x0 x1 x2 x3 x4 x5 x6 x7) 1 l (2047 - (tr k.val (trips3 k) p).val + 1) :=
    (congrArg (arg11.view.read (Elt Ideal) X11) (emb12 k p l)).trans ((h11 _).trans ((mid_bwd _ _ _ _ _).trans (if_pos (by omega))))
  rw [e0, e1, e2]
  rfl

include h10 h11 in
/-- Every piece of the last loop holds what it should. -/
theorem post_pieces : ∀ n ≤ 8, ∀ pc ∈ pb_k0_t3 (F := Ideal) .none c none i arg1 harg1 arg2 harg2 arg3 harg3 arg4 harg4 arg5 harg5 arg6 harg6 arg7 harg7 arg8 harg8 arg9 harg9 arg10 harg10 arg11 harg11 arg12 harg12 X10 X11 n, ∀ x, pc.2 x = oArr x0 x1 x2 x3 x4 x5 x6 x7 (pc.1.emb x)
  | 0, _ => fun _ h => absurd h List.not_mem_nil
  | n + 1, hn => by
    have hs := pb_k0_t3_succ (F := Ideal) .none c none i arg1 harg1 arg2 harg2 arg3 harg3 arg4 harg4 arg5 harg5 arg6 harg6 arg7 harg7 arg8 harg8 arg9 harg9 arg10 harg10 arg11 harg11 arg12 harg12 X10 X11 (⟨n, show n < 8 by omega⟩ : Fin k0_t3_loop.trips)
    have hs' : pb_k0_t3 (F := Ideal) .none c none i arg1 harg1 arg2 harg2 arg3 harg3 arg4 harg4 arg5 harg5 arg6 harg6 arg7 harg7 arg8 harg8 arg9 harg9 arg10 harg10 arg11 harg11 arg12 harg12 X10 X11 (n + 1) = _ := hs
    rw [hs']
    intro pc h
    rcases List.mem_append.1 h with h | h
    · exact out_trip c i arg1 harg1 arg2 harg2 arg3 harg3 arg4 harg4 arg5 harg5 arg6 harg6 arg7 harg7 arg8 harg8 arg9 harg9 arg10 harg10 arg11 harg11 arg12 harg12 X10 X11 h10 h11 _ pc h
    · exact post_pieces n (by omega) pc h

end last

/-- The block the body leaves. -/
theorem out_block (c : Dev nD) (i : grid0.Coords) (arg1 : Memref sig .tc .vmem S2048x512 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2x256x256 .bf16) (harg4 : arg4.IsWhole) (arg5 : Memref sig .tc .vmem S2x256 .f32) (harg5 : arg5.IsWhole) (arg6 : Memref sig .tc .vmem S2x256x256 .bf16) (harg6 : arg6.IsWhole) (arg7 : Memref sig .tc .vmem S2x256 .f32) (harg7 : arg7.IsWhole) (arg8 : Memref sig .tc .vmem S2x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2x2048x256 .f32) (harg11 : arg11.IsWhole) (arg12 : Memref sig .tc .vmem S2x2048x256 .f32) (harg12 : arg12.IsWhole)
    (x0 : Vec Ideal S2048x512 .f32) (x1 : Vec Ideal S4x256 .f32) (x2 : Vec Ideal S1x256 .f32) (x3 : Vec Ideal S2x256x256 .bf16) (x4 : Vec Ideal S2x256 .f32) (x5 : Vec Ideal S2x256x256 .bf16) (x6 : Vec Ideal S2x256 .f32) (x7 : Vec Ideal S2x256 .f32)
    (t : Fin 2048) (l : Fin 256) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 t l) = oo x0 x1 x2 x3 x4 x5 x6 x7 t l := by
  unfold out0_A_8
  exact View.read_writes_apply_of_pieces VO0_8 VO0_8.junk (oArr x0 x1 x2 x3 x4 x5 x6 x7) _
    (post_pieces c i arg1 harg1 arg2 harg2 arg3 harg3 arg4 harg4 arg5 harg5 arg6 harg6 arg7 harg7 arg8 harg8 arg9 harg9 arg10 harg10 arg11 harg11 arg12 harg12 _ _ (gate_read c i arg1 harg1 arg2 harg2 arg3 harg3 arg4 harg4 arg5 harg5 arg6 harg6 arg7 harg7 arg8 harg8 arg9 harg9 arg10 harg10 arg11 harg11 arg12 harg12 x0 x1 x2 x3 x4 x5 x6 x7 _) (scan_read c i arg1 harg1 arg2 harg2 arg3 harg3 arg4 harg4 arg5 harg5 arg6 harg6 arg7 harg7 arg8 harg8 arg9 harg9 arg10 harg10 arg11 harg11 arg12 harg12 x0 x1 x2 x3 x4 x5 x6 x7 _ _) 8 le_rfl)
    (ix2 t l) (cover_out c i arg1 harg1 arg2 harg2 arg3 harg3 arg4 harg4 arg5 harg5 arg6 harg6 arg7 harg7 arg8 harg8 arg9 harg9 arg10 harg10 arg11 harg11 arg12 harg12 x0 x1 x2 x3 x4 x5 x6 x7 _ _ _ _)

end Cert.Lru

end
-- ==== Proof.LruAssoc.lean ====
/- The scan of the reference: it halves the rows, joining neighbours, down to one row, and doubles them again, setting the
   joined rows between the others. Each row stands for a run of steps of the recurrence. -/
module

public import proofs.«01_k».proof.Proof.LruScan
public import Idealize.ShloMosaic.Lib.Pipeline.ValueKit
public import Idealize.ShloMosaic.Lib.Pointwise
public import Idealize.ShloMosaic.Lib.KernelVsHost

@[expose] public section

set_option maxRecDepth 16384

noncomputable section

namespace Cert.Lru

open Idealize.ShloMosaic

/-- An array of two directions, eight sequences, `n` rows and 256 lanes. -/
abbrev Q (n : ℕ) : Shape := ⟨4, ![2, 8, n, 256]⟩

abbrev Q0 : Shape := ⟨0, ![]⟩

variable {n m k o : ℕ}

/-- Every other row, from row `o` on. -/
theorem cut2 (x : (Q n).Idx → EReal) (h : (Q n).SlicesBy (![0, 0, o, 0] : Fin 4 → Nat) ![1, 1, 2, 1] (Q m))
    (d : Fin 2) (b : Fin 8) (t : Fin m) (l : Fin 256) (t' : Fin n) (ht : t'.val = o + 2 * t.val) :
    Host.slice (Q m) ![0, 0, o, 0] ![1, 1, 2, 1] x h (ix4 d b t l) = x (ix4 d b t' l) := by
  rw [Host.slice_apply]
  refine congrArg x (funext fun a => Fin.ext ?_)
  match a with
  | ⟨0, _⟩ => show 0 + 1 * d.val = d.val; omega
  | ⟨1, _⟩ => show 0 + 1 * b.val = b.val; omega
  | ⟨2, _⟩ => show o + 2 * t.val = t'.val; omega
  | ⟨3, _⟩ => show 0 + 1 * l.val = l.val; omega

/-- The first rows. -/
theorem cut1 (x : (Q n).Idx → EReal) (h : (Q n).Slices ![0, 0, 0, 0] (Q m))
    (d : Fin 2) (b : Fin 8) (t : Fin m) (l : Fin 256) (t' : Fin n) (ht : t'.val = t.val) :
    extractStridedSlice (Q m) ![0, 0, 0, 0] x h (ix4 d b t l) = x (ix4 d b t' l) := by
  unfold extractStridedSlice
  refine congrArg x (funext fun a => Fin.ext ?_)
  match a with
  | ⟨0, _⟩ => show 0 + d.val = d.val; omega
  | ⟨1, _⟩ => show 0 + b.val = b.val; omega
  | ⟨2, _⟩ => show 0 + t.val = t'.val; omega
  | ⟨3, _⟩ => show 0 + l.val = l.val; omega

theorem zero_word (i : Q0.Idx) : constant (F := Ideal) Q0 .f32 0x00000000#32 i = (0 : EReal) := by
  simp [constant, Ideal.ofBits, Ideal.ieee]

/-- Rows set between others: `g` after the first row `x0` at the even places, `O` at the odd ones. -/
def weave (x0 : (Q 1).Idx → EReal) (g : (Q k).Idx → EReal) (O : (Q m).Idx → EReal)
    (hc : Shape.Concatenates [Q 1, Q k] (Q m) 2)
    (hp : (Q m).Pads (![0, 0, 0, 0] : Fin 4 → Nat) ![0, 0, 1, 0] ![0, 0, 1, 0] (Q n))
    (hp' : (Q m).Pads (![0, 0, 1, 0] : Fin 4 → Nat) ![0, 0, 0, 0] ![0, 0, 1, 0] (Q n)) (hu : 0 < Q0.numel) : (Q n).Idx → EReal :=
  addf (F := Ideal) (φ := .f32)
    (pad (Q n) ![0, 0, 0, 0] ![0, 0, 1, 0] ![0, 0, 1, 0] (concatenate (Q m) 2 [⟨Q 1, x0⟩, ⟨Q k, g⟩] hc) (constant (F := Ideal) Q0 .f32 0x00000000#32) hp hu)
    (pad (Q n) ![0, 0, 1, 0] ![0, 0, 0, 0] ![0, 0, 1, 0] O (constant (F := Ideal) Q0 .f32 0x00000000#32) hp' hu)

section weave

variable (x0 : (Q 1).Idx → EReal) (g : (Q k).Idx → EReal) (O : (Q m).Idx → EReal)
    (hc : Shape.Concatenates [Q 1, Q k] (Q m) 2)
    (hp : (Q m).Pads (![0, 0, 0, 0] : Fin 4 → Nat) ![0, 0, 1, 0] ![0, 0, 1, 0] (Q n))
    (hp' : (Q m).Pads (![0, 0, 1, 0] : Fin 4 → Nat) ![0, 0, 0, 0] ![0, 0, 1, 0] (Q n)) (hu : 0 < Q0.numel)
    (d : Fin 2) (b : Fin 8) (l : Fin 256) (t : Fin n)

theorem weave_odd (s : Fin m) (hs : t.val = 1 + s.val * 2) : weave x0 g O hc hp hp' hu (ix4 d b t l) = O (ix4 d b s l) := by
  show pad _ _ _ _ _ _ hp hu _ + pad _ _ _ _ _ _ hp' hu _ = _
  rw [pad_apply_of_not_inside _ _ _ _ _ hp hu (ix4 d b t l) 2 (by
      rintro ⟨_, h, _⟩
      have h' : (t.val - 0) % (1 + 1) = 0 := h
      omega), zero_word, zero_add,
    pad_apply_of_inside _ _ _ _ _ hp' hu (ix4 d b t l) (ix4 d b s l) (fun a => by
      match a with
      | ⟨0, _⟩ => show d.val = 0 + d.val * (0 + 1); omega
      | ⟨1, _⟩ => show b.val = 0 + b.val * (0 + 1); omega
      | ⟨2, _⟩ => show t.val = 1 + s.val * (1 + 1); omega
      | ⟨3, _⟩ => show l.val = 0 + l.val * (0 + 1); omega)]

theorem weave_even' (s : Fin m) (hs : t.val = s.val * 2) :
    weave x0 g O hc hp hp' hu (ix4 d b t l) = concatenate (Q m) 2 [⟨Q 1, x0⟩, ⟨Q k, g⟩] hc (ix4 d b s l) := by
  show pad _ _ _ _ _ _ hp hu _ + pad _ _ _ _ _ _ hp' hu _ = _
  rw [pad_apply_of_not_inside _ _ _ _ _ hp' hu (ix4 d b t l) 2 (by
      rintro ⟨h1, h, _⟩
      have h' : (t.val - 1) % (1 + 1) = 0 := h
      have h1' : 1 ≤ t.val := h1
      omega), zero_word, add_zero,
    pad_apply_of_inside _ _ _ _ _ hp hu (ix4 d b t l) (ix4 d b s l) (fun a => by
      match a with
      | ⟨0, _⟩ => show d.val = 0 + d.val * (0 + 1); omega
      | ⟨1, _⟩ => show b.val = 0 + b.val * (0 + 1); omega
      | ⟨2, _⟩ => show t.val = 0 + s.val * (1 + 1); omega
      | ⟨3, _⟩ => show l.val = 0 + l.val * (0 + 1); omega)]

theorem weave_zero (hm : 0 < m) (ht : t.val = 0) : weave x0 g O hc hp hp' hu (ix4 d b t l) = x0 (ix4 d b 0 l) := by
  rw [weave_even' x0 g O hc hp hp' hu d b l t ⟨0, hm⟩ (by show t.val = 0 * 2; omega)]
  exact concatenate_pair_apply_left _ _ _ hc _ rfl _ fun a => by
    match a with
    | ⟨0, _⟩ => rfl
    | ⟨1, _⟩ => rfl
    | ⟨2, _⟩ => rfl
    | ⟨3, _⟩ => rfl

theorem weave_even (s : Fin k) (hk : k + 1 = m) (hs : t.val = (s.val + 1) * 2) : weave x0 g O hc hp hp' hu (ix4 d b t l) = g (ix4 d b s l) := by
  rw [weave_even' x0 g O hc hp hp' hu d b l t ⟨s.val + 1, by omega⟩ hs]
  exact concatenate_pair_apply_right _ _ _ hc _ rfl rfl _ (fun a ha => by
    match a with
    | ⟨0, _⟩ => rfl
    | ⟨1, _⟩ => rfl
    | ⟨2, _⟩ => exact absurd rfl ha
    | ⟨3, _⟩ => rfl) rfl

end weave

variable {A B : Fin 2 → Fin 8 → Fin 256 → ℕ → EReal} {w : ℕ}

/-- Row `t` stands for the `w` steps from `w·t` on. -/
def Lvl (A B : Fin 2 → Fin 8 → Fin 256 → ℕ → EReal) (w : ℕ) (x y : (Q n).Idx → EReal) : Prop :=
  ∀ (d : Fin 2) (b : Fin 8) (t : Fin n) (l : Fin 256), Rep (A d b l) (B d b l) (w * t.val) w (x (ix4 d b t l)) (y (ix4 d b t l))

/-- Row `t` stands for the first `w·(t+1)` steps. -/
def Top (A B : Fin 2 → Fin 8 → Fin 256 → ℕ → EReal) (w : ℕ) (x y : (Q n).Idx → EReal) : Prop :=
  ∀ (d : Fin 2) (b : Fin 8) (t : Fin n) (l : Fin 256), Rep (A d b l) (B d b l) 0 (w * (t.val + 1)) (x (ix4 d b t l)) (y (ix4 d b t l))

theorem Lvl.down {x y : (Q n).Idx → EReal} (H : Lvl A B w x y)
    (h0 : (Q n).SlicesBy (![0, 0, 0, 0] : Fin 4 → Nat) ![1, 1, 2, 1] (Q m))
    (h1 : (Q n).SlicesBy (![0, 0, 1, 0] : Fin 4 → Nat) ![1, 1, 2, 1] (Q m)) (hn : 2 * m ≤ n) :
    Lvl A B (2 * w)
      (mulf (F := Ideal) (φ := .f32) (Host.slice (Q m) ![0, 0, 0, 0] ![1, 1, 2, 1] x h0) (Host.slice (Q m) ![0, 0, 1, 0] ![1, 1, 2, 1] x h1))
      (addf (F := Ideal) (φ := .f32) (mulf (F := Ideal) (φ := .f32) (Host.slice (Q m) ![0, 0, 1, 0] ![1, 1, 2, 1] x h1) (Host.slice (Q m) ![0, 0, 0, 0] ![1, 1, 2, 1] y h0))
        (Host.slice (Q m) ![0, 0, 1, 0] ![1, 1, 2, 1] y h1)) := by
  intro d b t l
  have ht := t.isLt
  show Rep _ _ _ _ (Host.slice _ _ _ x h0 _ * Host.slice _ _ _ x h1 _) (Host.slice _ _ _ x h1 _ * Host.slice _ _ _ y h0 _ + Host.slice _ _ _ y h1 _)
  rw [cut2 x h0 d b t l ⟨2 * t.val, by omega⟩ (by show 2 * t.val = 0 + 2 * t.val; omega), cut2 x h1 d b t l ⟨1 + 2 * t.val, by omega⟩ rfl,
    cut2 y h0 d b t l ⟨2 * t.val, by omega⟩ (by show 2 * t.val = 0 + 2 * t.val; omega), cut2 y h1 d b t l ⟨1 + 2 * t.val, by omega⟩ rfl]
  refine (Rep.join (H d b ⟨2 * t.val, by omega⟩ l) ((H d b ⟨1 + 2 * t.val, by omega⟩ l).cast ?_ rfl rfl rfl)).cast ?_ (by omega) (mul_comm _ _) rfl
  · show w * (1 + 2 * t.val) = w * (2 * t.val) + w; ring
  · show w * (2 * t.val) = 2 * w * t.val; ring

theorem Lvl.top {x y : (Q 1).Idx → EReal} (H : Lvl A B w x y) : Top A B w x y := fun d b t l =>
  (H d b t l).cast (by have : t.val = 0 := by omega
                       rw [this, Nat.mul_zero]) (by have : t.val = 0 := by omega
                                                    rw [this, Nat.zero_add, Nat.mul_one]) rfl rfl

theorem Lvl.up {x y : (Q n).Idx → EReal} {X Y : (Q m).Idx → EReal} (H : Lvl A B w x y) (T : Top A B (2 * w) X Y)
    (hc : Shape.Concatenates [Q 1, Q k] (Q m) 2)
    (hp : (Q m).Pads (![0, 0, 0, 0] : Fin 4 → Nat) ![0, 0, 1, 0] ![0, 0, 1, 0] (Q n))
    (hp' : (Q m).Pads (![0, 0, 1, 0] : Fin 4 → Nat) ![0, 0, 0, 0] ![0, 0, 1, 0] (Q n)) (hu : 0 < Q0.numel)
    (hs : (Q n).Slices ![0, 0, 0, 0] (Q 1)) (hS : (Q m).Slices ![0, 0, 0, 0] (Q k))
    (h2 : (Q n).SlicesBy (![0, 0, 2, 0] : Fin 4 → Nat) ![1, 1, 2, 1] (Q k)) (hk : k + 1 = m) (hn : n = 2 * m) :
    Top A B w
      (weave (extractStridedSlice (Q 1) ![0, 0, 0, 0] x hs)
        (mulf (F := Ideal) (φ := .f32) (extractStridedSlice (Q k) ![0, 0, 0, 0] X hS) (Host.slice (Q k) ![0, 0, 2, 0] ![1, 1, 2, 1] x h2)) X hc hp hp' hu)
      (weave (extractStridedSlice (Q 1) ![0, 0, 0, 0] y hs)
        (addf (F := Ideal) (φ := .f32) (mulf (F := Ideal) (φ := .f32) (Host.slice (Q k) ![0, 0, 2, 0] ![1, 1, 2, 1] x h2) (extractStridedSlice (Q k) ![0, 0, 0, 0] Y hS))
          (Host.slice (Q k) ![0, 0, 2, 0] ![1, 1, 2, 1] y h2)) Y hc hp hp' hu) := by
  intro d b t l
  have ht := t.isLt
  by_cases hodd : t.val % 2 = 1
  · rw [weave_odd _ _ _ hc hp hp' hu d b l t ⟨t.val / 2, by omega⟩ (by show t.val = 1 + t.val / 2 * 2; omega),
      weave_odd _ _ _ hc hp hp' hu d b l t ⟨t.val / 2, by omega⟩ (by show t.val = 1 + t.val / 2 * 2; omega)]
    refine (T d b ⟨t.val / 2, by omega⟩ l).cast rfl ?_ rfl rfl
    show 2 * w * (t.val / 2 + 1) = w * (t.val + 1)
    have : t.val + 1 = 2 * (t.val / 2 + 1) := by omega
    rw [this]; ring
  · by_cases h0 : t.val = 0
    · rw [weave_zero _ _ _ hc hp hp' hu d b l t (by omega) h0, weave_zero _ _ _ hc hp hp' hu d b l t (by omega) h0,
        cut1 x hs d b 0 l t h0, cut1 y hs d b 0 l t h0]
      exact (H d b t l).cast (by rw [h0, Nat.mul_zero]) (by rw [h0, Nat.zero_add, Nat.mul_one]) rfl rfl
    · have hs' : t.val = ((⟨t.val / 2 - 1, by omega⟩ : Fin k).val + 1) * 2 := by show t.val = (t.val / 2 - 1 + 1) * 2; omega
      rw [weave_even _ _ _ hc hp hp' hu d b l t ⟨t.val / 2 - 1, by omega⟩ hk hs', weave_even _ _ _ hc hp hp' hu d b l t ⟨t.val / 2 - 1, by omega⟩ hk hs']
      show Rep _ _ _ _ (extractStridedSlice _ _ X hS _ * Host.slice _ _ _ x h2 _) (Host.slice _ _ _ x h2 _ * extractStridedSlice _ _ Y hS _ + Host.slice _ _ _ y h2 _)
      rw [cut1 X hS d b _ l ⟨t.val / 2 - 1, by omega⟩ rfl, cut1 Y hS d b _ l ⟨t.val / 2 - 1, by omega⟩ rfl,
        cut2 x h2 d b _ l t (by show t.val = 2 + 2 * (t.val / 2 - 1); omega), cut2 y h2 d b _ l t (by show t.val = 2 + 2 * (t.val / 2 - 1); omega)]
      have e : 2 * w * (t.val / 2 - 1 + 1) = w * t.val := by
        have : t.val = 2 * (t.val / 2 - 1 + 1) := by omega
        rw [this, show 2 * (t.val / 2 - 1 + 1) / 2 - 1 + 1 = t.val / 2 - 1 + 1 by omega]; ring
      refine (Rep.join (T d b ⟨t.val / 2 - 1, by omega⟩ l) ((H d b t l).cast ?_ rfl rfl rfl)).cast rfl ?_ (mul_comm _ _) rfl
      · show w * t.val = 0 + 2 * w * (t.val / 2 - 1 + 1); rw [e, Nat.zero_add]
      · show 2 * w * (t.val / 2 - 1 + 1) + w = w * (t.val + 1); rw [e]; ring

end Cert.Lru

end
-- ==== Proof.LruRef.lean ====
/- The reference's scan, level by level: the array the last level leaves holds the states of the recurrence. -/
module

public import proofs.«01_k».proof.Proof.LruAssoc
public import proofs.«01_k».proof.Proof.Gen.Reference4Ideal.Run

@[expose] public section

set_option maxRecDepth 16384

noncomputable section

namespace Cert.Lru

open Idealize.ShloMosaic Cert.Reference4Ideal Cert.Reference4Ideal.Gen Cert.Reference4Ideal.Value

variable {A B : Fin 2 → Fin 8 → Fin 256 → ℕ → EReal} (V : Valuation τ sig (Elt Ideal))

theorem down_1024 (H : Lvl (n := 2048) A B 1 (res_main_v113 V) (res_main_v121 V)) : Lvl (n := 1024) A B 2 (res_main_v126 V) (res_main_v128 V) := by
  unfold res_main_v126 res_main_v128 res_main_v124
  exact H.down _ _ (by decide)

theorem down_512 (H : Lvl (n := 1024) A B 2 (res_main_v126 V) (res_main_v128 V)) : Lvl (n := 512) A B 4 (res_main_v133 V) (res_main_v135 V) := by
  unfold res_main_v133 res_main_v135 res_main_v131
  exact H.down _ _ (by decide)

theorem down_256 (H : Lvl (n := 512) A B 4 (res_main_v133 V) (res_main_v135 V)) : Lvl (n := 256) A B 8 (res_main_v140 V) (res_main_v142 V) := by
  unfold res_main_v140 res_main_v142 res_main_v138
  exact H.down _ _ (by decide)

theorem down_128 (H : Lvl (n := 256) A B 8 (res_main_v140 V) (res_main_v142 V)) : Lvl (n := 128) A B 16 (res_main_v147 V) (res_main_v149 V) := by
  unfold res_main_v147 res_main_v149 res_main_v145
  exact H.down _ _ (by decide)

theorem down_64 (H : Lvl (n := 128) A B 16 (res_main_v147 V) (res_main_v149 V)) : Lvl (n := 64) A B 32 (res_main_v154 V) (res_main_v156 V) := by
  unfold res_main_v154 res_main_v156 res_main_v152
  exact H.down _ _ (by decide)

theorem down_32 (H : Lvl (n := 64) A B 32 (res_main_v154 V) (res_main_v156 V)) : Lvl (n := 32) A B 64 (res_main_v161 V) (res_main_v163 V) := by
  unfold res_main_v161 res_main_v163 res_main_v159
  exact H.down _ _ (by decide)

theorem down_16 (H : Lvl (n := 32) A B 64 (res_main_v161 V) (res_main_v163 V)) : Lvl (n := 16) A B 128 (res_main_v168 V) (res_main_v170 V) := by
  unfold res_main_v168 res_main_v170 res_main_v166
  exact H.down _ _ (by decide)

theorem down_8 (H : Lvl (n := 16) A B 128 (res_main_v168 V) (res_main_v170 V)) : Lvl (n := 8) A B 256 (res_main_v175 V) (res_main_v177 V) := by
  unfold res_main_v175 res_main_v177 res_main_v173
  exact H.down _ _ (by decide)

theorem down_4 (H : Lvl (n := 8) A B 256 (res_main_v175 V) (res_main_v177 V)) : Lvl (n := 4) A B 512 (res_main_v182 V) (res_main_v184 V) := by
  unfold res_main_v182 res_main_v184 res_main_v180
  exact H.down _ _ (by decide)

theorem down_2 (H : Lvl (n := 4) A B 512 (res_main_v182 V) (res_main_v184 V)) : Lvl (n := 2) A B 1024 (res_main_v189 V) (res_main_v191 V) := by
  unfold res_main_v189 res_main_v191 res_main_v187
  exact H.down _ _ (by decide)

theorem down_1 (H : Lvl (n := 2) A B 1024 (res_main_v189 V) (res_main_v191 V)) : Lvl (n := 1) A B 2048 (res_main_v196 V) (res_main_v198 V) := by
  unfold res_main_v196 res_main_v198 res_main_v194
  exact H.down _ _ (by decide)

theorem up_2 (H : Lvl (n := 2) A B 1024 (res_main_v189 V) (res_main_v191 V)) (T : Top (n := 1) A B 2048 (res_main_v196 V) (res_main_v198 V)) :
    Top (n := 2) A B 1024 (res_main_v212 V) (res_main_v215 V) := by
  unfold res_main_v212 res_main_v215 res_main_v201
  exact H.up (k := 0) T _ _ _ _ _ _ _ (by decide) (by decide)

theorem up_4 (H : Lvl (n := 4) A B 512 (res_main_v182 V) (res_main_v184 V)) (T : Top (n := 2) A B 1024 (res_main_v212 V) (res_main_v215 V)) :
    Top (n := 4) A B 512 (res_main_v229 V) (res_main_v232 V) := by
  unfold res_main_v229 res_main_v232 res_main_v218
  exact H.up (k := 1) T _ _ _ _ _ _ _ (by decide) (by decide)

theorem up_8 (H : Lvl (n := 8) A B 256 (res_main_v175 V) (res_main_v177 V)) (T : Top (n := 4) A B 512 (res_main_v229 V) (res_main_v232 V)) :
    Top (n := 8) A B 256 (res_main_v246 V) (res_main_v249 V) := by
  unfold res_main_v246 res_main_v249 res_main_v235
  exact H.up (k := 3) T _ _ _ _ _ _ _ (by decide) (by decide)

theorem up_16 (H : Lvl (n := 16) A B 128 (res_main_v168 V) (res_main_v170 V)) (T : Top (n := 8) A B 256 (res_main_v246 V) (res_main_v249 V)) :
    Top (n := 16) A B 128 (res_main_v263 V) (res_main_v266 V) := by
  unfold res_main_v263 res_main_v266 res_main_v252
  exact H.up (k := 7) T _ _ _ _ _ _ _ (by decide) (by decide)

theorem up_32 (H : Lvl (n := 32) A B 64 (res_main_v161 V) (res_main_v163 V)) (T : Top (n := 16) A B 128 (res_main_v263 V) (res_main_v266 V)) :
    Top (n := 32) A B 64 (res_main_v280 V) (res_main_v283 V) := by
  unfold res_main_v280 res_main_v283 res_main_v269
  exact H.up (k := 15) T _ _ _ _ _ _ _ (by decide) (by decide)

theorem up_64 (H : Lvl (n := 64) A B 32 (res_main_v154 V) (res_main_v156 V)) (T : Top (n := 32) A B 64 (res_main_v280 V) (res_main_v283 V)) :
    Top (n := 64) A B 32 (res_main_v297 V) (res_main_v300 V) := by
  unfold res_main_v297 res_main_v300 res_main_v286
  exact H.up (k := 31) T _ _ _ _ _ _ _ (by decide) (by decide)

theorem up_128 (H : Lvl (n := 128) A B 16 (res_main_v147 V) (res_main_v149 V)) (T : Top (n := 64) A B 32 (res_main_v297 V) (res_main_v300 V)) :
    Top (n := 128) A B 16 (res_main_v314 V) (res_main_v317 V) := by
  unfold res_main_v314 res_main_v317 res_main_v303
  exact H.up (k := 63) T _ _ _ _ _ _ _ (by decide) (by decide)

theorem up_256 (H : Lvl (n := 256) A B 8 (res_main_v140 V) (res_main_v142 V)) (T : Top (n := 128) A B 16 (res_main_v314 V) (res_main_v317 V)) :
    Top (n := 256) A B 8 (res_main_v331 V) (res_main_v334 V) := by
  unfold res_main_v331 res_main_v334 res_main_v320
  exact H.up (k := 127) T _ _ _ _ _ _ _ (by decide) (by decide)

theorem up_512 (H : Lvl (n := 512) A B 4 (res_main_v133 V) (res_main_v135 V)) (T : Top (n := 256) A B 8 (res_main_v331 V) (res_main_v334 V)) :
    Top (n := 512) A B 4 (res_main_v348 V) (res_main_v351 V) := by
  unfold res_main_v348 res_main_v351 res_main_v337
  exact H.up (k := 255) T _ _ _ _ _ _ _ (by decide) (by decide)

theorem up_1024 (H : Lvl (n := 1024) A B 2 (res_main_v126 V) (res_main_v128 V)) (T : Top (n := 512) A B 4 (res_main_v348 V) (res_main_v351 V)) :
    Top (n := 1024) A B 2 (res_main_v365 V) (res_main_v368 V) := by
  unfold res_main_v365 res_main_v368 res_main_v354
  exact H.up (k := 511) T _ _ _ _ _ _ _ (by decide) (by decide)

theorem up_2048 (H : Lvl (n := 2048) A B 1 (res_main_v113 V) (res_main_v121 V)) (T : Top (n := 1024) A B 2 (res_main_v365 V) (res_main_v368 V)) :
    ∃ x, Top (n := 2048) A B 1 x (res_main_v385 V) := by
  unfold res_main_v385 res_main_v371
  exact ⟨_, H.up (k := 1023) T concatenates_S2x8x1x256_S2x8x1023x256_S2x8x1024x256_d2 pads_S2x8x1024x256_S2x8x2048x256_000_000_011_000
    pads_S2x8x1024x256_S2x8x2048x256_000_000_101_000 h_S_ slices_S2x8x2048x256_S2x8x1x256_0_0_0_0 slices_S2x8x1024x256_S2x8x1023x256_0_0_0_0
    slicesBy_S2x8x2048x256_S2x8x1023x256_0s1_0s1_2s2_0s1 (by decide) (by decide)⟩

/-- Row `t` of the last level holds the state after `t + 1` steps from zero. -/
theorem scan (H : Lvl (n := 2048) A B 1 (res_main_v113 V) (res_main_v121 V)) (d : Fin 2) (b : Fin 8) (t : Fin 2048) (l : Fin 256) :
    res_main_v385 V (ix4 d b t l) = go (A d b l) (B d b l) 0 (t.val + 1) 0 := by
  have L1024 := down_1024 V H
  have L512 := down_512 V L1024
  have L256 := down_256 V L512
  have L128 := down_128 V L256
  have L64 := down_64 V L128
  have L32 := down_32 V L64
  have L16 := down_16 V L32
  have L8 := down_8 V L16
  have L4 := down_4 V L8
  have L2 := down_2 V L4
  have L1 := down_1 V L2
  have T1 := Lvl.top L1
  have T2 := up_2 V L2 T1
  have T4 := up_4 V L4 T2
  have T8 := up_8 V L8 T4
  have T16 := up_16 V L16 T8
  have T32 := up_32 V L32 T16
  have T64 := up_64 V L64 T32
  have T128 := up_128 V L128 T64
  have T256 := up_256 V L256 T128
  have T512 := up_512 V L512 T256
  have T1024 := up_1024 V L1024 T512
  obtain ⟨x, T⟩ := up_2048 V H T1024
  have h := (T d b t l).2 0
  rw [mul_zero, zero_add, one_mul] at h
  exact h

end Cert.Lru

end
-- ==== Proof.LruRefVal.lean ====
/- The recurrence's reference read entry by entry: the convolved sequence, the factors, the terms and the result. -/
module

public import proofs.«01_k».proof.Proof.LruRef
public import proofs.«01_k».proof.Proof.LruFun
public import proofs.«01_k».proof.Proof.LruLoop

@[expose] public section

set_option maxRecDepth 65536

noncomputable section

namespace Cert.Lru.Ref

open Idealize.ShloMosaic Idealize.ShloMosaic.TcCoe Idealize.ShloMosaic.Tactic
open Cert.Reference4Ideal Cert.Reference4Ideal.Gen Cert.Reference4Ideal.Value Cert.Lru

variable (V : Valuation τ sig (Elt Ideal))

/-- A sequence's row in the input. -/
def gr (b : Fin 8) (t : Fin 2048) : Fin 16384 := ⟨b.val * 2048 + t.val, by omega⟩
/-- The gate's columns -/
def cg (l : Fin 256) : Fin 3584 := ⟨3072 + l.val, by omega⟩
/-- and the sequence's. -/
def cx (l : Fin 256) : Fin 3584 := ⟨3328 + l.val, by omega⟩

/-- The convolved sequence, -/
def ru (b : Fin 8) (t : ℕ) (l : Fin 256) : EReal :=
  cnv (fun r => V (Proc.devRef .tc main_arg1) (ix3 0 r l)) (V (Proc.devRef .tc main_arg2) (ix2 0 l)) (fun s => V (Proc.devRef .tc main_arg0) (ix2 (gr b s) (cx l))) t
/-- a gate before its logistic, -/
def rz (w : S4x2x4x64x64.Idx → EReal) (c : S4x2x256.Idx → EReal) (d : Fin 2) (b : Fin 8) (t : ℕ) (l : Fin 256) : EReal :=
  (∑ x : Fin 64, w (ix5 0 d ⟨l.val / 64, by omega⟩ x ⟨l.val % 64, by omega⟩) * ru V b t ⟨l.val / 64 * 64 + x.val, by omega⟩) + c (ix3 0 d l)
/-- the factors -/
def ra (d : Fin 2) (b : Fin 8) (t : Fin 2048) (l : Fin 256) : EReal :=
  fac (rz V (V (Proc.devRef .tc main_arg3)) (V (Proc.devRef .tc main_arg4)) d b t.val l) (V (Proc.devRef .tc main_arg7) (ix3 0 d l))
/-- and the terms. -/
def rb (d : Fin 2) (b : Fin 8) (t : Fin 2048) (l : Fin 256) : EReal :=
  trm (ra V d b t l) (rz V (V (Proc.devRef .tc main_arg5)) (V (Proc.devRef .tc main_arg6)) d b t.val l) (ru V b t.val l)
/-- A sequence's factors by index -/
def raArr (b : Fin 8) (y : (⟨3, ![2, 2048, 256]⟩ : Shape).Idx) : EReal := ra V (y 0) b (y 1) (y 2)
/-- and its terms. -/
def rbArr (b : Fin 8) (y : (⟨3, ![2, 2048, 256]⟩ : Shape).Idx) : EReal := rb V (y 0) b (y 1) (y 2)

theorem v1_at (b : Fin 8) (t : Fin 2048) (j : Fin 512) : res_main_v1 V (ix3 b t j) = V (Proc.devRef .tc main_arg0) (ix2 (gr b t) ⟨3072 + j.val, by omega⟩) := by
  pointwise [res_main_v1]
  rfl

theorem v31_at (b : Fin 8) (t : Fin 2051) (l : Fin 256) : res_main_v31 V (ix3 b t l) = pd (fun s => V (Proc.devRef .tc main_arg0) (ix2 (gr b s) (cx l))) t.val := by
  unfold res_main_v31
  by_cases h : 2 ≤ t.val ∧ t.val < 2050
  · rw [pad_apply_of_inside (k := ix3 b (⟨t.val - 2, by omega⟩ : Fin 2048) l)]
    · refine Eq.trans ?_ (pd_in _ t.val ⟨t.val - 2, by omega⟩ (by show t.val = t.val - 2 + 2; omega)).symm
      pointwise
      rw [v1_at]
      exact congrArg (fun j => V (Proc.devRef .tc main_arg0) (ix2 (gr b _) j)) (Fin.ext (by show 3072 + (256 + l.val) = 3328 + l.val; omega))
    · intro a
      match a with
      | ⟨0, _⟩ => show b.val = 0 + b.val * 1; omega
      | ⟨1, _⟩ => show t.val = 2 + (t.val - 2) * 1; omega
      | ⟨2, _⟩ => show l.val = 0 + l.val * 1; omega
  · rw [pad_apply_of_not_inside (a := 1), pd_out _ _ (by omega)]
    · exact int_zero
    · show ¬(2 ≤ t.val ∧ (t.val - 2) % 1 = 0 ∧ (t.val - 2) / 1 < 2048)
      rintro ⟨h1, _, h2⟩
      rw [Nat.div_one] at h2
      omega

theorem v63_at (b : Fin 8) (t : Fin 2048) (l : Fin 256) : res_main_v63 V (ix3 b t l) = ru V b t.val l := by
  pointwise [res_main_v63, res_main_v3]
  rw [v31_at, v31_at, v31_at, v31_at]
  show _ * pd _ t.val + _ * pd _ (1 + t.val) + _ * pd _ (2 + t.val) + _ * pd _ (3 + t.val) + _ = _
  rw [Nat.add_comm 1 t.val, Nat.add_comm 2 t.val, Nat.add_comm 3 t.val]
  rfl

theorem rate_at (x : EReal) (p : Prop) [Decidable p] (hp : ¬ p) : (if p then -x else max (-x) 0 + Ideal.log1p (Ideal.exp (-(FloatOps.absf (F := Ideal) (φ := .f32) (-x))))) = sp x := by
  rw [if_neg hp, sp, zero_sub, zero_sub]
  rfl

theorem v96_at (d : Fin 2) (b : Fin 8) (t : Fin 2048) (l : Fin 256) : res_main_v96 V (ix4 d b t l) = ra V d b t l := by
  show Ideal.exp (res_main_v95 V (ix4 d b t l)) = _
  refine congrArg Ideal.exp ?_
  pointwise [res_main_v95, res_main_v91, res_main_call1_v3, res_main_call1_cst, res_main_v64]
  rw [rate_at _ _ (fun h => h rfl)]
  simp only [v63_at]
  exact Eq.trans (congrArg (fun s => wd 0xC1000000#32 * s * _) (logistic_sg _)) (expo _ _)

theorem v105_at (d : Fin 2) (b : Fin 8) (t : Fin 2048) (l : Fin 256) : res_main_v105 V (ix4 d b t l) = rb V d b t l := by
  pointwise [res_main_v105, res_main_v64]
  simp only [v63_at]
  rw [under, show Ideal.exp (res_main_v95 V (ix4 d b t l)) = ra V d b t l from v96_at V d b t l]
  exact congrArg (fun s => Ideal.sqrt (1 - ra V d b t l * ra V d b t l) * s * ru V b t.val l) (logistic_sg _)

theorem v113_at (d : Fin 2) (b : Fin 8) (t : Fin 2048) (l : Fin 256) : res_main_v113 V (ix4 d b t l) = along (raArr V b) d l t.val := by
  have ht : Fin.ofNat 2048 t.val = t := Fin.ext (Nat.mod_eq_of_lt t.isLt)
  rw [along, ht]
  by_cases hd : d = 0
  · subst hd
    rw [if_pos rfl]
    pointwise [res_main_v113]
    exact v96_at V 0 b t l
  · obtain rfl : d = 1 := by omega
    rw [if_neg hd]
    pointwise [res_main_v113]
    exact v96_at V 1 b t.rev l

theorem v121_at (d : Fin 2) (b : Fin 8) (t : Fin 2048) (l : Fin 256) : res_main_v121 V (ix4 d b t l) = along (rbArr V b) d l t.val := by
  have ht : Fin.ofNat 2048 t.val = t := Fin.ext (Nat.mod_eq_of_lt t.isLt)
  rw [along, ht]
  by_cases hd : d = 0
  · subst hd
    rw [if_pos rfl]
    pointwise [res_main_v121]
    exact v105_at V 0 b t l
  · obtain rfl : d = 1 := by omega
    rw [if_neg hd]
    pointwise [res_main_v121]
    exact v105_at V 1 b t.rev l

theorem base : Lvl (n := 2048) (fun d b l => along (raArr V b) d l) (fun d b l => along (rbArr V b) d l) 1 (res_main_v113 V) (res_main_v121 V) := by
  intro d b t l
  rw [v113_at, v121_at, one_mul]
  refine Rep.single ?_
  show Ok (along (raArr V b) d l t.val)
  unfold along
  split
  · exact fac_ok _ _
  · exact fac_ok _ _

/-- The scan's result is the states. -/
theorem v385_at (d : Fin 2) (b : Fin 8) (t : Fin 2048) (l : Fin 256) : res_main_v385 V (ix4 d b t l) = state (raArr V b) (rbArr V b) d l (t.val + 1) :=
  scan V (base V) d b t l

/-- The reference's result. -/
def res : S16384x256.Idx → EReal :=
  shapeCast _ (mulf (mulf (res_main_v16 V) (mulf (broadcastInDim S8x2048x256 ![] bcast_S_S8x2048x256 (constant S_ .f32 0x3F000000#32)) (addf (broadcastInDim S8x2048x256 ![] bcast_S_S8x2048x256 (constant S_ .f32 0x3F800000#32)) (Host.tanh (mulf (broadcastInDim S8x2048x256 ![] bcast_S_S8x2048x256 (constant S_ .f32 0x3F4C422A#32)) (addf (res_main_v16 V) (mulf (broadcastInDim S8x2048x256 ![] bcast_S_S8x2048x256 (constant S_ .f32 0x3D372713#32)) (mulf (mulf (res_main_v16 V) (res_main_v16 V)) (res_main_v16 V))))))))) (addf (shapeCast _ (extractStridedSlice S1x8x2048x256 ![0, 0, 0, 0] (res_main_v385 V) slices_S2x8x2048x256_S1x8x2048x256_0_0_0_0) shapeCasts_S1x8x2048x256_S8x2048x256) (Host.reverse [1] (shapeCast _ (extractStridedSlice S1x8x2048x256 ![1, 0, 0, 0] (res_main_v385 V) slices_S2x8x2048x256_S1x8x2048x256_1_0_0_0) shapeCasts_S1x8x2048x256_S8x2048x256)))) shapeCasts_S8x2048x256_S16384x256

/-- The result's entries. -/
def ro (b : Fin 8) (t : Fin 2048) (l : Fin 256) : EReal :=
  gel (V (Proc.devRef .tc main_arg0) (ix2 (gr b t) (cg l))) * (state (raArr V b) (rbArr V b) 0 l (t.val + 1) + state (raArr V b) (rbArr V b) 1 l (2047 - t.val + 1))

theorem gel_ref (x : EReal) : x * (wd 0x3F000000#32 * (1 + Ideal.tanh (wd 0x3F4C422A#32 * (x + wd 0x3D372713#32 * (x * x * x))))) = gel x := by
  rw [gel, ← mul_assoc x, mul_comm x (wd 0x3F000000#32), ← mul_assoc (wd 0x3D372713#32) (x * x) x, ← mul_assoc (wd 0x3D372713#32) x x]

theorem cast_rows (y : S8x2048x256.Idx → EReal) (b : Fin 8) (t : Fin 2048) (l : Fin 256) :
    shapeCast S16384x256 y shapeCasts_S8x2048x256_S16384x256 (ix2 (gr b t) l) = y (ix3 b t l) := by
  pointwise
  exact congrArg₂ (fun b t => y (ix3 b t l)) (Fin.ext (by show (b.val * 2048 + t.val) / 2048 = b.val; omega)) (Fin.ext (by show (b.val * 2048 + t.val) % 2048 = t.val; omega))

theorem res_at (b : Fin 8) (t : Fin 2048) (l : Fin 256) : res V (ix2 (gr b t) l) = ro V b t l := by
  unfold res
  rw [cast_rows]
  pointwise [res_main_v16]
  rw [show res_main_v1 V (ix3 b t (⟨l.val, by omega⟩ : Fin 512)) = V (Proc.devRef .tc main_arg0) (ix2 (gr b t) (cg l)) from v1_at V b t _]
  refine congrArg₂ (· * ·) (gel_ref _) (congrArg₂ (· + ·) (v385_at V 0 b t l) ((v385_at V 1 b t.rev l).trans (congrArg (state (raArr V b) (rbArr V b) 1 l) ?_)))
  show 2048 - (t.val + 1) + 1 = 2047 - t.val + 1
  omega

end Cert.Lru.Ref

end
-- ==== Proof.LruVal.lean ====
/- The value of the idealized recurrence kernel: what its windows hold, the block-diagonal weights, and the result, which
   is the reference's. -/
module

public import proofs.«01_k».proof.Proof.LruPre
public import proofs.«01_k».proof.Proof.LruRefVal

@[expose] public section

set_option maxRecDepth 65536

noncomputable section

open Idealize.ShloMosaic Idealize.ShloMosaic.TcCoe Idealize.SL.Sem
open Idealize.ShloMosaic.Pipeline (Dat)

namespace Cert.Kernel4Ideal.Lru

open Cert.Kernel4Ideal Cert.Kernel4Ideal.Gen Cert.Lru

variable (m : (ℓ : Loc nD τ sig) → Buf (Elt Ideal) ℓ)

/-- The block of every window at every grid point. -/
theorem idx_val : ∀ t : Fin cfg0.N, win0_0.index t = ![t.val, 6] ∧ win0_1.index t = ![0, 0]
    ∧ win0_2.index t = ![0, 0] ∧ win0_3.index t = ![0, 0, 0] ∧ win0_4.index t = ![0, 0]
    ∧ win0_5.index t = ![0, 0, 0] ∧ win0_6.index t = ![0, 0] ∧ win0_7.index t = ![0, 0]
    ∧ win0_8.index t = ![t.val, 0] :=
  (by decide +kernel : ∀ t : Fin grid0.N, _)

/-- A whole number's word is its own only. -/
theorem mask_at (p q : Fin 4) : FloatOps.uitofp (F := Ideal) .f32 (IntOp.cmpi CmpIPredicate.eq (IntOp.addi (BitVec.ofNat 32 p.val) 0#32) (BitVec.ofNat 32 q.val))
    = if p = q then (1 : EReal) else 0 := by
  have h : IntOp.cmpi CmpIPredicate.eq (IntOp.addi (BitVec.ofNat 32 p.val) 0#32) (BitVec.ofNat 32 q.val) = if p = q then 1#1 else 0#1 := by
    revert p q; decide
  rw [h]
  by_cases e : p = q
  · rw [if_pos e, if_pos e]; show (((1#1 : BitVec 1).toNat : ℝ) : EReal) = 1; norm_num
  · rw [if_neg e, if_neg e]; show (((0#1 : BitVec 1).toNat : ℝ) : EReal) = 0; norm_num

/-- A block-diagonal matrix's entries: block `p` of column `l` is the column's own or zero. -/
def dg (w : S4x2x4x64x64.Idx → EReal) (d : Fin 2) (j l : Fin 256) : EReal :=
  w (ix5 0 d (⟨j.val / 64, by omega⟩ : Fin 4) (⟨j.val % 64, by omega⟩ : Fin 64) (⟨l.val % 64, by omega⟩ : Fin 64))
    * if (⟨j.val / 64, by omega⟩ : Fin 4) = (⟨l.val / 64, by omega⟩ : Fin 4) then 1 else 0

/-- A product with a block-diagonal matrix runs over the column's own block. -/
theorem dg_sum (u : Fin 256 → EReal) (w : S4x2x4x64x64.Idx → EReal) (d : Fin 2) (l : Fin 256) :
    ∑ j : Fin 256, u j * dg w d j l
      = ∑ x : Fin 64, w (ix5 0 d (⟨l.val / 64, by omega⟩ : Fin 4) x (⟨l.val % 64, by omega⟩ : Fin 64)) * u ⟨l.val / 64 * 64 + x.val, by omega⟩ := by
  rw [Fin.sum_univ_tiles 4 64 rfl, Finset.sum_eq_single (⟨l.val / 64, by omega⟩ : Fin 4)]
  · refine Finset.sum_congr rfl fun x _ => ?_
    have h1 : (⟨(l.val / 64 * 64 + x.val) / 64, by omega⟩ : Fin 4) = ⟨l.val / 64, by omega⟩ := Fin.ext (by show (l.val / 64 * 64 + x.val) / 64 = l.val / 64; omega)
    have h2 : (⟨(l.val / 64 * 64 + x.val) % 64, by omega⟩ : Fin 64) = x := Fin.ext (by show (l.val / 64 * 64 + x.val) % 64 = x.val; omega)
    unfold dg
    dsimp only
    rw [h1, h2, if_pos rfl, mul_one, mul_comm]
  · intro p _ hp
    refine Finset.sum_eq_zero fun x _ => ?_
    have h1 : (⟨(p.val * 64 + x.val) / 64, by omega⟩ : Fin 4) = p := Fin.ext (by show (p.val * 64 + x.val) / 64 = p.val; omega)
    unfold dg
    dsimp only
    rw [h1, if_neg hp, mul_zero, mul_zero]
  · intro h; exact absurd (Finset.mem_univ _) h

section Blocks

variable (c : Dev nD) (t : Fin cfg0.N)

/-- The array's row that row `r` of block `t` sits at. -/
def row (t : Fin cfg0.N) (r : Fin 2048) : Fin 16384 := ⟨t.val * 2048 + r.val, by have : t.val < 8 := t.isLt; omega⟩

theorem blk0 (r : Fin 2048) (k : Fin 512) : iblk m c 0 t (ix2 r k) = m ((c : Thread nD τ).loc main_arg0) (ix2 (row t r) (⟨3072 + k.val, by omega⟩ : Fin 3584)) := by
  blk_ext [iblk, V, idx_val t, row]
theorem blk1 (r : Fin 4) (k : Fin 256) : iblk m c 1 t (ix2 r k) = m ((c : Thread nD τ).loc main_arg1) (ix3 0 r k) := by
  have h : iblk m c 1 t (ix2 r k) = V m c main_v1 (ix2 r k) := by blk_ext [iblk, idx_val t]
  rw [h]; entry_read; pointwise
theorem blk2 (k : Fin 256) : iblk m c 2 t (ix2 0 k) = m ((c : Thread nD τ).loc main_arg2) (ix2 0 k) := by
  have h : iblk m c 2 t (ix2 0 k) = V m c main_v4 (ix2 (⟨0, by omega⟩ : Fin 1) k) := by blk_ext [iblk, idx_val t]
  rw [h]; entry_read; pointwise
theorem blk4 (d : Fin 2) (k : Fin 256) : iblk m c 4 t (ix2 d k) = m ((c : Thread nD τ).loc main_arg4) (ix3 0 d k) := by
  have h : iblk m c 4 t (ix2 d k) = V m c main_v21 (ix2 d k) := by blk_ext [iblk, idx_val t]
  rw [h]; entry_read; pointwise
theorem blk6 (d : Fin 2) (k : Fin 256) : iblk m c 6 t (ix2 d k) = m ((c : Thread nD τ).loc main_arg6) (ix3 0 d k) := by
  have h : iblk m c 6 t (ix2 d k) = V m c main_v38 (ix2 d k) := by blk_ext [iblk, idx_val t]
  rw [h]; entry_read; pointwise
theorem blk7 (d : Fin 2) (k : Fin 256) : iblk m c 7 t (ix2 d k) = m ((c : Thread nD τ).loc main_arg7) (ix3 0 d k) := by
  have h : iblk m c 7 t (ix2 d k) = V m c main_v40 (ix2 d k) := by blk_ext [iblk, idx_val t]
  rw [h]; entry_read; pointwise

theorem blk3 (d : Fin 2) (j l : Fin 256) : iblk m c 3 t (ix3 d j l) = dg (m ((c : Thread nD τ).loc main_arg3)) d j l := by
  have h : iblk m c 3 t (ix3 d j l) = V m c main_v19 (ix3 d j l) := by blk_ext [iblk, idx_val t]
  rw [h]; entry_read; pointwise
  exact congrArg₂ (fun a b : EReal => a * b) rfl (mask_at ⟨j.val / 64, by omega⟩ ⟨l.val / 64, by omega⟩)

theorem blk5 (d : Fin 2) (j l : Fin 256) : iblk m c 5 t (ix3 d j l) = dg (m ((c : Thread nD τ).loc main_arg5)) d j l := by
  have h : iblk m c 5 t (ix3 d j l) = V m c main_v36 (ix3 d j l) := by blk_ext [iblk, idx_val t]
  rw [h]; entry_read; pointwise
  exact congrArg₂ (fun a b : EReal => a * b) rfl (mask_at ⟨j.val / 64, by omega⟩ ⟨l.val / 64, by omega⟩)

end Blocks

section same

variable (c : Dev nD) (W : Valuation Cert.Reference4Ideal.τ Cert.Reference4Ideal.sig (Elt Ideal))
  (h0 : W (Proc.devRef .tc Cert.Reference4Ideal.main_arg0) = m ((c : Thread nD τ).loc main_arg0))
  (h1 : W (Proc.devRef .tc Cert.Reference4Ideal.main_arg1) = m ((c : Thread nD τ).loc main_arg1))
  (h2 : W (Proc.devRef .tc Cert.Reference4Ideal.main_arg2) = m ((c : Thread nD τ).loc main_arg2))
  (h3 : W (Proc.devRef .tc Cert.Reference4Ideal.main_arg3) = m ((c : Thread nD τ).loc main_arg3))
  (h4 : W (Proc.devRef .tc Cert.Reference4Ideal.main_arg4) = m ((c : Thread nD τ).loc main_arg4))
  (h5 : W (Proc.devRef .tc Cert.Reference4Ideal.main_arg5) = m ((c : Thread nD τ).loc main_arg5))
  (h6 : W (Proc.devRef .tc Cert.Reference4Ideal.main_arg6) = m ((c : Thread nD τ).loc main_arg6))
  (h7 : W (Proc.devRef .tc Cert.Reference4Ideal.main_arg7) = m ((c : Thread nD τ).loc main_arg7))
  (t : Fin cfg0.N)

/-- The sequence of a grid point. -/
def sq (t : Fin cfg0.N) : Fin 8 := ⟨t.val, t.isLt⟩

include h0 h1 h2 in
theorem same_u (s : ℕ) (l : Fin 256) : uu (iblk m c 0 t) (iblk m c 1 t) (iblk m c 2 t) s l = Ref.ru W (sq t) s l := by
  unfold uu Ref.ru
  rw [h0, h1, h2]
  have e0 : (fun r => iblk m c 1 t (ix2 r l)) = fun r => m ((c : Thread nD τ).loc main_arg1) (ix3 0 r l) := funext fun r => blk1 m c t r l
  have e1 : (fun s => iblk m c 0 t (ix2 s (hi l))) = fun s => m ((c : Thread nD τ).loc main_arg0) (ix2 (Ref.gr (sq t) s) (Ref.cx l)) := funext fun s =>
    (blk0 m c t s (hi l)).trans (congrArg (fun j => m ((c : Thread nD τ).loc main_arg0) (ix2 (row t s) j)) (Fin.ext (by show 3072 + (256 + l.val) = 3328 + l.val; omega)))
  rw [e0, e1, blk2]

include h0 h1 h2 in
theorem same_z (x : Vec Ideal S2x256x256 .bf16) (w : S4x2x4x64x64.Idx → EReal) (hx : ∀ d j l, x (ix3 d j l) = dg w d j l)
    (y : Vec Ideal S2x256 .f32) (v : S4x2x256.Idx → EReal) (hy : ∀ d l, y (ix2 d l) = v (ix3 0 d l)) (d : Fin 2) (s : ℕ) (l : Fin 256) :
    zz (iblk m c 0 t) (iblk m c 1 t) (iblk m c 2 t) x y d s l = Ref.rz W w v d (sq t) s l := by
  unfold zz Ref.rz
  simp only [same_u m c W h0 h1 h2 t, hx, hy]
  rw [dg_sum]

include h0 h1 h2 h3 h4 h7 in
theorem same_a : aArr (iblk m c 0 t) (iblk m c 1 t) (iblk m c 2 t) (iblk m c 3 t) (iblk m c 4 t) (iblk m c 7 t) = Ref.raArr W (sq t) := by
  funext y
  obtain ⟨d, s, l, rfl⟩ : ∃ (d : Fin 2) (s : Fin 2048) (l : Fin 256), y = ix3 d s l := ⟨y 0, y 1, y 2, eq_ix3 y⟩
  show aa _ _ _ _ _ _ d s l = Ref.ra W d (sq t) s l
  unfold aa Ref.ra
  rw [same_z m c W h0 h1 h2 t _ _ (blk3 m c t) _ _ (blk4 m c t), blk7, h3, h4, h7]

include h0 h1 h2 h3 h4 h5 h6 h7 in
theorem same_b : bArr (iblk m c 0 t) (iblk m c 1 t) (iblk m c 2 t) (iblk m c 3 t) (iblk m c 4 t) (iblk m c 5 t) (iblk m c 6 t) (iblk m c 7 t) = Ref.rbArr W (sq t) := by
  funext y
  have ea := congrFun (same_a m c W h0 h1 h2 h3 h4 h7 t) y
  obtain ⟨d, s, l, rfl⟩ : ∃ (d : Fin 2) (s : Fin 2048) (l : Fin 256), y = ix3 d s l := ⟨y 0, y 1, y 2, eq_ix3 y⟩
  change aa _ _ _ _ _ _ d s l = Ref.ra W d (sq t) s l at ea
  show bb _ _ _ _ _ _ _ _ d s l = Ref.rb W d (sq t) s l
  unfold bb Ref.rb
  rw [ea, same_z m c W h0 h1 h2 t _ _ (blk5 m c t) _ _ (blk6 m c t), same_u m c W h0 h1 h2 t, h5, h6]

include h0 h1 h2 h3 h4 h5 h6 h7 in
/-- The program's result is the reference's. -/
theorem final : (dats m 0 c).arrAt 8 (cfgs 0).N = Ref.res W := by
  refine (dats m 0 c).arrAt_eq_of_covers 8 _ (by decide +kernel) fun t hf y => ?_
  blk_simp
  rw [after0_8]; unfold outsAt0
  obtain ⟨r, j, rfl⟩ : ∃ (r : Fin 2048) (j : Fin 256), y = ix2 r j := ⟨y 0, y 1, eq_ix2 y⟩
  have hy : ((View.whole main_v41).slice (win0_8.rect t)).emb (ix2 r j) = ix2 (row t r) j := by blk_ext [idx_val t, row]
  rw [hy, out_block]
  refine Eq.trans ?_ (Ref.res_at W (sq t) r j).symm
  unfold oo Ref.ro gg
  rw [same_a m c W h0 h1 h2 h3 h4 h7 t, same_b m c W h0 h1 h2 h3 h4 h5 h6 h7 t, blk0, h0]
  rfl

end same

end Cert.Kernel4Ideal.Lru

end
-- ==== Proof.NattenForm.lean ====
/- Neighborhood attention as a closed form: one score, and the softmax-weighted sum over a window of keys. -/
module

public import Idealize.ShloMosaic.Lib.Pipeline.ValueKit
public import Idealize.ShloMosaic.Lib.Pointwise

@[expose] public section

noncomputable section

open Idealize.ShloMosaic

namespace Cert.Natten

/-- The row of the `k`-th key row of the window of query row `r`. -/
def krow (r : Fin 32) (k : Fin 8) : Fin 32 := ⟨min (r.val - 4) 24 + k.val, by omega⟩
/-- The column of query `q` of block `cb`. -/
def qcol (cb : Fin 4) (q : Fin 16) : Fin 64 := ⟨cb.val * 16 + q.val, by omega⟩
/-- The column of the `w`-th key the block `cb` reads. -/
def kcol (cb : Fin 4) (w : Fin 32) : Fin 64 := ⟨min (cb.val * 16 - 8) 32 + w.val, by omega⟩
/-- The first key column of the window of query column `x`. -/
def lo (x : Fin 64) : Nat := min (x.val - 8) 48
/-- The row of the relative bias for query row `r` and key row `k`. -/
def brow (r : Fin 32) (k : Fin 8) : Fin 15 := ⟨min (r.val - 4) 24 + k.val + 7 - r.val, by omega⟩
/-- The column of the relative bias for query column `x` and key column `y`. -/
def bcol (x y : Fin 64) : Fin 31 := ⟨min (y.val + 15 - x.val) 30, by omega⟩
/-- The token of batch `b` at row `r` and column `x`. -/
def tok (b : Fin 8) (r : Fin 32) (x : Fin 64) : Fin 16384 := ⟨b.val * 2048 + r.val * 64 + x.val, by omega⟩
/-- Feature `d` of head `h` of the slice of the columns that begins at `o`. -/
def col (o : Fin 3329) (h : Fin 4) (d : Fin 64) : Fin 3584 := ⟨o.val + (h.val * 64 + d.val), by omega⟩

/-- The score of the query at row `r`, column `x` against the key at window row `k`, column `y`:
    minus infinity outside the window. -/
def score (u : (⟨2, ![16384, 3584]⟩ : Shape).Idx → EReal) (rb : (⟨3, ![4, 15, 31]⟩ : Shape).Idx → EReal)
    (b : Fin 8) (h : Fin 4) (r : Fin 32) (x : Fin 64) (k : Fin 8) (y : Fin 64) : EReal :=
  if lo x ≤ y.val ∧ y.val < lo x + 16 then
    (∑ d : Fin 64, u (ix2 (tok b r x) (col 2304 h d)) * u (ix2 (tok b (krow r k) y) (col 2560 h d)))
      * Ideal.ofBits FTy.f32 1040187392#32 + rb (ix3 h (brow r k) (bcol x y))
  else ⊥

/-- Feature `d` of the value at window row `k`, column `y`. -/
def value (u : (⟨2, ![16384, 3584]⟩ : Shape).Idx → EReal)
    (b : Fin 8) (h : Fin 4) (r : Fin 32) (d : Fin 64) (k : Fin 8) (y : Fin 64) : EReal :=
  u (ix2 (tok b (krow r k) y) (col 2816 h d))

/-- The largest of finitely many scores. -/
def top {ι : Type} [Fintype ι] (s : ι → EReal) : EReal := Finset.fold max ⊥ s Finset.univ

/-- The sum of the exponentials of the scores less the largest. -/
def mass {ι : Type} [Fintype ι] (s : ι → EReal) : EReal := ∑ i, Ideal.exp (s i - top s)

/-- The values weighted by the softmax of the scores. -/
def soft {ι : Type} [Fintype ι] (s v : ι → EReal) : EReal :=
  ∑ i, Ideal.div (Ideal.exp (s i - top s)) (mass s) * v i

theorem top_eq_sup {ι : Type} [Fintype ι] (s : ι → EReal) : top s = Finset.univ.sup s := rfl

/-- Along a bijection of the index the softmax-weighted sum is the same. -/
theorem top_equiv {ι κ : Type} [Fintype ι] [Fintype κ] (e : ι ≃ κ) (s : κ → EReal) : top (fun i => s (e i)) = top s := by
  simp only [top_eq_sup]
  apply le_antisymm
  · exact Finset.sup_le fun i _ => Finset.le_sup (f := s) (Finset.mem_univ _)
  · exact Finset.sup_le fun j _ => by
      have := Finset.le_sup (f := fun i => s (e i)) (Finset.mem_univ (e.symm j)); simpa using this

theorem mass_equiv {ι κ : Type} [Fintype ι] [Fintype κ] (e : ι ≃ κ) (s : κ → EReal) : mass (fun i => s (e i)) = mass s := by
  unfold mass; rw [top_equiv e]; exact Equiv.sum_comp e fun j => Ideal.exp (s j - top s)

/-- Scores of minus infinity off the range of an injection neither move the largest score … -/
theorem top_inj {ι κ : Type} [Fintype ι] [Fintype κ] (e : ι → κ) (s : κ → EReal)
    (hs : ∀ j, (∀ i, e i ≠ j) → s j = ⊥) : top (fun i => s (e i)) = top s := by
  simp only [top_eq_sup]
  apply le_antisymm
  · exact Finset.sup_le fun i _ => Finset.le_sup (f := s) (Finset.mem_univ _)
  · refine Finset.sup_le fun j _ => ?_
    by_cases h : ∃ i, e i = j
    · obtain ⟨i, rfl⟩ := h
      exact Finset.le_sup (f := fun i => s (e i)) (Finset.mem_univ i)
    · rw [hs j fun i hi => h ⟨i, hi⟩]; exact bot_le

theorem exp_bot_sub (M : EReal) : Ideal.exp (⊥ - M) = 0 := by
  rw [EReal.bot_sub]; rfl

/-- … nor the sum of the exponentials … -/
theorem mass_inj {ι κ : Type} [Fintype ι] [Fintype κ] (e : ι → κ) (he : Function.Injective e) (s : κ → EReal)
    (hs : ∀ j, (∀ i, e i ≠ j) → s j = ⊥) : mass (fun i => s (e i)) = mass s := by
  unfold mass; rw [top_inj e s hs]
  refine Finset.sum_of_injOn e he.injOn (by simp) (fun j _ hj => ?_) (fun i _ => rfl)
  rw [hs j fun i hi => hj ⟨i, by simp, hi⟩, exp_bot_sub]

/-- … nor, where that sum is not zero, the weighted values. -/
theorem soft_inj {ι κ : Type} [Fintype ι] [Fintype κ] (e : ι → κ) (he : Function.Injective e) (s v : κ → EReal)
    (hs : ∀ j, (∀ i, e i ≠ j) → s j = ⊥) (hz : mass s ≠ 0) :
    soft (fun i => s (e i)) (fun i => v (e i)) = soft s v := by
  unfold soft; rw [top_inj e s hs, mass_inj e he s hs]
  refine Finset.sum_of_injOn e he.injOn (by simp) (fun j _ hj => ?_) (fun i _ => rfl)
  rw [hs j fun i hi => hj ⟨i, by simp, hi⟩, exp_bot_sub]
  unfold Ideal.div
  rw [if_neg hz, zero_mul, zero_mul]

theorem exp_nonneg (x : EReal) : 0 ≤ Ideal.exp x := by
  induction x with
  | bot => exact le_refl _
  | top => exact le_top
  | coe x => exact EReal.coe_nonneg.mpr (Real.exp_pos x).le

/-- With no score of plus infinity and one score that is a number, the sum of the exponentials is not zero. -/
theorem mass_ne_zero {ι : Type} [Fintype ι] (s : ι → EReal) (h1 : ∀ i, s i ≠ ⊤) (h2 : ∃ i, s i ≠ ⊥) : mass s ≠ 0 := by
  obtain ⟨i, hi⟩ := h2
  obtain ⟨j, -, hj⟩ := Finset.exists_mem_eq_sup Finset.univ ⟨i, Finset.mem_univ i⟩ s
  have hjb : s j ≠ ⊥ := by
    intro h
    have : s i ≤ Finset.univ.sup s := Finset.le_sup (f := s) (Finset.mem_univ i)
    rw [hj, h] at this
    exact hi (le_bot_iff.mp this)
  have h0 : Ideal.exp (s j - top s) = 1 := by
    rw [top_eq_sup, hj, EReal.sub_self (h1 j) hjb]
    show ((Real.exp 0 : ℝ) : EReal) = 1
    rw [Real.exp_zero]; rfl
  have : (1 : EReal) ≤ mass s := by
    rw [← h0]
    exact Finset.single_le_sum (f := fun i => Ideal.exp (s i - top s)) (fun i _ => exp_nonneg _) (Finset.mem_univ j)
  intro h
  rw [h] at this
  exact absurd this (by norm_num)

end Cert.Natten
end
-- ==== Proof.NattenBias.lean ====
/- The relative bias of neighborhood attention as the kernel's table: its closed form. -/
module

public import proofs.«01_k».proof.Proof.Gen.KernelIdeal.Frame
public import proofs.«01_k».proof.Proof.NattenForm
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.KernelIdeal.Natten

open Cert.KernelIdeal Cert.KernelIdeal.Gen Cert.Natten

variable (m : (ℓ : Loc nD τ sig) → Buf (Elt Ideal) ℓ)

/-- The first key column of every query column's window. -/
def tabLo : IVec S64 32 := minsi (broadcastInDim S64 ![] bcast_S_S64 (id (constantI S_ 32 48#32)))
  (maxsi (broadcastInDim S64 ![] bcast_S_S64 (id (constantI S_ 32 0#32))) (subi (iotaInDim S64 32 0) (broadcastInDim S64 ![] bcast_S_S64 (constantI S_ 32 8#32))))

/-- Which key columns are in which windows. -/
def tabWin : IVec S64x64 1 := andi
  (cmpi .sge (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 tabLo)))
  (cmpi .slt (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (addi (broadcastInDim S64x1 ![0] bcast_S64_S64x1_0 tabLo) (broadcastInDim S64x1 ![] bcast_S_S64x1 (constantI S_ 32 16#32)))))

/-- The column of the relative bias of every pair of columns. -/
def tabCol : IVec S64x64 32 := minsi (broadcastInDim S64x64 ![] bcast_S_S64x64 (id (constantI S_ 32 30#32)))
  (maxsi (broadcastInDim S64x64 ![] bcast_S_S64x64 (id (constantI S_ 32 0#32)))
    (subi (addi (subi (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (iotaInDim S64 32 0))))
      (broadcastInDim S64x64 ![] bcast_S_S64x64 (constantI S_ 32 16#32))) (broadcastInDim S64x64 ![] bcast_S_S64x64 (constantI S_ 32 1#32))))

/-- One at the column of the relative bias, in the window. -/
def tabHot : FVec Ideal S31x64x64 .f32 := uitofp .f32 (andi
  (cmpi .eq (broadcastInDim S31x64x64 ![0, 1, 2] bcast_S1x64x64_S31x64x64_0_1_2 (broadcastInDim S1x64x64 ![1, 2] bcast_S64x64_S1x64x64_1_2 tabCol))
    (broadcastInDim S31x64x64 ![0, 1, 2] bcast_S31x1x1_S31x64x64_0_1_2 (broadcastInDim S31x1x1 ![0] bcast_S31_S31x1x1_0 (iotaInDim S31 32 0))))
  (broadcastInDim S31x64x64 ![0, 1, 2] bcast_S1x64x64_S31x64x64_0_1_2 (broadcastInDim S1x64x64 ![1, 2] bcast_S64x64_S1x64x64_1_2 tabWin)))

/-- Zero in the window, minus infinity outside. -/
def tabAdd : FVec Ideal S64x64 .f32 := id (select tabWin (broadcastInDim S64x64 ![] bcast_S_S64x64 (constant S_ .f32 0x00000000#32))
  (broadcastInDim S64x64 ![] bcast_S_S64x64 (constant S_ .f32 0xFF800000#32)))

/-- The bias of every head and row, of every pair of columns. -/
def tabToep (rb : FVec Ideal S4x15x31 .f32) : FVec Ideal S4x15x64x64 .f32 := addf
  (Host.dotGeneral dot_S4x15x31_S31x64x64_S4x15x64x64_2_0_01_12_n_n (some .fp32) rb tabHot)
  (broadcastInDim S4x15x64x64 ![0, 1, 2, 3] bcast_S1x1x64x64_S4x15x64x64_0_1_2_3 (broadcastInDim S1x1x64x64 ![2, 3] bcast_S64x64_S1x1x64x64_2_3 tabAdd))

/-- The eight rows from row 0 on. -/
def band0 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 0, 0, 0] z slices_S4x15x64x64_S4x8x64x64_0_0_0_0)

/-- The eight rows from row 1 on. -/
def band1 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 1, 0, 0] z slices_S4x15x64x64_S4x8x64x64_0_1_0_0)

/-- The eight rows from row 2 on. -/
def band2 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 2, 0, 0] z slices_S4x15x64x64_S4x8x64x64_0_2_0_0)

/-- The eight rows from row 3 on. -/
def band3 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 3, 0, 0] z slices_S4x15x64x64_S4x8x64x64_0_3_0_0)

/-- The eight rows from row 4 on. -/
def band4 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 4, 0, 0] z slices_S4x15x64x64_S4x8x64x64_0_4_0_0)

/-- The eight rows from row 5 on. -/
def band5 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 5, 0, 0] z slices_S4x15x64x64_S4x8x64x64_0_5_0_0)

/-- The eight rows from row 6 on. -/
def band6 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 6, 0, 0] z slices_S4x15x64x64_S4x8x64x64_0_6_0_0)

/-- The eight rows from row 7 on. -/
def band7 (z : FVec Ideal S4x15x64x64 .f32) : FVec Ideal S1x4x8x64x64 .f32 := broadcastInDim S1x4x8x64x64 ![1, 2, 3, 4] bcast_S4x8x64x64_S1x4x8x64x64_1_2_3_4
  (extractStridedSlice S4x8x64x64 ![0, 7, 0, 0] z slices_S4x15x64x64_S4x8x64x64_0_7_0_0)

/-- The table from the bias of every pair of columns. -/
def tabOf (z : FVec Ideal S4x15x64x64 .f32) : FVec Ideal S8x256x512 .f32 := shapeCast S8x256x512 (transpose S8x4x64x8x64 [0, 1, 3, 2, 4]
  (concatenate S8x4x8x64x64 0 [⟨S1x4x8x64x64, band0 z⟩, ⟨S1x4x8x64x64, band1 z⟩, ⟨S1x4x8x64x64, band2 z⟩, ⟨S1x4x8x64x64, band3 z⟩, ⟨S1x4x8x64x64, band4 z⟩, ⟨S1x4x8x64x64, band5 z⟩, ⟨S1x4x8x64x64, band6 z⟩, ⟨S1x4x8x64x64, band7 z⟩] concatenates_S1x4x8x64x64_S1x4x8x64x64_S1x4x8x64x64_S1x4x8x64x64_S1x4x8x64x64_S1x4x8x64x64_S1x4x8x64x64_S1x4x8x64x64_S8x4x8x64x64_d0)
  transposes_S8x4x8x64x64_S8x4x64x8x64_0_1_3_2_4) shapeCasts_S8x4x64x8x64_S8x256x512

theorem tabLo_at (x : Fin 64) : tabLo (ix1 x) = BitVec.ofNat 32 (min (x.val - 8) 48) := by
  unfold tabLo
  pointwise
  revert x; decide +kernel

theorem tabWin_at (x y : Fin 64) : tabWin (ix2 x y) = if lo x ≤ y.val ∧ y.val < lo x + 16 then 1#1 else 0#1 := by
  unfold tabWin
  pointwise
  rw [tabLo_at]
  revert x y; decide +kernel

theorem tabCol_at (x y : Fin 64) : tabCol (ix2 x y) = BitVec.ofNat 32 (bcol x y).val := by
  unfold tabCol
  pointwise
  revert x y; decide +kernel

theorem tabHot_at (n : Fin 31) (x y : Fin 64) :
    tabHot (ix3 n x y) = if n = bcol x y ∧ (lo x ≤ y.val ∧ y.val < lo x + 16) then (1 : EReal) else 0 := by
  unfold tabHot
  pointwise
  rw [tabCol_at, tabWin_at]
  generalize bcol x y = b
  have key : ∀ b n : Fin 31, Scalar.cmpi .eq (BitVec.ofNat 32 b.val) (BitVec.ofNat 32 n.val) = if n = b then 1#1 else 0#1 := by decide +kernel
  have h1 : Scalar.andi (1#1) (1#1) = 1#1 := by decide
  have h2 : Scalar.andi (1#1) (0#1) = 0#1 := by decide
  have h3 : Scalar.andi (0#1) (1#1) = 0#1 := by decide
  have h4 : Scalar.andi (0#1) (0#1) = 0#1 := by decide
  have u1 : (FloatOps.uitofp .f32 (1#1) : Ideal .f32) = (1 : EReal) := by simp [FloatOps.uitofp]
  have u0 : (FloatOps.uitofp .f32 (0#1) : Ideal .f32) = (0 : EReal) := by simp [FloatOps.uitofp]
  show FloatOps.uitofp .f32 (Scalar.andi (Scalar.cmpi .eq (BitVec.ofNat 32 b.val) (BitVec.ofNat 32 n.val)) (if lo x ≤ y.val ∧ y.val < lo x + 16 then 1#1 else 0#1)) = _
  rw [key]
  by_cases hn : n = b <;> by_cases hw : lo x ≤ y.val ∧ y.val < lo x + 16
  · rw [if_pos hn, if_pos hw, if_pos ⟨hn, hw⟩, h1]; exact u1
  · rw [if_pos hn, if_neg hw, if_neg (fun h => hw h.2), h2]; exact u0
  · rw [if_neg hn, if_pos hw, if_neg (fun h => hn h.1), h3]; exact u0
  · rw [if_neg hn, if_neg hw, if_neg (fun h => hn h.1), h4]; exact u0

theorem tabAdd_at (x y : Fin 64) : tabAdd (ix2 x y) = if lo x ≤ y.val ∧ y.val < lo x + 16 then (0 : EReal) else ⊥ := by
  show Scalar.select (tabWin (ix2 x y)) (Ideal.ofBits .f32 0#32) (Ideal.ofBits .f32 4286578688#32) = _
  rw [tabWin_at]
  by_cases hw : lo x ≤ y.val ∧ y.val < lo x + 16
  · rw [if_pos hw, if_pos hw]; show Ideal.ofBits .f32 0#32 = (0 : EReal); simp [Ideal.ofBits, Ideal.ieee]
  · rw [if_neg hw, if_neg hw]; show Ideal.ofBits .f32 4286578688#32 = ⊥; simp [Ideal.ofBits, Ideal.ieee]

theorem tabToep_at (rb : FVec Ideal S4x15x31 .f32) (h : Fin 4) (r : Fin 15) (x y : Fin 64) :
    tabToep rb (ix4 h r x y) = if lo x ≤ y.val ∧ y.val < lo x + 16 then (rb (ix3 h r (bcol x y)) : EReal) else ⊥ := by
  unfold tabToep
  pointwise
  rw [tabAdd_at]
  by_cases hw : lo x ≤ y.val ∧ y.val < lo x + 16
  · rw [if_pos hw, if_pos hw]
    refine (add_zero _).trans ?_
    rw [Finset.sum_eq_single (bcol x y)]
    · rw [tabHot_at, if_pos ⟨rfl, hw⟩]; exact mul_one _
    · intro n _ hn; rw [tabHot_at, if_neg (fun h => hn h.1)]; exact mul_zero _
    · intro h; exact absurd (Finset.mem_univ _) h
  · rw [if_neg hw, if_neg hw]
    exact EReal.add_bot _

theorem tabOf_at (z : FVec Ideal S4x15x64x64 .f32) (D : Fin 8) (h : Fin 4) (x y : Fin 64) (k : Fin 8) :
    tabOf z (ix3 D ⟨h.val * 64 + x.val, by omega⟩ ⟨k.val * 64 + y.val, by omega⟩) = z (ix4 h ⟨D.val + k.val, by omega⟩ x y) := by
  unfold tabOf
  pointwise [band0, band1, band2, band3, band4, band5, band6, band7]
  revert D; intro ⟨D, hD⟩
  interval_cases D <;> simp <;> trace_state

/-- The bias of every pair of columns, from the marks and the mask. -/
def toepOf (rb : FVec Ideal S4x15x31 .f32) (hot : FVec Ideal S31x64x64 .f32) (a : FVec Ideal S64x64 .f32) : FVec Ideal S4x15x64x64 .f32 := addf
  (Host.dotGeneral dot_S4x15x31_S31x64x64_S4x15x64x64_2_0_01_12_n_n (some .fp32) rb hot)
  (broadcastInDim S4x15x64x64 ![0, 1, 2, 3] bcast_S1x1x64x64_S4x15x64x64_0_1_2_3 (broadcastInDim S1x1x64x64 ![2, 3] bcast_S64x64_S1x1x64x64_2_3 a))

theorem stage6 (W : Valuation τ sig (Elt Ideal)) : StableHlo.after hostOps0_6 W main_v62 = tabOf (toepOf (W main_arg1) (W main_v37) (W main_v38)) := by
  simp only [hostOps0_6]
  open Idealize.ShloMosaic.StableHlo in after_reads_simp
  rfl

theorem stageHot (W : Valuation τ sig (Elt Ideal)) : StableHlo.after (List.flatten [hostOps0, hostOps0_1, hostOps0_2, hostOps0_3, hostOps0_4, hostOps0_5]) W main_v37 = tabHot := by
  simp only [hostOps0, hostOps0_1, hostOps0_2, hostOps0_3, hostOps0_4, hostOps0_5, List.flatten_cons, List.flatten_nil, List.append_nil, List.cons_append,
      List.nil_append]
  open Idealize.ShloMosaic.StableHlo in after_reads_simp
  rfl

theorem stageAdd (W : Valuation τ sig (Elt Ideal)) : StableHlo.after (List.flatten [hostOps0, hostOps0_1, hostOps0_2, hostOps0_3, hostOps0_4, hostOps0_5]) W main_v38 = tabAdd := by
  simp only [hostOps0, hostOps0_1, hostOps0_2, hostOps0_3, hostOps0_4, hostOps0_5, List.flatten_cons, List.flatten_nil, List.append_nil, List.cons_append,
      List.nil_append]
  open Idealize.ShloMosaic.StableHlo in after_reads_simp
  rfl

theorem stageArg (W : Valuation τ sig (Elt Ideal)) : StableHlo.after (List.flatten [hostOps0, hostOps0_1, hostOps0_2, hostOps0_3, hostOps0_4, hostOps0_5]) W main_arg1 = W main_arg1 := by
  simp only [hostOps0, hostOps0_1, hostOps0_2, hostOps0_3, hostOps0_4, hostOps0_5, List.flatten_cons, List.flatten_nil, List.append_nil, List.cons_append,
      List.nil_append]
  open Idealize.ShloMosaic.StableHlo in after_reads_simp

theorem after_two (l k : List (HloOp τ sig (Elt Ideal))) (W : Valuation τ sig (Elt Ideal)) : StableHlo.after (l ++ k) W = StableHlo.after k (StableHlo.after l W) := by
  induction l generalizing W with
  | nil => rfl
  | cons a l ih => exact ih _

/-- The table the kernel reads. -/
theorem entry_table (c : Dev nD) : V m c main_v62 = tabOf (tabToep (m ((c : Thread nD τ).loc main_arg1))) := by
  unfold V
  have e : (List.flatten [hostOps0, hostOps0_1, hostOps0_2, hostOps0_3, hostOps0_4, hostOps0_5, hostOps0_6] : List (HloOp τ sig (Elt Ideal)))
      = List.flatten [hostOps0, hostOps0_1, hostOps0_2, hostOps0_3, hostOps0_4, hostOps0_5] ++ hostOps0_6 := by
    simp only [List.flatten_cons, List.flatten_nil, List.append_nil, List.append_assoc]
  rw [e, after_two, stage6, stageHot, stageAdd, stageArg]
  rfl

end Cert.KernelIdeal.Natten
end
-- ==== Proof.NattenStep.lean ====
/- One row of queries of neighborhood attention, as the kernel computes it: its closed form. -/
module

public import proofs.«01_k».proof.Proof.Gen.KernelIdeal.Frame
public import proofs.«01_k».proof.Proof.NattenForm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Natten

open Cert.KernelIdeal Cert.KernelIdeal.Gen Cert.Natten

/-- Row `x` of head `h`, of the four heads' queries one under the other. -/
def row (h : Fin 4) (x : Fin 64) : Fin 256 := ⟨h.val * 64 + x.val, by omega⟩
/-- Feature `d` of head `h`, of the four heads' features side by side. -/
def feat (h : Fin 4) (d : Fin 64) : Fin 256 := ⟨h.val * 64 + d.val, by omega⟩

/-- One lane's number of a head's mask. -/
def mask (h : Fin 4) (l : Fin 256) : EReal := if l.val / 64 = h.val then 1 else 0

/-- A bit set, as a number. -/
theorem one_bit : (FloatOps.sitofp FTy.f32 (BitVec.setWidth 32 (1#1)) : Ideal .f32) = (1 : EReal) := by
  show (((BitVec.setWidth 32 (1#1)).toInt : ℝ) : EReal) = 1
  norm_num
/-- A bit not set, as a number. -/
theorem zero_bit : (FloatOps.sitofp FTy.f32 (BitVec.setWidth 32 (0#1)) : Ideal .f32) = (0 : EReal) := by
  show (((BitVec.setWidth 32 (0#1)).toInt : ℝ) : EReal) = 0
  norm_num

/-- A range of lanes, as numbers. -/
theorem bit_mask (a b : BitVec 32) (h : Fin 4) (l : Fin 256) (e : IntOp.andi (IntOp.cmpi CmpIPredicate.sge (BitVec.ofNat 32 l.val) a)
      (IntOp.cmpi CmpIPredicate.slt (BitVec.ofNat 32 l.val) b) = if l.val / 64 = h.val then 1#1 else 0#1) :
    (FloatOps.sitofp FTy.f32 (BitVec.setWidth 32 (IntOp.andi (IntOp.cmpi CmpIPredicate.sge (BitVec.ofNat 32 l.val) a)
      (IntOp.cmpi CmpIPredicate.slt (BitVec.ofNat 32 l.val) b))) : Ideal .f32) = mask h l := by
  rw [e]; unfold mask
  by_cases hl : l.val / 64 = h.val
  · rw [if_pos hl, if_pos hl]; exact one_bit
  · rw [if_neg hl, if_neg hl]; exact zero_bit

/-- The mask of head 0. -/
theorem lane0 (l : Fin 256) : (k0_pay2 : FVec Ideal S1x256 .f32) (ix2 0 l) = mask 0 l := by
  unfold k0_pay2
  pointwise
  exact bit_mask 0#32 64#32 0 l (by revert l; decide +kernel)

/-- The mask of head 1. -/
theorem lane1 (l : Fin 256) : (k0_pay3 : FVec Ideal S1x256 .f32) (ix2 0 l) = mask 1 l := by
  unfold k0_pay3
  pointwise
  exact bit_mask 64#32 128#32 1 l (by revert l; decide +kernel)

/-- The mask of head 2. -/
theorem lane2 (l : Fin 256) : (k0_pay4 : FVec Ideal S1x256 .f32) (ix2 0 l) = mask 2 l := by
  unfold k0_pay4
  pointwise
  exact bit_mask 128#32 192#32 2 l (by revert l; decide +kernel)

/-- The mask of head 3. -/
theorem lane3 (l : Fin 256) : (k0_pay5 : FVec Ideal S1x256 .f32) (ix2 0 l) = mask 3 l := by
  unfold k0_pay5
  pointwise
  exact bit_mask 192#32 256#32 3 l (by revert l; decide +kernel)

/-- The queries of the four heads, each on its own lanes. -/
theorem qs_at (q : FVec Ideal S64x256 .f32) (h : Fin 4) (x : Fin 64) (l : Fin 256) :
    (k0_pay30 (F := Ideal) k0_pay2 k0_pay3 k0_pay4 k0_pay5 (k0_pay22 q)) (ix2 (row h x) l)
      = q (ix2 x l) * Ideal.ofBits FTy.f32 1040187392#32 * mask h l := by
  unfold k0_pay30 k0_pay22
  pointwise
  rw [lane0, lane1, lane2, lane3]
  have e0 : (row 0 x).val = x.val := by show 0 * 64 + x.val = _; omega
  have e1 : (row 1 x).val = 64 + x.val := by show 1 * 64 + x.val = _; omega
  have e2 : (row 2 x).val = 128 + x.val := by show 2 * 64 + x.val = _; omega
  have e3 : (row 3 x).val = 192 + x.val := by show 3 * 64 + x.val = _; omega
  have key : ∀ (n : Nat) (hn : n < 64), n = x.val → q (ix2 ⟨n, hn⟩ l) = q (ix2 x l) := by
    rintro n hn rfl; rfl
  match h with
  | 0 => rw [dif_pos (by omega), key _ _ e0]
  | 1 => rw [dif_neg (by omega), dif_pos (by omega), key _ _ (by omega)]
  | 2 => rw [dif_neg (by omega), dif_neg (by omega), dif_pos (by omega), key _ _ (by omega)]
  | 3 => rw [dif_neg (by omega), dif_neg (by omega), dif_neg (by omega), key _ _ (by omega)]

/-- A masked sum over the lanes is a sum over one head's features. -/
theorem mask_sum (f : Fin 256 → EReal) (h : Fin 4) (g : Fin 256 → EReal) :
    ∑ l, f l * mask h l * g l = ∑ d, f (feat h d) * g (feat h d) := by
  refine (Finset.sum_of_injOn (feat h) (fun a _ b _ e => ?_) (by simp) (fun l _ hl => ?_) (fun d _ => ?_)).symm
  · have := congrArg Fin.val e
    simp only [feat] at this
    exact Fin.ext (by omega)
  · have hn : l.val / 64 ≠ h.val := by
      intro he
      exact hl ⟨⟨l.val % 64, by omega⟩, by simp, Fin.ext (by show h.val * 64 + l.val % 64 = l.val; omega)⟩
    unfold mask
    rw [if_neg hn, mul_zero, zero_mul]
  · have hp : (feat h d).val / 64 = h.val := by show (h.val * 64 + d.val) / 64 = h.val; omega
    unfold mask
    rw [if_pos hp, mul_one]

/-- The scores of one row of queries. -/
def stepScore (q : FVec Ideal S64x256 .f32) (k : FVec Ideal S512x256 .f32) (b : FVec Ideal S1x256x512 .f32) : FVec Ideal S256x512 .f32 :=
  k0_pay39 (k0_pay6 k) (k0_pay30 k0_pay2 k0_pay3 k0_pay4 k0_pay5 (k0_pay22 q)) b

/-- One row of queries, all heads. -/
def step (q : FVec Ideal S64x256 .f32) (k v : FVec Ideal S512x256 .f32) (b : FVec Ideal S1x256x512 .f32) : FVec Ideal S64x256 .f32 :=
  k0_pay70 k0_pay2 k0_pay3 k0_pay4 k0_pay5 (k0_pay61 (k0_pay14 v) (k0_pay52 (stepScore q k b)))

/-- One score of the kernel. -/
def kscore (q : FVec Ideal S64x256 .f32) (k : FVec Ideal S512x256 .f32) (b : FVec Ideal S1x256x512 .f32)
    (h : Fin 4) (x : Fin 64) (j : Fin 512) : EReal :=
  (∑ d, q (ix2 x (feat h d)) * Ideal.ofBits FTy.f32 1040187392#32 * k (ix2 j (feat h d))) + b (ix3 0 (row h x) j)

/-- The kernel's score at an index. -/
theorem score_at (q : FVec Ideal S64x256 .f32) (k : FVec Ideal S512x256 .f32) (b : FVec Ideal S1x256x512 .f32)
    (h : Fin 4) (x : Fin 64) (j : Fin 512) : stepScore q k b (ix2 (row h x) j) = kscore q k b h x j := by
  unfold stepScore
  generalize hq : (k0_pay30 (F := Ideal) k0_pay2 k0_pay3 k0_pay4 k0_pay5 (k0_pay22 q)) = Q
  unfold k0_pay39 k0_pay6
  pointwise
  unfold kscore
  rw [← hq]
  simp only [qs_at]
  rw [mask_sum (fun l => q (ix2 x l) * Ideal.ofBits FTy.f32 1040187392#32) h fun l => k (ix2 j l)]

/-- The exponentials at an index. -/
theorem exp_at (s : FVec Ideal S256x512 .f32) (r : Fin 256) (j : Fin 512) :
    (k0_pay52 (F := Ideal) s) (ix2 r j) = Ideal.exp (s (ix2 r j) - top fun j => s (ix2 r j)) := by
  have hb : Ideal.ofBits FTy.f32 4286578688#32 = ⊥ := by simp [Ideal.ofBits, Ideal.ieee]
  unfold k0_pay52 top
  pointwise
  rw [hb]

/-- The product with the values at an index. -/
theorem pv_at (v : FVec Ideal S512x256 .f32) (s : FVec Ideal S256x512 .f32) (r : Fin 256) (l : Fin 256) :
    (k0_pay61 (F := Ideal) (k0_pay14 v) (k0_pay52 s)) (ix2 r l) = soft (fun j => s (ix2 r j)) fun j => v (ix2 j l) := by
  generalize hq : k0_pay52 (F := Ideal) s = Q
  unfold k0_pay61 k0_pay14
  pointwise
  rw [← hq]
  simp only [exp_at]
  rfl

/-- The heads put side by side, at an index. -/
theorem out_at (v : FVec Ideal S256x256 .f32) (h : Fin 4) (x d : Fin 64) :
    (k0_pay70 (F := Ideal) k0_pay2 k0_pay3 k0_pay4 k0_pay5 v) (ix2 x (feat h d)) = v (ix2 (row h x) (feat h d)) := by
  unfold k0_pay70
  pointwise
  rw [lane0, lane1, lane2, lane3]
  have hf : (feat h d).val / 64 = h.val := by show (h.val * 64 + d.val) / 64 = h.val; omega
  have key : ∀ (n : Nat) (hn : n < 256), n = (row h x).val → v (ix2 ⟨n, hn⟩ (feat h d)) = v (ix2 (row h x) (feat h d)) := by
    rintro n hn rfl; rfl
  unfold mask
  rw [hf]
  match h with
  | 0 => rw [if_pos rfl, if_neg (by decide), if_neg (by decide), if_neg (by decide), key _ _ (by show x.val = 0 * 64 + x.val; omega)]; simp only [mul_one, mul_zero, add_zero]
  | 1 => rw [if_neg (by decide), if_pos rfl, if_neg (by decide), if_neg (by decide), key (64 + x.val) _ (by show 64 + x.val = 1 * 64 + x.val; omega)]; simp only [mul_one, mul_zero, add_zero, zero_add]
  | 2 => rw [if_neg (by decide), if_neg (by decide), if_pos rfl, if_neg (by decide), key (128 + x.val) _ (by show 128 + x.val = 2 * 64 + x.val; omega)]; simp only [mul_one, mul_zero, add_zero, zero_add]
  | 3 => rw [if_neg (by decide), if_neg (by decide), if_neg (by decide), if_pos rfl, key (192 + x.val) _ (by show 192 + x.val = 3 * 64 + x.val; omega)]; simp only [mul_one, mul_zero, add_zero, zero_add]

/-- One row of queries, at an index: the softmax-weighted sum over the row's 512 keys. -/
theorem step_at (q : FVec Ideal S64x256 .f32) (k v : FVec Ideal S512x256 .f32) (b : FVec Ideal S1x256x512 .f32) (h : Fin 4) (x d : Fin 64) :
    step q k v b (ix2 x (feat h d)) = soft (kscore q k b h x) fun j => v (ix2 j (feat h d)) := by
  unfold step
  rw [out_at, pv_at]
  simp only [score_at]
end Cert.KernelIdeal.Natten
end
-- ==== Proof.NattenSame.lean ====
/- Neighborhood attention: the kernel's softmax over all 512 keys of eight rows is the layer's own over the 256 keys near the block. -/
module

public import proofs.«01_k».proof.Proof.NattenStep

@[expose] public section

noncomputable section

open Idealize.ShloMosaic

namespace Cert.Natten

/-- Along a bijection of the index the softmax-weighted sum is the same. -/
theorem soft_equiv {ι κ : Type} [Fintype ι] [Fintype κ] (e : ι ≃ κ) (s v : κ → EReal) :
    soft (fun i => s (e i)) (fun i => v (e i)) = soft s v := by
  unfold soft; rw [top_equiv e, mass_equiv e]
  exact Equiv.sum_comp e fun j => Ideal.div (Ideal.exp (s j - top s)) (mass s) * v j

/-- A number, neither of the infinities. -/
def Num (x : EReal) : Prop := x ≠ ⊤ ∧ x ≠ ⊥

theorem fin_coe {x : EReal} (h : Num x) : ∃ a : ℝ, x = (a : EReal) := ⟨x.toReal, (EReal.coe_toReal h.1 h.2).symm⟩

/-- The sum of real numbers is the real sum. -/
theorem sum_coe (a : Fin 64 → ℝ) : (∑ d, ((a d : ℝ) : EReal)) = ((∑ d, a d : ℝ) : EReal) := by
  have : ∀ s : Finset (Fin 64), (∑ d ∈ s, ((a d : ℝ) : EReal)) = ((∑ d ∈ s, a d : ℝ) : EReal) := fun s => by
    induction s using Finset.cons_induction with
    | empty => simp
    | cons i s hi ih => rw [Finset.sum_cons, Finset.sum_cons, ih, EReal.coe_add]
  exact this _

/-- The scale of the scores. -/
theorem scale_real : Ideal.ofBits FTy.f32 1040187392#32 = ((1 / 8 : ℝ) : EReal) := by
  simp [Ideal.ofBits, Ideal.ieee, -EReal.coe_mul]
  try norm_num

/-- A scale on one factor of a product of numbers is a scale of the product. -/
theorem scale_dot (f g : Fin 64 → EReal) (hf : ∀ d, Num (f d)) (hg : ∀ d, Num (g d)) :
    (∑ d, f d * Ideal.ofBits FTy.f32 1040187392#32 * g d) = (∑ d, f d * g d) * Ideal.ofBits FTy.f32 1040187392#32
      ∧ Num ((∑ d, f d * g d) * Ideal.ofBits FTy.f32 1040187392#32) := by
  choose a ha using fun d => fin_coe (hf d)
  choose b hb using fun d => fin_coe (hg d)
  rw [scale_real]
  simp only [ha, hb, ← EReal.coe_mul, sum_coe]
  refine ⟨?_, EReal.coe_ne_top _, EReal.coe_ne_bot _⟩
  rw [Finset.sum_mul]
  refine congrArg _ (Finset.sum_congr rfl fun d _ => ?_)
  ring

theorem fin_add {x y : EReal} (hx : Num x) (hy : Num y) : Num (x + y) := by
  obtain ⟨a, rfl⟩ := fin_coe hx
  obtain ⟨b, rfl⟩ := fin_coe hy
  rw [← EReal.coe_add]
  exact ⟨EReal.coe_ne_top _, EReal.coe_ne_bot _⟩

/-- The queries, the keys and the relative bias are numbers. -/
structure Numbers (u : (⟨2, ![16384, 3584]⟩ : Shape).Idx → EReal) (rb : (⟨3, ![4, 15, 31]⟩ : Shape).Idx → EReal) : Prop where
  q : ∀ (t : Fin 16384) (h : Fin 4) (d : Fin 64), Num (u (ix2 t (col 2304 h d)))
  k : ∀ (t : Fin 16384) (h : Fin 4) (d : Fin 64), Num (u (ix2 t (col 2560 h d)))
  b : ∀ (h : Fin 4) (r : Fin 15) (n : Fin 31), Num (rb (ix3 h r n))

variable {u : (⟨2, ![16384, 3584]⟩ : Shape).Idx → EReal} {rb : (⟨3, ![4, 15, 31]⟩ : Shape).Idx → EReal}

/-- A score inside the window is a number. -/
theorem score_fin (hn : Numbers u rb) (b : Fin 8) (h : Fin 4) (r : Fin 32) (x : Fin 64) (k : Fin 8) (y : Fin 64)
    (hw : lo x ≤ y.val ∧ y.val < lo x + 16) : Num (score u rb b h r x k y) := by
  unfold score
  rw [if_pos hw]
  exact fin_add (scale_dot _ _ (fun d => hn.q _ h d) (fun d => hn.k _ h d)).2 (hn.b _ _ _)

/-- No score is plus infinity. -/
theorem score_ne_top (hn : Numbers u rb) (b : Fin 8) (h : Fin 4) (r : Fin 32) (x : Fin 64) (k : Fin 8) (y : Fin 64) :
    score u rb b h r x k y ≠ ⊤ := by
  by_cases hw : lo x ≤ y.val ∧ y.val < lo x + 16
  · exact (score_fin hn b h r x k y hw).1
  · unfold score; rw [if_neg hw]; exact bot_ne_top

/-- The sum over the keys near the block is the sum over all keys of the eight rows. -/
theorem soft_near (hn : Numbers u rb) (b : Fin 8) (h : Fin 4) (r : Fin 32) (cb : Fin 4) (q : Fin 16) (d : Fin 64) :
    soft (fun p : Fin 8 × Fin 32 => score u rb b h r (qcol cb q) p.1 (kcol cb p.2)) (fun p => value u b h r d p.1 (kcol cb p.2))
      = soft (fun p : Fin 8 × Fin 64 => score u rb b h r (qcol cb q) p.1 p.2) (fun p => value u b h r d p.1 p.2) := by
  refine soft_inj (fun p : Fin 8 × Fin 32 => ((p.1, kcol cb p.2) : Fin 8 × Fin 64)) ?_
    (fun p : Fin 8 × Fin 64 => score u rb b h r (qcol cb q) p.1 p.2) (fun p => value u b h r d p.1 p.2) ?_ ?_
  · rintro ⟨k, w⟩ ⟨k', w'⟩ e
    have e1 := congrArg Prod.fst e
    have e2 : (kcol cb w).val = (kcol cb w').val := congrArg (fun p => (Prod.snd p).val) e
    have e3 : min (cb.val * 16 - 8) 32 + w.val = min (cb.val * 16 - 8) 32 + w'.val := e2
    have e4 : w.val = w'.val := by omega
    exact Prod.ext e1 (Fin.ext e4)
  · rintro ⟨k, y⟩ hy
    show score u rb b h r (qcol cb q) k y = ⊥
    unfold score
    refine if_neg fun hw => ?_
    have h1 : min (cb.val * 16 - 8) 32 ≤ y.val ∧ y.val - min (cb.val * 16 - 8) 32 < 32 := by
      simp only [lo, qcol] at hw
      omega
    refine hy (k, ⟨y.val - min (cb.val * 16 - 8) 32, h1.2⟩) (Prod.ext rfl (Fin.ext ?_))
    show min (cb.val * 16 - 8) 32 + (y.val - min (cb.val * 16 - 8) 32) = y.val
    omega
  · refine mass_ne_zero _ (fun p => score_ne_top hn b h r _ _ _) ⟨((0 : Fin 8), (⟨lo (qcol cb q), by unfold lo; omega⟩ : Fin 64)), ?_⟩
    exact (score_fin hn b h r _ _ _ ⟨le_refl _, by show lo (qcol cb q) < lo (qcol cb q) + 16; omega⟩).2

/-- The keys of eight rows one after the other. -/
def keys : Fin 8 × Fin 64 ≃ Fin 512 where
  toFun p := ⟨p.1.val * 64 + p.2.val, by omega⟩
  invFun j := (⟨j.val / 64, by omega⟩, ⟨j.val % 64, by omega⟩)
  left_inv p := Prod.ext (Fin.ext (by show (p.1.val * 64 + p.2.val) / 64 = p.1.val; omega)) (Fin.ext (by show (p.1.val * 64 + p.2.val) % 64 = p.2.val; omega))
  right_inv j := Fin.ext (by show j.val / 64 * 64 + j.val % 64 = j.val; omega)

end Cert.Natten

namespace Cert.KernelIdeal.Natten

open Cert.KernelIdeal Cert.KernelIdeal.Gen Cert.Natten

variable {u : (⟨2, ![16384, 3584]⟩ : Shape).Idx → EReal} {rb : (⟨3, ![4, 15, 31]⟩ : Shape).Idx → EReal}

/-- The kernel's row of queries, on the blocks it reads, is the layer's own. -/
theorem step_eq (hn : Numbers u rb) (b : Fin 8) (h : Fin 4) (r : Fin 32) (cb : Fin 4) (x : Fin 16) (d : Fin 64)
    (q : FVec Ideal S64x256 .f32) (k v : FVec Ideal S512x256 .f32) (t : FVec Ideal S1x256x512 .f32)
    (hq : ∀ e, q (ix2 (qcol cb x) (feat h e)) = u (ix2 (tok b r (qcol cb x)) (col 2304 h e)))
    (hk : ∀ (i : Fin 8) (y : Fin 64) e, k (ix2 (keys (i, y)) (feat h e)) = u (ix2 (tok b (krow r i) y) (col 2560 h e)))
    (hv : ∀ (i : Fin 8) (y : Fin 64), v (ix2 (keys (i, y)) (feat h d)) = u (ix2 (tok b (krow r i) y) (col 2816 h d)))
    (ht : ∀ (i : Fin 8) (y : Fin 64), t (ix3 0 (row h (qcol cb x)) (keys (i, y)))
      = if lo (qcol cb x) ≤ y.val ∧ y.val < lo (qcol cb x) + 16 then rb (ix3 h (brow r i) (bcol (qcol cb x) y)) else (⊥ : EReal)) :
    step q k v t (ix2 (qcol cb x) (feat h d))
      = soft (fun p : Fin 8 × Fin 32 => score u rb b h r (qcol cb x) p.1 (kcol cb p.2)) (fun p => value u b h r d p.1 (kcol cb p.2)) := by
  rw [step_at, soft_near hn, ← soft_equiv keys]
  have e1 : (fun p : Fin 8 × Fin 64 => kscore q k t h (qcol cb x) (keys p)) = fun p => score u rb b h r (qcol cb x) p.1 p.2 := by
    funext ⟨i, y⟩
    unfold kscore score
    rw [ht]
    by_cases hw : lo (qcol cb x) ≤ y.val ∧ y.val < lo (qcol cb x) + 16
    · rw [if_pos hw, if_pos hw]
      refine congrArg (· + _) ?_
      simp only [hq, hk]
      exact (scale_dot _ _ (fun e => hn.q _ h e) (fun e => hn.k _ h e)).1
    · rw [if_neg hw, if_neg hw]; exact EReal.add_bot _
  have e2 : (fun p : Fin 8 × Fin 64 => v (ix2 (keys p) (feat h d))) = fun p => value u b h r d p.1 p.2 := by
    funext ⟨i, y⟩; exact hv i y
  rw [e1, e2]

end Cert.KernelIdeal.Natten
end
-- ==== Proof.Natten.lean ====
/- The value of the idealized neighborhood attention: what the array of results holds after the run, index by index. -/
module

public import proofs.«01_k».proof.Proof.NattenBias
public import proofs.«01_k».proof.Proof.NattenSame

@[expose] public section

set_option maxRecDepth 16384

noncomputable section

open Idealize.ShloMosaic Idealize.ShloMosaic.TcCoe Idealize.SL.Sem
open Idealize.ShloMosaic.Pipeline (Dat)

namespace Cert.KernelIdeal.Natten

open Cert.KernelIdeal Cert.KernelIdeal.Gen Cert.Natten

variable (m : (ℓ : Loc nD τ sig) → Buf (Elt Ideal) ℓ)

/-- The block of every window at every grid point. -/
theorem idx_val : ∀ t : Fin cfg0.N, win0_0.index t = ![t.val, 9] ∧ win0_1.index t = ![t.val / 4, 10]
    ∧ win0_2.index t = ![t.val / 4, 11] ∧ win0_3.index t = ![0, 0, 0] ∧ win0_4.index t = ![t.val, 0] :=
  (by decide +kernel : ∀ t : Fin grid0.N, _)

/-- The rows of keys a row of queries reads. -/
theorem off1_val : ∀ (t : Fin grid0.N) (j : Fin 8), k0_off1 (grid0.coords t) (BitVec.ofNat 32 j.val)
    = ![64 * min (8 * (t.val % 4) + j.val - 4) 24, 0] := by decide +kernel

/-- The slab of the table a row of queries reads. -/
theorem off2_val : ∀ (t : Fin grid0.N) (j : Fin 8), k0_off2 (grid0.coords t) (BitVec.ofNat 32 j.val)
    = ![min (8 * (t.val % 4) + j.val - 4) 24 + 7 - (8 * (t.val % 4) + j.val), 0, 0] := by decide +kernel

/-- The queries of a block. -/
theorem blk_q (c : Dev nD) (t : Fin cfg0.N) (r : Fin 512) (l : Fin 256) (ht : t.val < 32) : iblk m c 0 t (ix2 r l)
    = m ((c : Thread nD τ).loc main_arg0) (ix2 (⟨512 * t.val + r.val, by omega⟩ : Fin 16384) (⟨2304 + l.val, by omega⟩ : Fin 3584)) := by
  blk_ext [iblk, V_main_arg0, idx_val t]

/-- The keys of a batch. -/
theorem blk_k (c : Dev nD) (t : Fin cfg0.N) (r : Fin 2048) (l : Fin 256) (ht : t.val < 32) : iblk m c 1 t (ix2 r l)
    = m ((c : Thread nD τ).loc main_arg0) (ix2 (⟨2048 * (t.val / 4) + r.val, by omega⟩ : Fin 16384) (⟨2560 + l.val, by omega⟩ : Fin 3584)) := by
  blk_ext [iblk, V_main_arg0, idx_val t]

/-- The values of a batch. -/
theorem blk_v (c : Dev nD) (t : Fin cfg0.N) (r : Fin 2048) (l : Fin 256) (ht : t.val < 32) : iblk m c 2 t (ix2 r l)
    = m ((c : Thread nD τ).loc main_arg0) (ix2 (⟨2048 * (t.val / 4) + r.val, by omega⟩ : Fin 16384) (⟨2816 + l.val, by omega⟩ : Fin 3584)) := by
  blk_ext [iblk, V_main_arg0, idx_val t]

/-- The table. -/
theorem blk_t (c : Dev nD) (t : Fin cfg0.N) (D : Fin 8) (r : Fin 256) (j : Fin 512) : iblk m c 3 t (ix3 D r j)
    = tabOf (tabToep (m ((c : Thread nD τ).loc main_arg1))) (ix3 D r j) := by
  rw [← entry_table]
  blk_ext [iblk, idx_val t]

/-- A read of 512 rows from row `o` on. -/
theorem ld_rows (X : Vec Ideal S2048x256 .f32) (off : Fin 2 → Nat) (o : Nat) (e : off = ![o, 0])
    (inb : ∀ a, off a + S512x256.size a ≤ S2048x256.size a) (i : Fin 512) (l : Fin 256) (ho : o + i.val < 2048) :
    View.ld X (Rect.unit (s := S2048x256) off S512x256.size inb) (ix2 i l) = X (ix2 (⟨o + i.val, ho⟩ : Fin 2048) l) := by
  subst e
  pointwise

/-- A read of one slab of the table. -/
theorem ld_slab (X : Vec Ideal S8x256x512 .f32) (off : Fin 3 → Nat) (o : Nat) (e : off = ![o, 0, 0])
    (inb : ∀ a, off a + S1x256x512.size a ≤ S8x256x512.size a) (r : Fin 256) (i : Fin 512) (ho : o < 8) :
    View.ld X (Rect.unit (s := S8x256x512) off S1x256x512.size inb) (ix3 0 r i) = X (ix3 (⟨o, ho⟩ : Fin 8) r i) := by
  subst e
  pointwise

/-- A read of 64 rows from row `o` on. -/
theorem ld_row (X : Vec Ideal S512x256 .f32) (o : Nat) (inb : ∀ a, (![o, 0] : Fin 2 → Nat) a + S64x256.size a ≤ S512x256.size a)
    (i : Fin 64) (l : Fin 256) (ho : o + i.val < 512) :
    View.ld X (Rect.unit (s := S512x256) ![o, 0] S64x256.size inb) (ix2 i l) = X (ix2 (⟨o + i.val, ho⟩ : Fin 512) l) := by
  pointwise

/-- Row `j` of queries of the block at grid point `t`. -/
theorem row_eq (c : Dev nD) (hn : Numbers (m ((c : Thread nD τ).loc main_arg0)) (m ((c : Thread nD τ).loc main_arg1)))
    (R : FVec Ideal S16384x256 .f32)
    (hR : ∀ (b : Fin 8) (h : Fin 4) (r : Fin 32) (cb : Fin 4) (q : Fin 16) (d : Fin 64), R (ix2 (tok b r (qcol cb q)) (feat h d))
      = soft (fun p : Fin 8 × Fin 32 => score (m ((c : Thread nD τ).loc main_arg0)) (m ((c : Thread nD τ).loc main_arg1)) b h r (qcol cb q) p.1 (kcol cb p.2))
        (fun p => value (m ((c : Thread nD τ).loc main_arg0)) b h r d p.1 (kcol cb p.2)))
    (t : Fin cfg0.N) (ht : t.val < 32) (j : Fin 8) (x : Fin 64) (l : Fin 256)
    (inb : ∀ a, (![64 * j.val, 0] : Fin 2 → Nat) a + S64x256.size a ≤ S512x256.size a) :
    step (View.ld (iblk m c 0 t) (Rect.unit (s := S512x256) ![64 * j.val, 0] S64x256.size inb))
      (View.ld (iblk m c 1 t) (Rect.unit (s := S2048x256) (k0_off1 (grid0.coords t) (BitVec.ofNat 32 j.val)) S512x256.size (k0_off1_inb (grid0.coords t) j)))
      (View.ld (iblk m c 2 t) (Rect.unit (s := S2048x256) (k0_off1 (grid0.coords t) (BitVec.ofNat 32 j.val)) S512x256.size (k0_off1_inb (grid0.coords t) j)))
      (View.ld (iblk m c 3 t) (Rect.unit (s := S8x256x512) (k0_off2 (grid0.coords t) (BitVec.ofNat 32 j.val)) S1x256x512.size (k0_off2_inb (grid0.coords t) j)))
      (ix2 x l) = R (ix2 (⟨512 * t.val + (64 * j.val + x.val), by omega⟩ : Fin 16384) l) := by
  obtain ⟨h, d, rfl⟩ : ∃ (h : Fin 4) (d : Fin 64), l = feat h d :=
    ⟨⟨l.val / 64, by omega⟩, ⟨l.val % 64, by omega⟩, Fin.ext (by show l.val = l.val / 64 * 64 + l.val % 64; omega)⟩
  obtain ⟨cb, q, rfl⟩ : ∃ (cb : Fin 4) (q : Fin 16), x = qcol cb q :=
    ⟨⟨x.val / 16, by omega⟩, ⟨x.val % 16, by omega⟩, Fin.ext (by show x.val = x.val / 16 * 16 + x.val % 16; omega)⟩
  have eR : (⟨512 * t.val + (64 * j.val + (qcol cb q).val), by omega⟩ : Fin 16384)
      = tok ⟨t.val / 4, by omega⟩ ⟨8 * (t.val % 4) + j.val, by omega⟩ (qcol cb q) := Fin.ext (by
    show 512 * t.val + (64 * j.val + (qcol cb q).val) = t.val / 4 * 2048 + (8 * (t.val % 4) + j.val) * 64 + (qcol cb q).val
    omega)
  rw [eR, hR]
  refine step_eq hn _ h _ cb q d _ _ _ _ ?_ ?_ ?_ ?_
  · intro e
    rw [ld_row _ _ _ _ _ (by omega), blk_q m c t _ _ ht]
    refine congrArg _ (congrArg₂ ix2 (Fin.ext ?_) (Fin.ext ?_))
    · show 512 * t.val + (64 * j.val + (qcol cb q).val) = t.val / 4 * 2048 + (8 * (t.val % 4) + j.val) * 64 + (qcol cb q).val
      omega
    · rfl
  · intro i y e
    have hi : (keys (i, y)).val = i.val * 64 + y.val := rfl
    rw [ld_rows _ _ _ (off1_val t j) _ _ _ (by rw [hi]; omega), blk_k m c t _ _ ht]
    refine congrArg _ (congrArg₂ ix2 (Fin.ext ?_) (Fin.ext ?_))
    · show 2048 * (t.val / 4) + (64 * min (8 * (t.val % 4) + j.val - 4) 24 + (keys (i, y)).val)
        = t.val / 4 * 2048 + (min (8 * (t.val % 4) + j.val - 4) 24 + i.val) * 64 + y.val
      rw [hi]; omega
    · rfl
  · intro i y
    have hi : (keys (i, y)).val = i.val * 64 + y.val := rfl
    rw [ld_rows _ _ _ (off1_val t j) _ _ _ (by rw [hi]; omega), blk_v m c t _ _ ht]
    refine congrArg _ (congrArg₂ ix2 (Fin.ext ?_) (Fin.ext ?_))
    · show 2048 * (t.val / 4) + (64 * min (8 * (t.val % 4) + j.val - 4) 24 + (keys (i, y)).val)
        = t.val / 4 * 2048 + (min (8 * (t.val % 4) + j.val - 4) 24 + i.val) * 64 + y.val
      rw [hi]; omega
    · rfl
  · intro i y
    rw [ld_slab _ _ _ (off2_val t j) _ _ _ (by omega), blk_t]
    refine (tabOf_at _ _ h (qcol cb q) y i).trans ?_
    rw [tabToep_at]
    have e : (⟨min (8 * (t.val % 4) + j.val - 4) 24 + 7 - (8 * (t.val % 4) + j.val) + i.val, by omega⟩ : Fin 15)
        = brow ⟨8 * (t.val % 4) + j.val, by omega⟩ i := Fin.ext (by
      show min (8 * (t.val % 4) + j.val - 4) 24 + 7 - (8 * (t.val % 4) + j.val) + i.val
        = min (8 * (t.val % 4) + j.val - 4) 24 + i.val + 7 - (8 * (t.val % 4) + j.val)
      omega)
    rw [← e]

/-- What the array of results holds after the run. -/
theorem final (c : Dev nD) (hn : Numbers (m ((c : Thread nD τ).loc main_arg0)) (m ((c : Thread nD τ).loc main_arg1)))
    (R : FVec Ideal S16384x256 .f32)
    (hR : ∀ (b : Fin 8) (h : Fin 4) (r : Fin 32) (cb : Fin 4) (q : Fin 16) (d : Fin 64), R (ix2 (tok b r (qcol cb q)) (feat h d))
      = soft (fun p : Fin 8 × Fin 32 => score (m ((c : Thread nD τ).loc main_arg0)) (m ((c : Thread nD τ).loc main_arg1)) b h r (qcol cb q) p.1 (kcol cb p.2))
        (fun p => value (m ((c : Thread nD τ).loc main_arg0)) b h r d p.1 (kcol cb p.2))) :
    (dats m 0 c).arrAt 4 (cfgs 0).N = R := by
  refine (dats m 0 c).arrAt_eq_of_covers 4 _ (by decide +kernel) fun t hf y => ?_
  blk_simp
  rw [after0_4]; unfold outsAt0; frame_out
  have ht : t.val < 32 := t.isLt
  have hy : ((View.whole main_v63).slice (win0_4.rect t)).emb y
      = ix2 (⟨512 * t.val + (y 0).val, by have : (y 0).val < 512 := (y 0).isLt; omega⟩ : Fin 16384) (⟨(y 1).val, (y 1).isLt⟩ : Fin 256) := by
    blk_ext [idx_val t]
  rw [hy]
  canon_tiles x h
  · obtain ⟨r, l, rfl⟩ : ∃ (r : Fin 64) (l : Fin 256), x = ix2 r l := ⟨x 0, x 1, eq_ix2 x⟩
    refine (row_eq m c hn R hR t ht 7 r l inb_S512x256_S64x256_448_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 6 r l inb_S512x256_S64x256_384_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 5 r l inb_S512x256_S64x256_320_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 4 r l inb_S512x256_S64x256_256_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 3 r l inb_S512x256_S64x256_192_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 2 r l inb_S512x256_S64x256_128_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 1 r l inb_S512x256_S64x256_64_0).trans (congrArg R (congrArg₂ ix2 (Fin.ext ?_) (Fin.ext h1.symm)))
    exact (congrArg (512 * t.val + ·) h0).symm
  · obtain ⟨r, l, rfl⟩ : ∃ (r : Fin 64) (l : Fin 256), x = ix2 r l := ⟨x 0, x 1, eq_ix2 x⟩
    refine (row_eq m c hn R hR t ht 0 r l inb_S512x256_S64x256_0_0).trans (congrArg R (congrArg₂ ix2 (Fin.ext ?_) (Fin.ext h1.symm)))
    exact congrArg (512 * t.val + ·) ((Nat.zero_add r.val).trans h0.symm)

end Cert.KernelIdeal.Natten
end
-- ==== Proof.NattenRef.lean ====
/- The reference of neighborhood attention, read at an index: its closed form. -/
module

public import proofs.«01_k».proof.Proof.Gen.ReferenceIdeal.Run
public import proofs.«01_k».proof.Proof.NattenForm
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Natten

open Cert.ReferenceIdeal Cert.ReferenceIdeal.Gen Cert.ReferenceIdeal.Value Cert.Natten

variable (V0 : Valuation τ sig (Elt Ideal))

/-- A gather of rows and columns of keys (or values), read at an index. -/
theorem gk (x : FVec Ideal S8x4x32x64x64 .f32) (idx : IVec S32x4x8x32x2 32) (b : Fin 8) (h : Fin 4) (r : Fin 32) (cb : Fin 4) (k : Fin 8) (w : Fin 32) (d : Fin 64) :
   Host.gather gather_S8x4x32x64x64_S32x4x8x32x2_S8x4x32x4x8x32x64_016_23_n_n_23_4_841164 x idx (ix7 b h r cb k w d) = x (ix5 b h ⟨min (idx (ix5 r cb k w 0)).toInt.toNat 31, by omega⟩ ⟨min (idx (ix5 r cb k w 1)).toInt.toNat 63, by omega⟩ d) := by
  have hs0 : gather_S8x4x32x64x64_S32x4x8x32x2_S8x4x32x4x8x32x64_016_23_n_n_23_4_841164.siIdx (ix7 b h r cb k w d) ⟨0, by decide⟩ = ix5 r cb k w 0 := by
    funext a; refine Fin.ext ?_
    match a with
    | ⟨0, _⟩ => rfl
    | ⟨1, _⟩ => rfl
    | ⟨2, _⟩ => rfl
    | ⟨3, _⟩ => rfl
    | ⟨4, _⟩ => rfl
  have hs1 : gather_S8x4x32x64x64_S32x4x8x32x2_S8x4x32x4x8x32x64_016_23_n_n_23_4_841164.siIdx (ix7 b h r cb k w d) ⟨1, by decide⟩ = ix5 r cb k w 1 := by
    funext a; refine Fin.ext ?_
    match a with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  match a with
  | ⟨0, _⟩ => exact (Nat.zero_add _)
  | ⟨1, _⟩ => exact (Nat.zero_add _)
  | ⟨2, _⟩ => exact congrArg (fun i => min (idx i).toInt.toNat 31) hs0
  | ⟨3, _⟩ => exact congrArg (fun i => min (idx i).toInt.toNat 63) hs1
  | ⟨4, _⟩ => exact (Nat.zero_add _)

/-- The gather of the relative bias, read at an index. -/
theorem gb (x : FVec Ideal S4x15x31 .f32) (idx : IVec S32x4x16x8x32x2 32) (h : Fin 4) (r : Fin 32) (cb : Fin 4) (q : Fin 16) (k : Fin 8) (w : Fin 32) :
   Host.gather gather_S4x15x31_S32x4x16x8x32x2_S4x32x4x16x8x32_0_12_n_n_12_5_411 x idx (ix6 h r cb q k w) = x (ix3 h ⟨min (idx (ix6 r cb q k w 0)).toInt.toNat 14, by omega⟩ ⟨min (idx (ix6 r cb q k w 1)).toInt.toNat 30, by omega⟩) := by
  have hs0 : gather_S4x15x31_S32x4x16x8x32x2_S4x32x4x16x8x32_0_12_n_n_12_5_411.siIdx (ix6 h r cb q k w) ⟨0, by decide⟩ = ix6 r cb q k w 0 := by
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  have hs1 : gather_S4x15x31_S32x4x16x8x32x2_S4x32x4x16x8x32_0_12_n_n_12_5_411.siIdx (ix6 h r cb q k w) ⟨1, by decide⟩ = ix6 r cb q k w 1 := by
    funext a; refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  unfold Host.gather
  congr 1
  funext a
  refine Fin.ext ?_
  match a with
  | ⟨0, _⟩ => exact (Nat.zero_add _)
  | ⟨1, _⟩ => exact congrArg (fun i => min (idx i).toInt.toNat 14) hs0
  | ⟨2, _⟩ => exact congrArg (fun i => min (idx i).toInt.toNat 30) hs1

/-- The key rows of a window. -/
theorem row (r : Fin 32) (k : Fin 8) : (res_main_v21 V0 : IVec S32x8 32) (ix2 r k) = BitVec.ofNat 32 (min (r.val - 4) 24 + k.val) := by
  unfold res_main_v21 res_main_v12
  clean_types
  pointwise
  revert r k; decide +kernel

/-- The key rows of a window, with two unit axes. -/
theorem row4 (r : Fin 32) (k : Fin 8) : (res_main_v34 V0 : IVec S32x1x8x1 32) (ix4 r 0 k 0) = BitVec.ofNat 32 (min (r.val - 4) 24 + k.val) := by
  unfold res_main_v34
  clean_types
  pointwise
  exact row V0 r k

/-- The key columns a block reads. -/
theorem kc (cb : Fin 4) (w : Fin 32) : (res_main_v33 V0 : IVec S4x32 32) (ix2 cb w) = BitVec.ofNat 32 (min (cb.val * 16 - 8) 32 + w.val) := by
  unfold res_main_v33 res_main_v22
  clean_types
  pointwise
  revert cb w; decide +kernel

/-- The key columns a block reads, with two unit axes. -/
theorem kc4 (cb : Fin 4) (w : Fin 32) : (res_main_v35 V0 : IVec S1x4x1x32 32) (ix4 0 cb 0 w) = BitVec.ofNat 32 (min (cb.val * 16 - 8) 32 + w.val) := by
  unfold res_main_v35
  clean_types
  pointwise
  exact kc V0 cb w

/-- The key columns a block reads, with one unit axis. -/
theorem kc3 (cb : Fin 4) (w : Fin 32) : (res_main_v83 V0 : IVec S4x1x32 32) (ix3 cb 0 w) = BitVec.ofNat 32 (min (cb.val * 16 - 8) 32 + w.val) := by
  unfold res_main_v83
  clean_types
  pointwise
  exact kc V0 cb w

/-- The query columns of a block. -/
theorem qc (cb : Fin 4) (q : Fin 16) : (res_main_v79 V0 : IVec S4x16 32) (ix2 cb q) = BitVec.ofNat 32 (cb.val * 16 + q.val) := by
  unfold res_main_v79 res_main_v22
  clean_types
  pointwise
  revert cb q; decide +kernel

/-- The first key column of a query's window. -/
theorem wst (cb : Fin 4) (q : Fin 16) : (res_main_v82 V0 : IVec S4x16 32) (ix2 cb q) = BitVec.ofNat 32 (min (cb.val * 16 + q.val - 8) 48) := by
  unfold res_main_v82
  clean_types
  pointwise
  rw [qc]
  revert cb q; decide +kernel

/-- The row of the relative bias. -/
theorem bi_row (r : Fin 32) (k : Fin 8) : (res_main_v111 V0 : IVec S32x1x1x8x1 32) (ix5 r 0 0 k 0) = BitVec.ofNat 32 (min (r.val - 4) 24 + k.val + 7 - r.val) := by
  unfold res_main_v111 res_main_v12
  clean_types
  pointwise
  rw [row]
  revert r k; decide +kernel

/-- The column of the relative bias. -/
theorem bi_col (cb : Fin 4) (q : Fin 16) (w : Fin 32) : (res_main_v112 V0 : IVec S1x4x16x1x32 32) (ix5 0 cb q 0 w) = BitVec.ofNat 32 (min (min (cb.val * 16 - 8) 32 + w.val + 15 - (cb.val * 16 + q.val)) 30) := by
  unfold res_main_v112
  clean_types
  pointwise
  simp only [kc, qc, kc4, kc3]
  revert cb q w; decide +kernel

/-- A key row is not negative and in range: neither wrapped nor clamped. -/
theorem wr (r : Fin 32) (k : Fin 8) : min (Scalar.select (IntOp.cmpi CmpIPredicate.slt (BitVec.ofNat 32 (min (r.val - 4) 24 + k.val)) 0#32)
    (IntOp.addi (BitVec.ofNat 32 (min (r.val - 4) 24 + k.val)) 32#32) (BitVec.ofNat 32 (min (r.val - 4) 24 + k.val))).toInt.toNat 31
    = min (r.val - 4) 24 + k.val := by
  revert r k; decide +kernel

/-- A key column likewise. -/
theorem wc (cb : Fin 4) (w : Fin 32) : min (Scalar.select (IntOp.cmpi CmpIPredicate.slt (BitVec.ofNat 32 (min (cb.val * 16 - 8) 32 + w.val)) 0#32)
    (IntOp.addi (BitVec.ofNat 32 (min (cb.val * 16 - 8) 32 + w.val)) 64#32) (BitVec.ofNat 32 (min (cb.val * 16 - 8) 32 + w.val))).toInt.toNat 63
    = min (cb.val * 16 - 8) 32 + w.val := by
  revert cb w; decide +kernel

/-- A row of the relative bias likewise. -/
theorem wbr (r : Fin 32) (k : Fin 8) : min (Scalar.select (IntOp.cmpi CmpIPredicate.slt (BitVec.ofNat 32 (min (r.val - 4) 24 + k.val + 7 - r.val)) 0#32)
    (IntOp.addi (BitVec.ofNat 32 (min (r.val - 4) 24 + k.val + 7 - r.val)) 15#32) (BitVec.ofNat 32 (min (r.val - 4) 24 + k.val + 7 - r.val))).toInt.toNat 14
    = min (r.val - 4) 24 + k.val + 7 - r.val := by
  revert r k; decide +kernel

/-- A column of the relative bias likewise. -/
theorem wbc (cb : Fin 4) (q : Fin 16) (w : Fin 32) : min (Scalar.select (IntOp.cmpi CmpIPredicate.slt (BitVec.ofNat 32 (min (min (cb.val * 16 - 8) 32 + w.val + 15 - (cb.val * 16 + q.val)) 30)) 0#32)
    (IntOp.addi (BitVec.ofNat 32 (min (min (cb.val * 16 - 8) 32 + w.val + 15 - (cb.val * 16 + q.val)) 30)) 31#32)
    (BitVec.ofNat 32 (min (min (cb.val * 16 - 8) 32 + w.val + 15 - (cb.val * 16 + q.val)) 30))).toInt.toNat 30
    = min (min (cb.val * 16 - 8) 32 + w.val + 15 - (cb.val * 16 + q.val)) 30 := by
  revert cb q w; decide +kernel

/-- The window's mask. -/
theorem wm (cb : Fin 4) (q : Fin 16) (w : Fin 32) : IntOp.andi
        (IntOp.cmpi CmpIPredicate.sge (BitVec.ofNat 32 (min (cb.val * 16 - 8) 32 + w.val))
          (BitVec.ofNat 32 (min (cb.val * 16 + q.val - 8) 48)))
        (IntOp.cmpi CmpIPredicate.slt (BitVec.ofNat 32 (min (cb.val * 16 - 8) 32 + w.val))
          (IntOp.addi (BitVec.ofNat 32 (min (cb.val * 16 + q.val - 8) 48)) 16#32))
    = if lo (qcol cb q) ≤ (kcol cb w).val ∧ (kcol cb w).val < lo (qcol cb q) + 16 then 1#1 else 0#1 := by
  revert cb q w; decide +kernel

/-- The pattern of minus infinity. -/
theorem ninf : Ideal.ofBits FTy.f32 4286578688#32 = ⊥ := by simp [Ideal.ofBits, Ideal.ieee]

/-- The masked scores. -/
theorem t133 (b : Fin 8) (h : Fin 4) (r : Fin 32) (cb : Fin 4) (q : Fin 16) (k : Fin 8) (w : Fin 32) :
    (res_main_v133 V0 : FVec Ideal S8x4x32x4x16x8x32 .f32) (ix7 b h r cb q k w) = score (V0 (Proc.devRef .tc main_arg0)) (V0 (Proc.devRef .tc main_arg1)) b h r (qcol cb q) k (kcol cb w) := by
  unfold res_main_v133
  clean_types
  pointwise [gk, gb, row4, kc4, kc3, wst, bi_row, bi_col]
  simp only [wr, wc, wbr, wbc, wm]
  unfold score
  by_cases hw : lo (qcol cb q) ≤ (kcol cb w).val ∧ (kcol cb w).val < lo (qcol cb q) + 16
  · simp only [if_pos hw]; rfl
  · simp only [if_neg hw]; exact ninf

/-- The places summed over, those of the last axis. -/
theorem fiber6 (j : (S8x4x32x4x16).Idx) (i : (S8x4x32x4x16x256).Idx) :
    reducesTo_S8x4x32x4x16x256_S8x4x32x4x16_d5.drop i = j ↔ ∃ k : Fin 256, ix6 (j 0) (j 1) (j 2) (j 3) (j 4) k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- They differ by their last coordinate. -/
theorem inj6 (j : (S8x4x32x4x16).Idx) : Function.Injective fun k : Fin 256 => (ix6 (j 0) (j 1) (j 2) (j 3) (j 4) k : (S8x4x32x4x16x256).Idx) :=
  fun _ _ e => congrFun e 5

/-- The largest along the last axis. -/
theorem maxs (f : S8x4x32x4x16x256.Idx → EReal) (init : EReal) (b : Fin 8) (h : Fin 4) (r : Fin 32) (cb : Fin 4) (q : Fin 16) :
    Finset.fold max init f {i | reducesTo_S8x4x32x4x16x256_S8x4x32x4x16_d5.drop i = ix5 b h r cb q}
      = Finset.fold max init (fun k : Fin 256 => f (ix6 b h r cb q k)) Finset.univ :=
  Finset.fold_filter_eq_fold_of_fiber max _ _ (inj6 (ix5 b h r cb q)) (fiber6 (ix5 b h r cb q)) init f

/-- The sum along the last axis. -/
theorem sums (f : S8x4x32x4x16x256.Idx → EReal) (init : EReal) (b : Fin 8) (h : Fin 4) (r : Fin 32) (cb : Fin 4) (q : Fin 16) :
    Ideal.hostReduceAdd reducesTo_S8x4x32x4x16x256_S8x4x32x4x16_d5 f init (ix5 b h r cb q)
      = init + ∑ k : Fin 256, f (ix6 b h r cb q k) :=
  congrArg (init + ·) (Finset.sum_filter_eq_sum_of_fiber _ _ (inj6 (ix5 b h r cb q)) (fiber6 (ix5 b h r cb q)) f)

/-- The scores of one query. -/
def sc (b : Fin 8) (h : Fin 4) (r : Fin 32) (cb : Fin 4) (q : Fin 16) (p : Fin 8 × Fin 32) : EReal :=
  score (V0 (Proc.devRef .tc main_arg0)) (V0 (Proc.devRef .tc main_arg1)) b h r (qcol cb q) p.1 (kcol cb p.2)

/-- A key's place in one axis, as its row and column. -/
def pair : Fin 256 ≃ Fin 8 × Fin 32 := (finProdFinEquiv (m := 8) (n := 32)).symm

/-- The masked scores, their keys in one axis. -/
theorem t134 (b : Fin 8) (h : Fin 4) (r : Fin 32) (cb : Fin 4) (q : Fin 16) (w : Fin 256) :
    (res_main_v134 V0 : FVec Ideal S8x4x32x4x16x256 .f32) (ix6 b h r cb q w) = sc V0 b h r cb q (pair w) := by
  unfold res_main_v134
  clean_types
  pointwise
  exact t133 V0 b h r cb q _ _

/-- The largest score of a query. -/
theorem hmax (b : Fin 8) (h : Fin 4) (r : Fin 32) (cb : Fin 4) (q : Fin 16) :
    (Host.reduce (FloatOps.maximumf (F := Ideal) (φ := .f32)) (res_main_v134 V0 : FVec Ideal S8x4x32x4x16x256 .f32) (constant S_ .f32 0xFF800000#32) reducesTo_S8x4x32x4x16x256_S8x4x32x4x16_d5 h_S_ : FVec Ideal S8x4x32x4x16 .f32) (ix5 b h r cb q)
      = top (sc V0 b h r cb q) := by
  rw [Host.reduce_eq_fold]
  refine (maxs _ _ b h r cb q).trans ?_
  refine Eq.trans ?_ (top_equiv pair (sc V0 b h r cb q))
  unfold top
  rw [show (constant (F := Ideal) S_ FTy.f32 (4286578688#32) (Shape.Idx.first h_S_)) = (⊥ : EReal) from ninf]
  congr 1
  · funext w; exact t134 V0 b h r cb q w

/-- One number for each query, along the keys. -/
theorem spread (z : FVec Ideal S8x4x32x4x16 .f32) (b : Fin 8) (h : Fin 4) (r : Fin 32) (cb : Fin 4) (q : Fin 16) (w : Fin 256) :
    broadcastInDim S8x4x32x4x16x256 ![0, 1, 2, 3, 4, 5] bcast_S8x4x32x4x16x1_S8x4x32x4x16x256_0_1_2_3_4_5
          (broadcastInDim S8x4x32x4x16x1 ![0, 1, 2, 3, 4] bcast_S8x4x32x4x16_S8x4x32x4x16x1_0_1_2_3_4 z) (ix6 b h r cb q w) = z (ix5 b h r cb q) := by
  pointwise

/-- The exponential of a difference, at an index. -/
theorem exp_sub_at (X Z : FVec Ideal S8x4x32x4x16x256 .f32) (i : S8x4x32x4x16x256.Idx) :
    (Host.exp (subf X Z) : FVec Ideal S8x4x32x4x16x256 .f32) i = Ideal.exp (X i - Z i) := rfl

/-- The larger of minus infinity and a number. -/
theorem max_at (Z : FVec Ideal S8x4x32x4x16 .f32) (i : S8x4x32x4x16.Idx) :
    (maximumf (broadcastInDim S8x4x32x4x16 ![] bcast_S_S8x4x32x4x16 (constant S_ FTy.f32 4286578688#32)) Z : FVec Ideal S8x4x32x4x16 .f32) i = Z i := by
  show max (Ideal.ofBits FTy.f32 4286578688#32) (Z i) = Z i
  rw [ninf]; exact max_eq_right bot_le

/-- The exponentials. -/
theorem t141 (b : Fin 8) (h : Fin 4) (r : Fin 32) (cb : Fin 4) (q : Fin 16) (w : Fin 256) :
    (res_main_v141 V0 : FVec Ideal S8x4x32x4x16x256 .f32) (ix6 b h r cb q w) = Ideal.exp (sc V0 b h r cb q (pair w) - top (sc V0 b h r cb q)) := by
  have h1 := hmax V0 b h r cb q
  have h2 := t134 V0 b h r cb q w
  generalize top (sc V0 b h r cb q) = T at h1 ⊢
  generalize sc V0 b h r cb q (pair w) = S at h2 ⊢
  unfold res_main_v141
  clean_types
  generalize Host.reduce _ _ _ _ _ = red at h1 ⊢
  generalize res_main_v134 V0 = X at h2 ⊢
  refine (exp_sub_at X _ (ix6 b h r cb q w)).trans ?_
  rw [h2, spread, max_at, h1]

/-- The values, gathered. -/
def vals : FVec Ideal S8x4x32x4x8x32x64 .f32 := (Host.gather gather_S8x4x32x64x64_S32x4x8x32x2_S8x4x32x4x8x32x64_016_23_n_n_23_4_841164 (transpose S8x4x32x64x64 [0, 3, 1, 2, 4] (shapeCast _ (shapeCast _ (extractStridedSlice S16384x256 ![0, 2816] (V0 (Proc.devRef .tc main_arg0) : FVec Ideal S16384x3584 .f32) slices_S16384x3584_S16384x256_0_2816) shapeCasts_S16384x256_S8x2048x256) shapeCasts_S8x2048x256_S8x32x64x4x64) transposes_S8x32x64x4x64_S8x4x32x64x64_0_3_1_2_4) (concatenate S32x4x8x32x2 4 [⟨S32x4x8x32x1, (broadcastInDim S32x4x8x32x1 ![0, 1, 2, 3] bcast_S32x4x8x32_S32x4x8x32x1_0_1_2_3 (broadcastInDim S32x4x8x32 ![0, 1, 2, 3] bcast_S32x1x8x1_S32x4x8x32_0_1_2_3 (select (cmpi .slt (res_main_v34 V0) (broadcastInDim S32x1x8x1 ![] bcast_S_S32x1x8x1 (constantI S_ 32 0#32))) (addi (res_main_v34 V0) (broadcastInDim S32x1x8x1 ![] bcast_S_S32x1x8x1 (constantI S_ 32 32#32))) (res_main_v34 V0))))⟩, ⟨S32x4x8x32x1, (broadcastInDim S32x4x8x32x1 ![0, 1, 2, 3] bcast_S32x4x8x32_S32x4x8x32x1_0_1_2_3 (broadcastInDim S32x4x8x32 ![0, 1, 2, 3] bcast_S1x4x1x32_S32x4x8x32_0_1_2_3 (select (cmpi .slt (res_main_v35 V0) (broadcastInDim S1x4x1x32 ![] bcast_S_S1x4x1x32 (constantI S_ 32 0#32))) (addi (res_main_v35 V0) (broadcastInDim S1x4x1x32 ![] bcast_S_S1x4x1x32 (constantI S_ 32 64#32))) (res_main_v35 V0))))⟩] concatenates_S32x4x8x32x1_S32x4x8x32x1_S32x4x8x32x2_d4))

/-- The probabilities. -/
def probs : FVec Ideal S8x4x32x4x16x8x32 .f32 := (shapeCast _ (Host.divf (res_main_v141 V0 : FVec Ideal S8x4x32x4x16x256 .f32) (broadcastInDim S8x4x32x4x16x256 ![0, 1, 2, 3, 4, 5] bcast_S8x4x32x4x16x1_S8x4x32x4x16x256_0_1_2_3_4_5 (broadcastInDim S8x4x32x4x16x1 ![0, 1, 2, 3, 4] bcast_S8x4x32x4x16_S8x4x32x4x16x1_0_1_2_3_4 (Host.reduceAdd (res_main_v141 V0) (constant S_ .f32 0x00000000#32) reducesTo_S8x4x32x4x16x256_S8x4x32x4x16_d5 h_S_)))) shapeCasts_S8x4x32x4x16x256_S8x4x32x4x16x8x32)

/-- The reference's result. -/
def res : FVec Ideal S16384x256 .f32 := shapeCast _ (shapeCast _ (transpose S8x32x64x4x64 [0, 2, 3, 1, 4] (shapeCast _ (Host.dotGeneral dot_S8x4x32x4x16x8x32_S8x4x32x4x8x32x64_S8x4x32x4x16x64_56_45_4_6_0123_0123 none (probs V0) (vals V0)) shapeCasts_S8x4x32x4x16x64_S8x4x32x64x64) transposes_S8x4x32x64x64_S8x32x64x4x64_0_2_3_1_4) shapeCasts_S8x32x64x4x64_S8x2048x256) shapeCasts_S8x2048x256_S16384x256

/-- The gathered values. -/
theorem vals_at (b : Fin 8) (h : Fin 4) (r : Fin 32) (cb : Fin 4) (k : Fin 8) (w : Fin 32) (d : Fin 64) :
    vals V0 (ix7 b h r cb k w d) = value (V0 (Proc.devRef .tc main_arg0)) b h r d k (kcol cb w) := by
  unfold vals
  clean_types
  pointwise [gk, row4, kc4]
  simp only [wr, wc]
  rfl

/-- The sum along the keys. -/
theorem total (z : FVec Ideal S8x4x32x4x16x256 .f32) (b : Fin 8) (h : Fin 4) (r : Fin 32) (cb : Fin 4) (q : Fin 16) :
    (Host.reduceAdd z (constant S_ .f32 0x00000000#32) reducesTo_S8x4x32x4x16x256_S8x4x32x4x16_d5 h_S_ : FVec Ideal S8x4x32x4x16 .f32) (ix5 b h r cb q)
      = ∑ k : Fin 256, (z (ix6 b h r cb q k) : EReal) := by
  refine (sums z _ b h r cb q).trans ?_
  rw [show (constant (F := Ideal) S_ FTy.f32 (0x00000000#32) (Shape.Idx.first h_S_)) = (0 : EReal) from by simp [constant, Ideal.ofBits, Ideal.ieee], zero_add]

/-- The sum of the exponentials. -/
theorem total_exp (b : Fin 8) (h : Fin 4) (r : Fin 32) (cb : Fin 4) (q : Fin 16) :
    (Host.reduceAdd (res_main_v141 V0 : FVec Ideal S8x4x32x4x16x256 .f32) (constant S_ .f32 0x00000000#32) reducesTo_S8x4x32x4x16x256_S8x4x32x4x16_d5 h_S_ : FVec Ideal S8x4x32x4x16 .f32) (ix5 b h r cb q)
      = mass (sc V0 b h r cb q) := by
  rw [total]
  simp only [t141]
  exact Equiv.sum_comp pair fun p => Ideal.exp (sc V0 b h r cb q p - top (sc V0 b h r cb q))

/-- The keys as rows and columns. -/
theorem spread7 (z : FVec Ideal S8x4x32x4x16x256 .f32) (b : Fin 8) (h : Fin 4) (r : Fin 32) (cb : Fin 4) (q : Fin 16) (k : Fin 8) (w : Fin 32) :
    (shapeCast S8x4x32x4x16x8x32 z shapeCasts_S8x4x32x4x16x256_S8x4x32x4x16x8x32 : FVec Ideal S8x4x32x4x16x8x32 .f32) (ix7 b h r cb q k w) = z (ix6 b h r cb q (pair.symm (k, w))) := by
  pointwise
  congr 1
  exact congrArg (ix6 b h r cb q) (Fin.ext (by show _ = w.val + 32 * k.val; simp; omega))

/-- The softmax. -/
theorem probs_at (b : Fin 8) (h : Fin 4) (r : Fin 32) (cb : Fin 4) (q : Fin 16) (k : Fin 8) (w : Fin 32) :
    probs V0 (ix7 b h r cb q k w) = Ideal.div (Ideal.exp (sc V0 b h r cb q (k, w) - top (sc V0 b h r cb q))) (mass (sc V0 b h r cb q)) := by
  refine (spread7 _ b h r cb q k w).trans ?_
  refine (congrArg (fun z : EReal => Ideal.div ((res_main_v141 V0 : FVec Ideal S8x4x32x4x16x256 .f32) (ix6 b h r cb q (pair.symm (k, w)))) z) (spread _ b h r cb q (pair.symm (k, w)))).trans ?_
  rw [total_exp, t141, Equiv.apply_symm_apply]

/-- The product with the values, a sum over the keys. -/
theorem outer (P : FVec Ideal S8x4x32x4x16x8x32 .f32) (W : FVec Ideal S8x4x32x4x8x32x64 .f32) (b : Fin 8) (h : Fin 4) (r : Fin 32) (cb : Fin 4) (q : Fin 16) (d : Fin 64) :
    (Host.dotGeneral dot_S8x4x32x4x16x8x32_S8x4x32x4x8x32x64_S8x4x32x4x16x64_56_45_4_6_0123_0123 none P W : FVec Ideal S8x4x32x4x16x64 .f32) (ix6 b h r cb q d) = ∑ k : Fin 8, ∑ w : Fin 32, (P (ix7 b h r cb q k w) * W (ix7 b h r cb k w d) : EReal) := by
  pointwise

/-- The result's layout. -/
theorem lay (z : FVec Ideal S8x4x32x4x16x64 .f32) (b : Fin 8) (h : Fin 4) (r : Fin 32) (cb : Fin 4) (q : Fin 16) (d : Fin 64) :
   (shapeCast S16384x256 (shapeCast S8x2048x256 (transpose S8x32x64x4x64 [0, 2, 3, 1, 4] (shapeCast S8x4x32x64x64 z shapeCasts_S8x4x32x4x16x64_S8x4x32x64x64) transposes_S8x4x32x64x64_S8x32x64x4x64_0_2_3_1_4) shapeCasts_S8x32x64x4x64_S8x2048x256) shapeCasts_S8x2048x256_S16384x256 : FVec Ideal S16384x256 .f32)
     (ix2 (tok b r (qcol cb q)) (⟨h.val * 64 + d.val, by omega⟩ : Fin 256)) = z (ix6 b h r cb q d) := by
  pointwise [tok, qcol]

/-- The reference at an index is the softmax-weighted sum over the keys the block reads. -/
theorem ref_eq (b : Fin 8) (h : Fin 4) (r : Fin 32) (cb : Fin 4) (q : Fin 16) (d : Fin 64) :
    res V0 (ix2 (tok b r (qcol cb q)) (⟨h.val * 64 + d.val, by omega⟩ : Fin 256))
      = soft (sc V0 b h r cb q) fun p => value (V0 (Proc.devRef .tc main_arg0)) b h r d p.1 (kcol cb p.2) := by
  refine (lay _ b h r cb q d).trans ((outer _ _ b h r cb q d).trans ?_)
  simp only [probs_at, vals_at]
  unfold soft
  rw [Fintype.sum_prod_type]

end Cert.ReferenceIdeal.Natten
end
-- ==== Proof.NattenPre.lean ====
/- What the precondition of neighborhood attention says: the queries, the keys and the relative bias are numbers. -/
module

public import proofs.«01_k».proof.Pre_scores_finite
public import proofs.«01_k».proof.Proof.NattenSame
public import Idealize.ShloMosaic.Lib.ReduceAll

@[expose] public section

set_option maxRecDepth 16384

noncomputable section

open Idealize.ShloMosaic

namespace Cert.Pre_scores_finite

open Cert.Natten

/-- The side conditions of the precondition's operations. -/
theorem facts : Facts := ⟨by decide, by decide, by decide, by decide, by decide, by decide⟩

/-- A value whose absolute value is less than plus infinity is a number. -/
theorem num_of_lt (x : EReal) (h : (FloatOps.cmpf .olt (FloatOps.absf (F := Ideal) (φ := .f32) x) (Ideal.ofBits .f32 0x7F800000#32) : BitVec 1) = 1#1) : Num x := by
  have e : Ideal.ofBits .f32 0x7F800000#32 = ⊤ := by simp [Ideal.ofBits, Ideal.ieee]
  rw [e] at h
  constructor
  · rintro rfl
    simp [FloatOps.cmpf, FloatOps.absf, Ideal.cmp] at h
  · rintro rfl
    simp [FloatOps.cmpf, FloatOps.absf, Ideal.cmp] at h

/-- The columns of the queries and the keys. -/
theorem cut_at (A : FVec Ideal S16384x3584 .f32) (t : Fin 16384) (n : Fin 512) :
    extractStridedSlice S16384x512 ![0, 2304] A facts.slices_S16384x3584_S16384x512_0_2304 (ix2 t n) = A (ix2 t (⟨2304 + n.val, by omega⟩ : Fin 3584)) := by
  pointwise

/-- The precondition, array by array. -/
theorem numbers (A : FVec Ideal S16384x3584 .f32) (B : FVec Ideal S4x15x31 .f32)
    (h : @fn facts Ideal _ A B = fun _ => 1#1) : Numbers A B := by
  have h0 := congrFun h (fun a => a.elim0)
  dsimp only [fn] at h0
  obtain ⟨h1, h2⟩ : _ = 1#1 ∧ _ = 1#1 := IntOp.andi_eq_one.1 h0
  have f1 := Host.reduce_andi_all _ _ _ _ _ h1
  have f2 := Host.reduce_andi_all _ _ _ _ _ h2
  refine ⟨fun t h d => ?_, fun t h d => ?_, fun h r n => ?_⟩
  · exact num_of_lt _ ((congrArg (fun z => FloatOps.cmpf .olt (FloatOps.absf (F := Ideal) (φ := .f32) z) (Ideal.ofBits .f32 0x7F800000#32)) (cut_at A t (⟨h.val * 64 + d.val, by omega⟩ : Fin 512))).symm.trans
      (f1 (ix2 t (⟨h.val * 64 + d.val, by omega⟩ : Fin 512))))
  · have e : A (ix2 t (⟨2304 + (256 + (h.val * 64 + d.val)), by omega⟩ : Fin 3584)) = A (ix2 t (col 2560 h d)) :=
      congrArg A (congrArg (ix2 t) (Fin.ext (by show 2304 + (256 + (h.val * 64 + d.val)) = 2560 + (h.val * 64 + d.val); omega)))
    rw [← e]
    exact num_of_lt _ ((congrArg (fun z => FloatOps.cmpf .olt (FloatOps.absf (F := Ideal) (φ := .f32) z) (Ideal.ofBits .f32 0x7F800000#32)) (cut_at A t (⟨256 + (h.val * 64 + d.val), by omega⟩ : Fin 512))).symm.trans
      (f1 (ix2 t (⟨256 + (h.val * 64 + d.val), by omega⟩ : Fin 512))))
  · exact num_of_lt _ (f2 (ix3 h r n))

end Cert.Pre_scores_finite
end
-- ==== Proof.OutMlp.lean ====
/- The value of the idealized output projection with its multilayer perceptron and the final norm, index by index. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.OutMlp

open Cert.Kernel2Ideal Cert.Kernel2Ideal.Gen

variable (m : (ℓ : Loc nD τ sig) → Buf (Elt Ideal) ℓ)

/-- The block of every window at every grid point. -/
theorem idx_val : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![3, 0, 0] ∧ win0_6.index t = ![0, 0] ∧ win0_7.index t = ![3, 0, 0]
    ∧ win0_8.index t = ![3, 0, 0] ∧ win0_9.index t = ![0, 0] ∧ win0_10.index t = ![t.val, 0] :=
  (by decide +kernel : ∀ t : Fin grid0.N, _)

/-- The root mean square norm of the row `f`, weighted by `g`, at place `k`. -/
def nrm (f g : Fin 1024 → EReal) (k : Fin 1024) : EReal :=
  f k * Ideal.rsqrt (Ideal.div (∑ l, f l * f l) (Ideal.ofBits FTy.f32 1149239296#32)
    + Ideal.ofBits FTy.f32 925353388#32) * g k

/-- Place `j` of the result of one perceptron unit `n`: the squared rectified product of the row `f` with column `n` of
    the first weight, times the second weight. -/
def unit {N : ℕ} (f : Fin 1024 → EReal) (w1 : Fin 1024 → Fin N → EReal) (w2 : Fin N → Fin 1024 → EReal) (j : Fin 1024)
    (n : Fin N) : EReal :=
  max (∑ k, f k * w1 k n) 0 * max (∑ k, f k * w1 k n) 0 * w2 n j

/-- A sum over `4 T` places in four parts. -/
theorem sum_four (T A B : ℕ) {N : ℕ} (hN : 4 * T = N) (hA : 2 * T = A) (hB : 3 * T = B) (f : Fin N → EReal) :
    ∑ n, f n = ∑ n : Fin T, f ⟨n.val, by omega⟩ + ∑ n : Fin T, f ⟨T + n.val, by omega⟩
      + ∑ n : Fin T, f ⟨A + n.val, by omega⟩ + ∑ n : Fin T, f ⟨B + n.val, by omega⟩ := by
  subst hA hB
  rw [Fin.sum_univ_tiles 4 T hN, Fin.sum_univ_four]
  refine congrArg₂ _ (congrArg₂ _ (congrArg₂ _ ?_ ?_) ?_) ?_ <;>
    exact Finset.sum_congr rfl fun n _ => congrArg f (Fin.ext (by simp))

/-! ## The reference -/

theorem ref_resid (a0 : FVec Ideal Cert.Reference2Ideal.S16384x1024 .f32)
    (a1 : FVec Ideal Cert.Reference2Ideal.S16384x256 .f32)
    (a2 : FVec Ideal Cert.Reference2Ideal.S16384x256 .f32)
    (a3 : FVec Ideal Cert.Reference2Ideal.S16384x256 .f32)
    (a4 : FVec Ideal Cert.Reference2Ideal.S16384x256 .f32)
    (a5 : FVec Ideal Cert.Reference2Ideal.S4x1024x1024 .f32) (r : Fin 16384) (j : Fin 1024) :
    Cert.Reference2Ideal.Read.val_main_v4 (F := Ideal) a0 a1 a2 a3 a4 a5 (ix2 r j) =
      a0 (ix2 r j) + ∑ x, a1 (ix2 r x) * a5 (ix3 3 ⟨x.val, by omega⟩ j)
        + ∑ x, a2 (ix2 r x) * a5 (ix3 3 ⟨256 + x.val, by omega⟩ j)
        + ∑ x, a3 (ix2 r x) * a5 (ix3 3 ⟨512 + x.val, by omega⟩ j)
        + ∑ x, a4 (ix2 r x) * a5 (ix3 3 ⟨768 + x.val, by omega⟩ j) := by
  pointwise [Cert.Reference2Ideal.Read.val_main_v0, Cert.Reference2Ideal.Read.val_main_v1, Cert.Reference2Ideal.Read.val_main_v2, Cert.Reference2Ideal.Read.val_main_v3, Cert.Reference2Ideal.Read.val_main_v4]
  rw [sum_four 256 512 768 rfl rfl rfl]
  simp only [add_assoc]
  have h1 : ∀ x : Fin 256, ¬ 256 + x.val < 256 := fun x => by omega
  have h2 : ∀ x : Fin 256, ¬ 512 + x.val < 256 ∧ ¬ 512 + x.val - 256 < 256 := fun x => by omega
  have h3 : ∀ x : Fin 256, ¬ 768 + x.val < 256 ∧ ¬ 768 + x.val - 256 < 256 ∧ ¬ 768 + x.val - 256 - 256 < 256 :=
    fun x => by omega
  have g1 : ∀ x : Fin 256, 256 + x.val - 256 = x.val := fun x => by omega
  have g2 : ∀ x : Fin 256, 512 + x.val - 256 - 256 = x.val := fun x => by omega
  have g3 : ∀ x : Fin 256, 768 + x.val - 256 - 256 - 256 = x.val := fun x => by omega
  simp only [dif_pos (Fin.isLt _), h1, h2, h3, g1, g2, g3, dif_neg, not_false_eq_true, Fin.eta, Fin.is_lt, dite_true, dite_false]

theorem ref_norm (a0 : FVec Ideal Cert.Reference2Ideal.S16384x1024 .f32)
    (a1 : FVec Ideal Cert.Reference2Ideal.S16384x256 .f32)
    (a2 : FVec Ideal Cert.Reference2Ideal.S16384x256 .f32)
    (a3 : FVec Ideal Cert.Reference2Ideal.S16384x256 .f32)
    (a4 : FVec Ideal Cert.Reference2Ideal.S16384x256 .f32)
    (a5 : FVec Ideal Cert.Reference2Ideal.S4x1024x1024 .f32)
    (a6 : FVec Ideal Cert.Reference2Ideal.S4x1024 .f32) (r : Fin 16384) (j : Fin 1024) :
    Cert.Reference2Ideal.Read.val_main_v19 (F := Ideal) a0 a1 a2 a3 a4 a5 a6 (ix2 r j) =
      nrm (fun k => Cert.Reference2Ideal.Read.val_main_v4 (F := Ideal) a0 a1 a2 a3 a4 a5 (ix2 r k)) (fun k => a6 (ix2 3 k)) j := by
  pointwise [nrm, Cert.Reference2Ideal.Read.val_main_v5, Cert.Reference2Ideal.Read.val_main_v6, Cert.Reference2Ideal.Read.val_main_v7, Cert.Reference2Ideal.Read.val_main_cst, Cert.Reference2Ideal.Read.val_main_v8, Cert.Reference2Ideal.Read.val_main_v9, Cert.Reference2Ideal.Read.val_main_cst_0, Cert.Reference2Ideal.Read.val_main_v10, Cert.Reference2Ideal.Read.val_main_v11, Cert.Reference2Ideal.Read.val_main_cst_1, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19]

theorem ref_mlp (a0 : FVec Ideal Cert.Reference2Ideal.S16384x1024 .f32)
    (a1 : FVec Ideal Cert.Reference2Ideal.S16384x256 .f32)
    (a2 : FVec Ideal Cert.Reference2Ideal.S16384x256 .f32)
    (a3 : FVec Ideal Cert.Reference2Ideal.S16384x256 .f32)
    (a4 : FVec Ideal Cert.Reference2Ideal.S16384x256 .f32)
    (a5 : FVec Ideal Cert.Reference2Ideal.S4x1024x1024 .f32)
    (a6 : FVec Ideal Cert.Reference2Ideal.S4x1024 .f32)
    (a7 : FVec Ideal Cert.Reference2Ideal.S4x1024x4096 .f32)
    (a8 : FVec Ideal Cert.Reference2Ideal.S4x4096x1024 .f32) (r : Fin 16384) (j : Fin 1024) :
    Cert.Reference2Ideal.Read.val_main_v28 (F := Ideal) a0 a1 a2 a3 a4 a5 a6 a7 a8 (ix2 r j) =
      Cert.Reference2Ideal.Read.val_main_v4 (F := Ideal) a0 a1 a2 a3 a4 a5 (ix2 r j)
      + ∑ n, unit (fun k => Cert.Reference2Ideal.Read.val_main_v19 (F := Ideal) a0 a1 a2 a3 a4 a5 a6 (ix2 r k))
          (fun k n => a7 (ix3 3 k n)) (fun n j => a8 (ix3 3 n j)) j n := by
  pointwise [unit, Cert.Reference2Ideal.Read.val_main_v20, Cert.Reference2Ideal.Read.val_main_v21, Cert.Reference2Ideal.Read.val_main_v22, Cert.Reference2Ideal.Read.val_main_call0_cst, Cert.Reference2Ideal.Read.val_main_call0_v0, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28]

theorem ref_final (a0 : FVec Ideal Cert.Reference2Ideal.S16384x1024 .f32)
    (a1 : FVec Ideal Cert.Reference2Ideal.S16384x256 .f32)
    (a2 : FVec Ideal Cert.Reference2Ideal.S16384x256 .f32)
    (a3 : FVec Ideal Cert.Reference2Ideal.S16384x256 .f32)
    (a4 : FVec Ideal Cert.Reference2Ideal.S16384x256 .f32)
    (a5 : FVec Ideal Cert.Reference2Ideal.S4x1024x1024 .f32)
    (a6 : FVec Ideal Cert.Reference2Ideal.S4x1024 .f32)
    (a7 : FVec Ideal Cert.Reference2Ideal.S4x1024x4096 .f32)
    (a8 : FVec Ideal Cert.Reference2Ideal.S4x4096x1024 .f32)
    (a9 : FVec Ideal Cert.Reference2Ideal.S1024 .f32) (r : Fin 16384) (j : Fin 1024) :
    Cert.Reference2Ideal.Read.val_main_v41 (F := Ideal) a0 a1 a2 a3 a4 a5 a6 a7 a8 a9 (ix2 r j) =
      nrm (fun k => Cert.Reference2Ideal.Read.val_main_v28 (F := Ideal) a0 a1 a2 a3 a4 a5 a6 a7 a8 (ix2 r k))
        (fun k => a9 (ix1 k)) j := by
  pointwise [nrm, Cert.Reference2Ideal.Read.val_main_v29, Cert.Reference2Ideal.Read.val_main_cst_2, Cert.Reference2Ideal.Read.val_main_v30, Cert.Reference2Ideal.Read.val_main_v31, Cert.Reference2Ideal.Read.val_main_cst_3, Cert.Reference2Ideal.Read.val_main_v32, Cert.Reference2Ideal.Read.val_main_v33, Cert.Reference2Ideal.Read.val_main_cst_4, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_v39, Cert.Reference2Ideal.Read.val_main_v40, Cert.Reference2Ideal.Read.val_main_v41]

/-! ## The kernel's stored values -/

theorem pay_norm (v24 : FVec Ideal S1024x1024 .f32) (v26 : FVec Ideal S1x1024 .f32) (v29 : FVec Ideal S1024x1 .f32)
    (h : ∀ r, v29 (ix2 r 0) = ∑ l, v24 (ix2 r l) * v24 (ix2 r l)) (r k : Fin 1024) :
    k0_pay6 v24 (k0_pay4 v26) v29 (ix2 r k) = nrm (fun l => v24 (ix2 r l)) (fun l => v26 (ix2 0 l)) k := by
  pointwise [k0_pay6, k0_pay4]
  rw [h, nrm]

theorem pay_sq (v0 : Vec Ideal S1024x1024 .f32) (v1 : Vec Ideal S1024x256 .f32) (v3 : Vec Ideal S1x256x1024 .bf16)
    (v7 : Vec Ideal S1024x256 .f32) (v9 : Vec Ideal S1x256x1024 .bf16) (v13 : Vec Ideal S1024x256 .f32)
    (v15 : Vec Ideal S1x256x1024 .bf16) (v19 : Vec Ideal S1024x256 .f32) (v21 : Vec Ideal S1x256x1024 .bf16) (r : Fin 1024) :
    k0_pay5 v0 v1 v3 v7 v9 v13 v15 v19 v21 (ix2 r 0)
      = ∑ l, k0_pay3 v0 v1 v3 v7 v9 v13 v15 v19 v21 (ix2 r l) * k0_pay3 v0 v1 v3 v7 v9 v13 v15 v19 v21 (ix2 r l) := by
  pointwise [k0_pay5]

theorem pay_chunk (v89 : Vec Ideal S1024x1024 .bf16) (v90 : Vec Ideal S1x1024x1024 .bf16) (v96 : Vec Ideal S1024x1024 .f32)
    (v99 : Vec Ideal S1x1024x1024 .bf16) (r j : Fin 1024) :
    k0_pay1 v89 v90 v96 v99 (ix2 r j) = v96 (ix2 r j)
      + ∑ n, unit (fun k => v89 (ix2 r k)) (fun k n => v90 (ix3 0 k n)) (fun n j => v99 (ix3 0 n j)) j n := by
  pointwise [k0_pay1, unit]

theorem pay_final (v104 : Vec Ideal S1024x1024 .f32) (v106 : Vec Ideal S1x1024 .f32) (r j : Fin 1024) :
    k0_pay2 v104 v106 (ix2 r j) = nrm (fun k => v104 (ix2 r k)) (fun k => v106 (ix2 0 k)) j := by
  pointwise [k0_pay2, nrm]

theorem pay7_eq : k0_pay7 (F := Ideal) = k0_pay1 := rfl
theorem pay8_eq : k0_pay8 (F := Ideal) = k0_pay1 := rfl
theorem pay9_eq : k0_pay9 (F := Ideal) = k0_pay1 := rfl

/-! ## What the windows hold -/

section Blocks

variable (c : Dev nD) (t : Fin cfg0.N)

/-- The array's row that row `r` of block `t` sits at. -/
def row (t : Fin cfg0.N) (r : Fin 1024) : Fin 16384 := ⟨1024 * t.val + r.val, by have : t.val < 16 := t.isLt; omega⟩

theorem blk0 (r k : Fin 1024) : iblk m c 0 t (ix2 r k) = m ((c : Thread nD τ).loc main_arg0) (ix2 (row t r) k) := by
  blk_ext [iblk, V, idx_val t, row]
theorem blk1 (r : Fin 1024) (k : Fin 256) : iblk m c 1 t (ix2 r k) = m ((c : Thread nD τ).loc main_arg1) (ix2 (row t r) k) := by
  blk_ext [iblk, V, idx_val t, row]
theorem blk2 (r : Fin 1024) (k : Fin 256) : iblk m c 2 t (ix2 r k) = m ((c : Thread nD τ).loc main_arg2) (ix2 (row t r) k) := by
  blk_ext [iblk, V, idx_val t, row]
theorem blk3 (r : Fin 1024) (k : Fin 256) : iblk m c 3 t (ix2 r k) = m ((c : Thread nD τ).loc main_arg3) (ix2 (row t r) k) := by
  blk_ext [iblk, V, idx_val t, row]
theorem blk4 (r : Fin 1024) (k : Fin 256) : iblk m c 4 t (ix2 r k) = m ((c : Thread nD τ).loc main_arg4) (ix2 (row t r) k) := by
  blk_ext [iblk, V, idx_val t, row]
theorem blk5 (k j : Fin 1024) : iblk m c 5 t (ix3 0 k j) = m ((c : Thread nD τ).loc main_arg5) (ix3 3 k j) := by
  have h : iblk m c 5 t (ix3 0 k j) = V m c main_v0 (ix3 (⟨3, by omega⟩ : Fin 4) k j) := by blk_ext [iblk, idx_val t]
  rw [h]; entry_read; pointwise
theorem blk6 (k : Fin 1024) : iblk m c 6 t (ix2 0 k) = m ((c : Thread nD τ).loc main_arg6) (ix2 3 k) := by
  have h : iblk m c 6 t (ix2 0 k) = V m c main_v5 (ix2 (⟨0, by omega⟩ : Fin 1) k) := by blk_ext [iblk, idx_val t]
  rw [h]; entry_read; pointwise
theorem blk7 (k : Fin 1024) (n : Fin 4096) : iblk m c 7 t (ix3 0 k n) = m ((c : Thread nD τ).loc main_arg7) (ix3 3 k n) := by
  have h : iblk m c 7 t (ix3 0 k n) = V m c main_v1 (ix3 (⟨3, by omega⟩ : Fin 4) k n) := by blk_ext [iblk, idx_val t]
  rw [h]; entry_read; pointwise
theorem blk8 (n : Fin 4096) (j : Fin 1024) : iblk m c 8 t (ix3 0 n j) = m ((c : Thread nD τ).loc main_arg8) (ix3 3 n j) := by
  have h : iblk m c 8 t (ix3 0 n j) = V m c main_v2 (ix3 (⟨3, by omega⟩ : Fin 4) n j) := by blk_ext [iblk, idx_val t]
  rw [h]; entry_read; pointwise
theorem blk9 (k : Fin 1024) : iblk m c 9 t (ix2 0 k) = m ((c : Thread nD τ).loc main_arg9) (ix1 k) := by
  have h : iblk m c 9 t (ix2 0 k) = V m c main_v6 (ix2 (⟨0, by omega⟩ : Fin 1) k) := by blk_ext [iblk, idx_val t]
  rw [h]; entry_read; pointwise

end Blocks

theorem final (c : Dev nD) : (dats m 0 c).arrAt 10 (cfgs 0).N
    = Cert.Reference2Ideal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]; unfold outsAt0; frame_out
  obtain ⟨r, j, rfl⟩ : ∃ (r j : Fin 1024), y = ix2 r j := ⟨y 0, y 1, eq_ix2 y⟩
  have hy : ((View.whole main_v7).slice (win0_10.rect t)).emb (ix2 r j) = ix2 (row t r) j := by blk_ext [idx_val t, row]
  rw [hy, ref_final, pay_final]
  have e3 : ∀ r j : Fin 1024, k0_pay3 (iblk m c 0 t) (iblk m c 1 t)
      (View.ld (iblk m c 5 t) (Rect.unit ![0, 0, 0] ![1, 256, 1024] inb_S1x1024x1024_S1x256x1024_0_0_0)) (iblk m c 2 t)
      (View.ld (iblk m c 5 t) (Rect.unit ![0, 256, 0] ![1, 256, 1024] inb_S1x1024x1024_S1x256x1024_0_256_0)) (iblk m c 3 t)
      (View.ld (iblk m c 5 t) (Rect.unit ![0, 512, 0] ![1, 256, 1024] inb_S1x1024x1024_S1x256x1024_0_512_0)) (iblk m c 4 t)
      (View.ld (iblk m c 5 t) (Rect.unit ![0, 768, 0] ![1, 256, 1024] inb_S1x1024x1024_S1x256x1024_0_768_0)) (ix2 r j)
      = Cert.Reference2Ideal.Read.val_main_v4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) j) := by
    intro r j
    rw [ref_resid]
    pointwise [k0_pay3]
    simp only [blk0, blk1, blk2, blk3, blk4, blk5]
  have e5 := fun r => pay_sq (iblk m c 0 t) (iblk m c 1 t)
      (View.ld (iblk m c 5 t) (Rect.unit ![0, 0, 0] ![1, 256, 1024] inb_S1x1024x1024_S1x256x1024_0_0_0)) (iblk m c 2 t)
      (View.ld (iblk m c 5 t) (Rect.unit ![0, 256, 0] ![1, 256, 1024] inb_S1x1024x1024_S1x256x1024_0_256_0)) (iblk m c 3 t)
      (View.ld (iblk m c 5 t) (Rect.unit ![0, 512, 0] ![1, 256, 1024] inb_S1x1024x1024_S1x256x1024_0_512_0)) (iblk m c 4 t)
      (View.ld (iblk m c 5 t) (Rect.unit ![0, 768, 0] ![1, 256, 1024] inb_S1x1024x1024_S1x256x1024_0_768_0)) r
  generalize k0_pay3 (iblk m c 0 t) _ _ _ _ _ _ _ _ = X3 at e3 e5 ⊢
  generalize k0_pay5 (iblk m c 0 t) _ _ _ _ _ _ _ _ = X5 at e5 ⊢
  have e6 : ∀ r k : Fin 1024, k0_pay6 X3 (k0_pay4 (iblk m c 6 t)) X5 (ix2 r k)
      = Cert.Reference2Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k) := by
    intro r k
    rw [pay_norm _ _ _ e5, ref_norm]
    simp only [e3, blk6]
  generalize k0_pay6 X3 _ X5 = X6 at e6 ⊢
  simp only [blk9]
  refine congrArg (fun f => nrm f _ j) (funext fun k => ?_)
  rw [ref_mlp, sum_four 1024 2048 3072 rfl rfl rfl, pay9_eq, pay8_eq, pay7_eq, pay_chunk, pay_chunk, pay_chunk, pay_chunk]
  simp only [unit, e3, e6, add_assoc]
  pointwise
  simp only [blk7, blk8]

end Cert.Kernel2Ideal.OutMlp

end
-- ==== Proof.InProj.lean ====
/- The value of the idealized input projection: what the array of results holds after the run, index by index. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.InProj

open Cert.Kernel3Ideal Cert.Kernel3Ideal.Gen

variable (m : (ℓ : Loc nD τ sig) → Buf (Elt Ideal) ℓ)

/-- The block of every window at every grid point. -/
theorem idx_val : ∀ t : Fin cfg0.N, win0_0.index t = ![t.val, 0] ∧ win0_1.index t = ![0, 0]
    ∧ win0_2.index t = ![0, 0, 0] ∧ win0_3.index t = ![t.val, 0] :=
  (by decide +kernel : ∀ t : Fin grid0.N, _)

/-- Row `r` of the normalized input, weighted: the root mean square norm at place `k`. -/
def normed (a0 : FVec Ideal Cert.Reference3Ideal.S16384x1024 .f32) (a1 : FVec Ideal Cert.Reference3Ideal.S4x1024 .f32)
    (r : Fin 16384) (k : Fin 1024) : EReal :=
  a0 (ix2 r k) * Ideal.rsqrt (Ideal.div (∑ l, a0 (ix2 r l) * a0 (ix2 r l)) (Ideal.ofBits FTy.f32 1149239296#32)
    + Ideal.ofBits FTy.f32 925353388#32) * a1 (ix2 0 k)

/-- The packed weight of layer 0: its columns in their new order, 120 columns of zeros between. -/
def packed (a2 : FVec Ideal Cert.Reference3Ideal.S4x1024x3464 .f32) (k : Fin 1024) (n : Fin 3584) : EReal :=
  if h : n.val < 2184 then a2 (ix3 0 k ⟨n.val, by omega⟩)
  else if n.val - 2184 < 120 then 0
  else if h : n.val - 2184 - 120 < 768 then a2 (ix3 0 k ⟨2696 + (n.val - 2184 - 120), by omega⟩)
  else a2 (ix3 0 k ⟨2184 + (n.val - 2184 - 120 - 768), by have := n.isLt; omega⟩)

/-- The reference at an index is the product of the normalized row with one packed column. -/
theorem ref_eq (a0 : FVec Ideal Cert.Reference3Ideal.S16384x1024 .f32) (a1 : FVec Ideal Cert.Reference3Ideal.S4x1024 .f32)
    (a2 : FVec Ideal Cert.Reference3Ideal.S4x1024x3464 .f32) (r : Fin 16384) (n : Fin 3584) :
    Cert.Reference3Ideal.Read.val_main_v22 (F := Ideal) a0 a1 a2 (ix2 r n) = ∑ k, normed a0 a1 r k * packed a2 k n := by
  pointwise [Cert.Reference3Ideal.Read.val_main_v22, Cert.Reference3Ideal.Read.val_main_v18, Cert.Reference3Ideal.Read.val_main_v19, Cert.Reference3Ideal.Read.val_main_v20, Cert.Reference3Ideal.Read.val_main_v21, Cert.Reference3Ideal.Read.val_main_v17, Cert.Reference3Ideal.Read.val_main_v14, Cert.Reference3Ideal.Read.val_main_v16, Cert.Reference3Ideal.Read.val_main_v15, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1, Cert.Reference3Ideal.Read.val_main_cst_2]
  unfold packed
  by_cases h1 : n.val < 2184
  · simp only [dif_pos h1, normed]
  by_cases h2 : n.val - 2184 < 120
  · simp only [dif_neg h1, dif_pos h2, if_pos h2, mul_zero, Finset.sum_const_zero]
  by_cases h3 : n.val - 2184 - 120 < 768
  · simp only [dif_neg h1, dif_neg h2, dif_pos h3, if_neg h2, normed]
  · simp only [dif_neg h1, dif_neg h2, dif_neg h3, if_neg h2, normed]

/-- The packed weight as the host line computes it. -/
theorem entry_weight (c : Dev nD) : V m c main_v8 = truncf .bf16 (concatenate S4x1024x3584 2
    [⟨S4x1024x2184, extractStridedSlice S4x1024x2184 ![0, 0, 0] (m ((c : Thread nD τ).loc main_arg2)) slices_S4x1024x3464_S4x1024x2184_0_0_0⟩,
      ⟨S4x1024x120, broadcastInDim S4x1024x120 ![] bcast_S_S4x1024x120 (constant (F := Ideal) S_ .f32 0x00000000#32)⟩,
      ⟨S4x1024x768, extractStridedSlice S4x1024x768 ![0, 0, 2696] (m ((c : Thread nD τ).loc main_arg2)) slices_S4x1024x3464_S4x1024x768_0_0_2696⟩,
      ⟨S4x1024x512, extractStridedSlice S4x1024x512 ![0, 0, 2184] (m ((c : Thread nD τ).loc main_arg2)) slices_S4x1024x3464_S4x1024x512_0_0_2184⟩]
    concatenates_S4x1024x2184_S4x1024x120_S4x1024x768_S4x1024x512_S4x1024x3584_d2 : FVec Ideal S4x1024x3584 .f32) bitsLt_bf16_f32 := by
  unfold V
  open Idealize.ShloMosaic.StableHlo in after_results
  rfl

/-- The packed weight as the host lays it out is what the kernel's third window holds. -/
theorem weight_eq (c : Dev nD) (t : Fin cfg0.N) (k : Fin 1024) (n : Fin 3584) :
    iblk m c 2 t (ix3 0 k n) = packed (m ((c : Thread nD τ).loc main_arg2)) k n := by
  have h : iblk m c 2 t (ix3 0 k n) = V m c main_v8 (ix3 (⟨0, by omega⟩ : Fin 4) k n) := by
    blk_ext [iblk, idx_val t]
  rw [h, entry_weight]
  pointwise
  unfold packed
  split_ifs <;> rfl

theorem final (c : Dev nD) : (dats m 0 c).arrAt 3 (cfgs 0).N
    = Cert.Reference3Ideal.Read.val_main_v22 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]; unfold outsAt0; frame_out
  have ht : t.val < 16 := t.isLt
  have e0 : ∀ (r : Fin 1024) k, iblk m c 0 t (ix2 r k) = m ((c : Thread nD τ).loc main_arg0)
      (ix2 (⟨1024 * t.val + r.val, by omega⟩ : Fin 16384) k) := fun r k => by blk_ext [iblk, V, idx_val t]
  have e1 : ∀ k, iblk m c 1 t (ix2 0 k) = m ((c : Thread nD τ).loc main_arg1) (ix2 0 k) := fun k => by
    unfold iblk
    entry_read
    blk_simp [(idx_val t).2.1]
    pointwise
    blk_ext [idx_val t]
  have hy : ((View.whole main_v9).slice (win0_3.rect t)).emb y
      = ix2 (⟨1024 * t.val + (y 0).val, by have : (y 0).val < 1024 := (y 0).isLt; omega⟩ : Fin 16384) (⟨(y 1).val, (y 1).isLt⟩ : Fin 3584) := by
    blk_ext [idx_val t]
  rw [hy, ref_eq]
  canon_tiles x h
  all_goals idx_vars x
  all_goals pointwise [k0_pay1, k0_pay2, k0_pay4, k0_pay5, k0_pay3]
  all_goals
    refine Finset.sum_congr rfl fun k _ => ?_
    simp only [e0, e1, weight_eq, normed, h0]
    exact congrArg _ (congrArg (packed _ k) (Fin.ext h1.symm))

end Cert.Kernel3Ideal.InProj

end
-- ==== Proof.lean ====
module

public import proofs.«01_k».proof.Defs
public import proofs.«01_k».proof.Proof.LruQuiet
public import proofs.«01_k».proof.Proof.LruVal
public import proofs.«01_k».proof.Proof.Gen.Reference4Ideal.Run
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Natten
public import proofs.«01_k».proof.Proof.NattenRef
public import proofs.«01_k».proof.Proof.NattenPre
public import proofs.«01_k».proof.Proof.OutMlp
public import proofs.«01_k».proof.Proof.InProj
public import Idealize.ShloMosaic.Lib.Claim
public import Idealize.ShloMosaic.Adequacy
public import Idealize.ShloMosaic.Init

@[expose] public section

noncomputable section

namespace Cert.Proof

open Idealize.ShloMosaic Idealize.SL.Sem Cert.Kernel

/-! ## The references end with their arguments unchanged -/

theorem quiet_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

theorem quiet_reference2 : Cert.quiescent_Reference2Ideal (hReference2Ideal := Cert.Reference2Ideal.Gen.facts) := fun m g _ =>
  (θ_run _ _ _).mono (fun r h => ⟨fun c => (h c).2, sem_eq_zero_of_no_sems (by decide) r.2⟩)
    (Cert.Reference2Ideal.Value.run m g)

theorem quiet_reference3 : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run m g)

theorem quiet_reference4 : Cert.quiescent_Reference4Ideal (hReference4Ideal := Cert.Reference4Ideal.Gen.facts) := fun m g _ =>
  (θ_run _ _ _).mono (fun r h => ⟨fun c => (h c).2, sem_eq_zero_of_no_sems (by decide) r.2⟩)
    (Cert.Reference4Ideal.Value.run m g)

/-! ## The kernels' results are the references' -/

/-- The output projection, its perceptron and the final norm. -/
theorem value2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    obtain ⟨h0, h1, h2, h3, h4, h5, h6, h7, h8, h9⟩ := hagree c
    rw [Cert.Reference2Ideal.Read.val_main_v41_eq, h0, h1, h2, h3, h4, h5, h6, h7, h8, h9]
    exact (Cert.Kernel2Ideal.OutMlp.final m c).symm

/-- Neighborhood attention. -/
theorem value1 : Cert.algebraic_KernelIdeal_ReferenceIdeal_pre_scores_finite (hKernelIdeal := Cert.KernelIdeal.Gen.facts)
    (hReferenceIdeal := Cert.ReferenceIdeal.Gen.facts) (hPre_scores_finite := Cert.Pre_scores_finite.facts) := by
  pair_intro
  · run_from Cert.KernelIdeal.Gen.run_main m g
    exact Cert.KernelIdeal.Gen.V_main_arg1 m c
  · run_from Cert.ReferenceIdeal.Value.run m' g'
    obtain ⟨h0, h1⟩ := hagree c
    refine Eq.trans ?_ (Cert.KernelIdeal.Natten.final m c (Cert.Pre_scores_finite.numbers _ _ (hpre c))
      (Cert.ReferenceIdeal.Natten.res (StableHlo.launchContents m' c)) fun b h r cb q d => ?_).symm
    · rw [← h0]; rfl
    · refine (Cert.ReferenceIdeal.Natten.ref_eq (StableHlo.launchContents m' c) b h r cb q d).trans ?_
      rw [← h0, ← h1]; rfl

/-- The norm with the input projection. -/
theorem value3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    refine Eq.trans ?_ (Cert.Kernel3Ideal.InProj.final m c).symm
    rw [← Cert.Reference3Ideal.Read.val_main_v22_eq, (hagree c).2.2]

/-- The recurrence. -/
theorem value4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    obtain ⟨h0, h1, h2, h3, h4, h5, h6, h7⟩ := hagree c
    exact (Cert.Kernel4Ideal.Lru.final m c (StableHlo.launchContents m' c) h0 h1 h2 h3 h4 h5 h6 h7).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Pre_scores_finite.facts,
  fun m ρ _ => Cert.Kernel.Gen.frame m ρ, fun m ρ _ => Cert.KernelIdeal.Gen.frame m ρ,
  fun m ρ _ => Cert.KernelIdeal.Gen.frame m ρ, quiet_reference, fun m g _ => quiet_reference m g trivial,
  fun m ρ _ => Cert.Kernel2.Gen.frame m ρ, fun m ρ _ => Cert.Kernel2Ideal.Gen.frame m ρ, quiet_reference2,
  fun m ρ _ => Cert.Kernel3.Gen.frame m ρ, fun m ρ _ => Cert.Kernel3Ideal.Gen.frame m ρ, quiet_reference3,
  quiet_kernel4, fun m ρ _ => Cert.Kernel4Ideal.Gen.frame m ρ, quiet_reference4,
  trivial, value1, trivial, value2, trivial, value3, trivial, value4⟩

end Cert.Proof

end
